-- ==== Defs.lean ====
def Pre_Moe [hPre_pages_ok : Cert.Pre_pages_ok.Facts] (m : (ℓ : Loc Cert.Moe.nD Cert.Moe.τ Cert.Moe.sig) → Buf (Elt Bits) ℓ) : Prop :=
  ∀ c : Dev Cert.Moe.nD,
    (Cert.Pre_pages_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))) = (fun _ => 1#1)

def Pre_MoeIdeal [hPre_pages_ok : Cert.Pre_pages_ok.Facts] (m : (ℓ : Loc Cert.MoeIdeal.nD Cert.MoeIdeal.τ Cert.MoeIdeal.sig) → Buf (Elt Ideal) ℓ) : Prop :=
  ∀ c : Dev Cert.MoeIdeal.nD,
    (Cert.Pre_pages_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeIdeal_keys_ok [hPre_keys_ok : Cert.Pre_keys_ok.Facts] (m : (ℓ : Loc Cert.MoeIdeal.nD Cert.MoeIdeal.τ Cert.MoeIdeal.sig) → Buf (Elt Ideal) ℓ) : Prop :=
  ∀ c : Dev Cert.MoeIdeal.nD,
    (Cert.Pre_keys_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_keys_ok [hPre_keys_ok : Cert.Pre_keys_ok.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_keys_ok.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Ins (m : (ℓ : Loc Cert.Ins.nD Cert.Ins.τ Cert.Ins.sig) → Buf (Elt Bits) ℓ) : Prop :=
  True

def Pre_InsIdeal (m : (ℓ : Loc Cert.InsIdeal.nD Cert.InsIdeal.τ Cert.InsIdeal.sig) → Buf (Elt Ideal) ℓ) : Prop :=
  True

def Pre_InsIdeal_proj_ok [hPre_proj_ok : Cert.Pre_proj_ok.Facts] (m : (ℓ : Loc Cert.InsIdeal.nD Cert.InsIdeal.τ Cert.InsIdeal.sig) → Buf (Elt Ideal) ℓ) : Prop :=
  ∀ c : Dev Cert.InsIdeal.nD,
    (Cert.Pre_proj_ok.fn (F := Ideal) (m ((c.tc : Thread Cert.InsIdeal.nD Cert.InsIdeal.τ).loc Cert.InsIdeal.main_arg0)) (m ((c.tc : Thread Cert.InsIdeal.nD Cert.InsIdeal.τ).loc Cert.InsIdeal.main_arg1)) (m ((c.tc : Thread Cert.InsIdeal.nD Cert.InsIdeal.τ).loc Cert.InsIdeal.main_arg2))) = (fun _ => 1#1)

def Pre_InsRefIdeal (m : (ℓ : Loc Cert.InsRefIdeal.nD Cert.InsRefIdeal.τ Cert.InsRefIdeal.sig) → Buf (Elt Ideal) ℓ) : Prop :=
  True

def Pre_InsRefIdeal_proj_ok [hPre_proj_ok : Cert.Pre_proj_ok.Facts] (m : (ℓ : Loc Cert.InsRefIdeal.nD Cert.InsRefIdeal.τ Cert.InsRefIdeal.sig) → Buf (Elt Ideal) ℓ) : Prop :=
  ∀ c : Dev Cert.InsRefIdeal.nD,
    (Cert.Pre_proj_ok.fn (F := Ideal) (m ((c.tc : Thread Cert.InsRefIdeal.nD Cert.InsRefIdeal.τ).loc Cert.InsRefIdeal.main_arg0)) (m ((c.tc : Thread Cert.InsRefIdeal.nD Cert.InsRefIdeal.τ).loc Cert.InsRefIdeal.main_arg1)) (m ((c.tc : Thread Cert.InsRefIdeal.nD Cert.InsRefIdeal.τ).loc Cert.InsRefIdeal.main_arg2))) = (fun _ => 1#1)

def Pre_Mos (m : (ℓ : Loc Cert.Mos.nD Cert.Mos.τ Cert.Mos.sig) → Buf (Elt Bits) ℓ) : Prop :=
  True

def Pre_MosIdeal (m : (ℓ : Loc Cert.MosIdeal.nD Cert.MosIdeal.τ Cert.MosIdeal.sig) → Buf (Elt Ideal) ℓ) : Prop :=
  True

def Pre_MosRefIdeal (m : (ℓ : Loc Cert.MosRefIdeal.nD Cert.MosRefIdeal.τ Cert.MosRefIdeal.sig) → Buf (Elt Ideal) ℓ) : Prop :=
  True

def quiescent_Moe [hMoe : Cert.Moe.Facts] [hPre_pages_ok : Cert.Pre_pages_ok.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] [hPre_pages_ok : Cert.Pre_pages_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_keys_ok [hMoeIdeal : Cert.MoeIdeal.Facts] [hPre_keys_ok : Cert.Pre_keys_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_keys_ok m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_MoeRefIdeal_pre_keys_ok [hMoeRefIdeal : Cert.MoeRefIdeal.Facts] [hPre_keys_ok : Cert.Pre_keys_ok.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_keys_ok m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2)
      ∧ r.2.mem ((c.tc : Thread Cert.Mkv.nD Cert.Mkv.τ).loc Cert.Mkv.main_arg3) = m ((c.tc : Thread Cert.Mkv.nD Cert.Mkv.τ).loc Cert.Mkv.main_arg3))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
      ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2)
      ∧ r.2.mem ((c.tc : Thread Cert.MkvRefIdeal.nD Cert.MkvRefIdeal.τ).loc Cert.MkvRefIdeal.main_arg3) = m ((c.tc : Thread Cert.MkvRefIdeal.nD Cert.MkvRefIdeal.τ).loc Cert.MkvRefIdeal.main_arg3))
      ∧ r.2.sem = fun _ => 0)

def quiescent_Ins [hIns : Cert.Ins.Facts] : Prop :=
  ∀ (m : (ℓ : Loc Cert.Ins.nD Cert.Ins.τ Cert.Ins.sig) → Buf (Elt Bits) ℓ) (g : Dev Cert.Ins.nD → PrngReg), Pre_Ins m →
    θ_run (Cert.Ins.defs (F := Bits)) (onTc (τ := Cert.Ins.τ) (Cert.Ins.main (F := Bits))) ⟨m, fun _ => 0, g⟩ (fun r => (∀ c : Dev Cert.Ins.nD,
      r.2.mem ((c.tc : Thread Cert.Ins.nD Cert.Ins.τ).loc Cert.Ins.main_arg0) = m ((c.tc : Thread Cert.Ins.nD Cert.Ins.τ).loc Cert.Ins.main_arg0)
      ∧ r.2.mem ((c.tc : Thread Cert.Ins.nD Cert.Ins.τ).loc Cert.Ins.main_arg1) = m ((c.tc : Thread Cert.Ins.nD Cert.Ins.τ).loc Cert.Ins.main_arg1)
      ∧ r.2.mem ((c.tc : Thread Cert.Ins.nD Cert.Ins.τ).loc Cert.Ins.main_arg2) = m ((c.tc : Thread Cert.Ins.nD Cert.Ins.τ).loc Cert.Ins.main_arg2))
      ∧ r.2.sem = fun _ => 0)

def quiescent_InsIdeal [hInsIdeal : Cert.InsIdeal.Facts] : Prop :=
  ∀ (m : (ℓ : Loc Cert.InsIdeal.nD Cert.InsIdeal.τ Cert.InsIdeal.sig) → Buf (Elt Ideal) ℓ) (g : Dev Cert.InsIdeal.nD → PrngReg), Pre_InsIdeal m →
    θ_run (Cert.InsIdeal.defs (F := Ideal)) (onTc (τ := Cert.InsIdeal.τ) (Cert.InsIdeal.main (F := Ideal))) ⟨m, fun _ => 0, g⟩ (fun r => (∀ c : Dev Cert.InsIdeal.nD,
      r.2.mem ((c.tc : Thread Cert.InsIdeal.nD Cert.InsIdeal.τ).loc Cert.InsIdeal.main_arg0) = m ((c.tc : Thread Cert.InsIdeal.nD Cert.InsIdeal.τ).loc Cert.InsIdeal.main_arg0)
      ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
      ∧ r.2.mem ((c.tc : Thread Cert.InsIdeal.nD Cert.InsIdeal.τ).loc Cert.InsIdeal.main_arg2) = m ((c.tc : Thread Cert.InsIdeal.nD Cert.InsIdeal.τ).loc Cert.InsIdeal.main_arg2))
      ∧ r.2.sem = fun _ => 0)

def quiescent_InsIdeal_pre_proj_ok [hInsIdeal : Cert.InsIdeal.Facts] [hPre_proj_ok : Cert.Pre_proj_ok.Facts] : Prop :=
  ∀ (m : (ℓ : Loc Cert.InsIdeal.nD Cert.InsIdeal.τ Cert.InsIdeal.sig) → Buf (Elt Ideal) ℓ) (g : Dev Cert.InsIdeal.nD → PrngReg), Pre_InsIdeal_proj_ok m →
    θ_run (Cert.InsIdeal.defs (F := Ideal)) (onTc (τ := Cert.InsIdeal.τ) (Cert.InsIdeal.main (F := Ideal))) ⟨m, fun _ => 0, g⟩ (fun r => (∀ c : Dev Cert.InsIdeal.nD,
      r.2.mem ((c.tc : Thread Cert.InsIdeal.nD Cert.InsIdeal.τ).loc Cert.InsIdeal.main_arg0) = m ((c.tc : Thread Cert.InsIdeal.nD Cert.InsIdeal.τ).loc Cert.InsIdeal.main_arg0)
      ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
      ∧ r.2.mem ((c.tc : Thread Cert.InsIdeal.nD Cert.InsIdeal.τ).loc Cert.InsIdeal.main_arg2) = m ((c.tc : Thread Cert.InsIdeal.nD Cert.InsIdeal.τ).loc Cert.InsIdeal.main_arg2))
      ∧ r.2.sem = fun _ => 0)

def quiescent_InsRefIdeal [hInsRefIdeal : Cert.InsRefIdeal.Facts] : Prop :=
  ∀ (m : (ℓ : Loc Cert.InsRefIdeal.nD Cert.InsRefIdeal.τ Cert.InsRefIdeal.sig) → Buf (Elt Ideal) ℓ) (g : Dev Cert.InsRefIdeal.nD → PrngReg), Pre_InsRefIdeal m →
    θ_run (Cert.InsRefIdeal.defs (F := Ideal)) (onTc (τ := Cert.InsRefIdeal.τ) (Cert.InsRefIdeal.main (F := Ideal))) ⟨m, fun _ => 0, g⟩ (fun r => (∀ c : Dev Cert.InsRefIdeal.nD,
      r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
      ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1)
      ∧ r.2.mem ((c.tc : Thread Cert.InsRefIdeal.nD Cert.InsRefIdeal.τ).loc Cert.InsRefIdeal.main_arg2) = m ((c.tc : Thread Cert.InsRefIdeal.nD Cert.InsRefIdeal.τ).loc Cert.InsRefIdeal.main_arg2))
      ∧ r.2.sem = fun _ => 0)

def quiescent_InsRefIdeal_pre_proj_ok [hInsRefIdeal : Cert.InsRefIdeal.Facts] [hPre_proj_ok : Cert.Pre_proj_ok.Facts] : Prop :=
  ∀ (m : (ℓ : Loc Cert.InsRefIdeal.nD Cert.InsRefIdeal.τ Cert.InsRefIdeal.sig) → Buf (Elt Ideal) ℓ) (g : Dev Cert.InsRefIdeal.nD → PrngReg), Pre_InsRefIdeal_proj_ok m →
    θ_run (Cert.InsRefIdeal.defs (F := Ideal)) (onTc (τ := Cert.InsRefIdeal.τ) (Cert.InsRefIdeal.main (F := Ideal))) ⟨m, fun _ => 0, g⟩ (fun r => (∀ c : Dev Cert.InsRefIdeal.nD,
      r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
      ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1)
      ∧ r.2.mem ((c.tc : Thread Cert.InsRefIdeal.nD Cert.InsRefIdeal.τ).loc Cert.InsRefIdeal.main_arg2) = m ((c.tc : Thread Cert.InsRefIdeal.nD Cert.InsRefIdeal.τ).loc Cert.InsRefIdeal.main_arg2))
      ∧ r.2.sem = fun _ => 0)

def quiescent_Mos [hMos : Cert.Mos.Facts] : Prop :=
  ∀ (m : (ℓ : Loc Cert.Mos.nD Cert.Mos.τ Cert.Mos.sig) → Buf (Elt Bits) ℓ) (g : Dev Cert.Mos.nD → PrngReg), Pre_Mos m →
    θ_run (Cert.Mos.defs (F := Bits)) (onTc (τ := Cert.Mos.τ) (Cert.Mos.main (F := Bits))) ⟨m, fun _ => 0, g⟩ (fun r => (∀ c : Dev Cert.Mos.nD,
      r.2.mem ((c.tc : Thread Cert.Mos.nD Cert.Mos.τ).loc Cert.Mos.main_arg0) = m ((c.tc : Thread Cert.Mos.nD Cert.Mos.τ).loc Cert.Mos.main_arg0)
      ∧ r.2.mem ((c.tc : Thread Cert.Mos.nD Cert.Mos.τ).loc Cert.Mos.main_arg1) = m ((c.tc : Thread Cert.Mos.nD Cert.Mos.τ).loc Cert.Mos.main_arg1)
      ∧ r.2.mem ((c.tc : Thread Cert.Mos.nD Cert.Mos.τ).loc Cert.Mos.main_arg2) = m ((c.tc : Thread Cert.Mos.nD Cert.Mos.τ).loc Cert.Mos.main_arg2)
      ∧ r.2.mem ((c.tc : Thread Cert.Mos.nD Cert.Mos.τ).loc Cert.Mos.main_arg3) = m ((c.tc : Thread Cert.Mos.nD Cert.Mos.τ).loc Cert.Mos.main_arg3)
      ∧ r.2.mem ((c.tc : Thread Cert.Mos.nD Cert.Mos.τ).loc Cert.Mos.main_arg4) = m ((c.tc : Thread Cert.Mos.nD Cert.Mos.τ).loc Cert.Mos.main_arg4)
      ∧ r.2.mem ((c.tc : Thread Cert.Mos.nD Cert.Mos.τ).loc Cert.Mos.main_arg5) = m ((c.tc : Thread Cert.Mos.nD Cert.Mos.τ).loc Cert.Mos.main_arg5)
      ∧ r.2.mem ((c.tc : Thread Cert.Mos.nD Cert.Mos.τ).loc Cert.Mos.main_arg6) = m ((c.tc : Thread Cert.Mos.nD Cert.Mos.τ).loc Cert.Mos.main_arg6))
      ∧ r.2.sem = fun _ => 0)

def quiescent_MosIdeal [hMosIdeal : Cert.MosIdeal.Facts] : Prop :=
  ∀ (m : (ℓ : Loc Cert.MosIdeal.nD Cert.MosIdeal.τ Cert.MosIdeal.sig) → Buf (Elt Ideal) ℓ) (g : Dev Cert.MosIdeal.nD → PrngReg), Pre_MosIdeal m →
    θ_run (Cert.MosIdeal.defs (F := Ideal)) (onTc (τ := Cert.MosIdeal.τ) (Cert.MosIdeal.main (F := Ideal))) ⟨m, fun _ => 0, g⟩ (fun r => (∀ c : Dev Cert.MosIdeal.nD,
      r.2.mem ((c.tc : Thread Cert.MosIdeal.nD Cert.MosIdeal.τ).loc Cert.MosIdeal.main_arg0) = m ((c.tc : Thread Cert.MosIdeal.nD Cert.MosIdeal.τ).loc Cert.MosIdeal.main_arg0)
      ∧ r.2.mem ((c.tc : Thread Cert.MosIdeal.nD Cert.MosIdeal.τ).loc Cert.MosIdeal.main_arg1) = m ((c.tc : Thread Cert.MosIdeal.nD Cert.MosIdeal.τ).loc Cert.MosIdeal.main_arg1)
      ∧ r.2.mem ((c.tc : Thread Cert.MosIdeal.nD Cert.MosIdeal.τ).loc Cert.MosIdeal.main_arg2) = m ((c.tc : Thread Cert.MosIdeal.nD Cert.MosIdeal.τ).loc Cert.MosIdeal.main_arg2)
      ∧ r.2.mem ((c.tc : Thread Cert.MosIdeal.nD Cert.MosIdeal.τ).loc Cert.MosIdeal.main_arg3) = m ((c.tc : Thread Cert.MosIdeal.nD Cert.MosIdeal.τ).loc Cert.MosIdeal.main_arg3)
      ∧ r.2.mem ((c.tc : Thread Cert.MosIdeal.nD Cert.MosIdeal.τ).loc Cert.MosIdeal.main_arg4) = m ((c.tc : Thread Cert.MosIdeal.nD Cert.MosIdeal.τ).loc Cert.MosIdeal.main_arg4)
      ∧ r.2.mem ((c.tc : Thread Cert.MosIdeal.nD Cert.MosIdeal.τ).loc Cert.MosIdeal.main_arg5) = m ((c.tc : Thread Cert.MosIdeal.nD Cert.MosIdeal.τ).loc Cert.MosIdeal.main_arg5)
      ∧ r.2.mem ((c.tc : Thread Cert.MosIdeal.nD Cert.MosIdeal.τ).loc Cert.MosIdeal.main_arg6) = m ((c.tc : Thread Cert.MosIdeal.nD Cert.MosIdeal.τ).loc Cert.MosIdeal.main_arg6))
      ∧ r.2.sem = fun _ => 0)

def quiescent_MosRefIdeal [hMosRefIdeal : Cert.MosRefIdeal.Facts] : Prop :=
  ∀ (m : (ℓ : Loc Cert.MosRefIdeal.nD Cert.MosRefIdeal.τ Cert.MosRefIdeal.sig) → Buf (Elt Ideal) ℓ) (g : Dev Cert.MosRefIdeal.nD → PrngReg), Pre_MosRefIdeal m →
    θ_run (Cert.MosRefIdeal.defs (F := Ideal)) (onTc (τ := Cert.MosRefIdeal.τ) (Cert.MosRefIdeal.main (F := Ideal))) ⟨m, fun _ => 0, g⟩ (fun r => (∀ c : Dev Cert.MosRefIdeal.nD,
      r.2.mem ((c.tc : Thread Cert.MosRefIdeal.nD Cert.MosRefIdeal.τ).loc Cert.MosRefIdeal.main_arg0) = m ((c.tc : Thread Cert.MosRefIdeal.nD Cert.MosRefIdeal.τ).loc Cert.MosRefIdeal.main_arg0)
      ∧ r.2.mem ((c.tc : Thread Cert.MosRefIdeal.nD Cert.MosRefIdeal.τ).loc Cert.MosRefIdeal.main_arg1) = m ((c.tc : Thread Cert.MosRefIdeal.nD Cert.MosRefIdeal.τ).loc Cert.MosRefIdeal.main_arg1)
      ∧ r.2.mem ((c.tc : Thread Cert.MosRefIdeal.nD Cert.MosRefIdeal.τ).loc Cert.MosRefIdeal.main_arg2) = m ((c.tc : Thread Cert.MosRefIdeal.nD Cert.MosRefIdeal.τ).loc Cert.MosRefIdeal.main_arg2)
      ∧ r.2.mem ((c.tc : Thread Cert.MosRefIdeal.nD Cert.MosRefIdeal.τ).loc Cert.MosRefIdeal.main_arg3) = m ((c.tc : Thread Cert.MosRefIdeal.nD Cert.MosRefIdeal.τ).loc Cert.MosRefIdeal.main_arg3)
      ∧ r.2.mem ((c.tc : Thread Cert.MosRefIdeal.nD Cert.MosRefIdeal.τ).loc Cert.MosRefIdeal.main_arg4) = m ((c.tc : Thread Cert.MosRefIdeal.nD Cert.MosRefIdeal.τ).loc Cert.MosRefIdeal.main_arg4)
      ∧ r.2.mem ((c.tc : Thread Cert.MosRefIdeal.nD Cert.MosRefIdeal.τ).loc Cert.MosRefIdeal.main_arg5) = m ((c.tc : Thread Cert.MosRefIdeal.nD Cert.MosRefIdeal.τ).loc Cert.MosRefIdeal.main_arg5)
      ∧ r.2.mem ((c.tc : Thread Cert.MosRefIdeal.nD Cert.MosRefIdeal.τ).loc Cert.MosRefIdeal.main_arg6) = m ((c.tc : Thread Cert.MosRefIdeal.nD Cert.MosRefIdeal.τ).loc Cert.MosRefIdeal.main_arg6))
      ∧ r.2.sem = fun _ => 0)

def preserves_Moe_MoeIdeal : Prop :=
  True

def algebraic_MoeIdeal_MoeRefIdeal_pre_keys_ok [hMoeIdeal : Cert.MoeIdeal.Facts] [hMoeRefIdeal : Cert.MoeRefIdeal.Facts] [hPre_keys_ok : Cert.Pre_keys_ok.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_keys_ok m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v12_0)) (v1 : (c : Dev Cert.MoeIdeal.nD) → Buf (Elt Ideal) ((c.tc : Thread Cert.MoeIdeal.nD Cert.MoeIdeal.τ).loc Cert.MoeIdeal.main_v12_1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v12_0) = v0 c
          ∧ r.2.mem ((c.tc : Thread Cert.MoeIdeal.nD Cert.MoeIdeal.τ).loc Cert.MoeIdeal.main_v12_1) = v1 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v25) = v0 c
          ∧ r.2.mem ((c.tc : Thread Cert.MoeRefIdeal.nD Cert.MoeRefIdeal.τ).loc Cert.MoeRefIdeal.main_v44) = v1 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v5_0)) (v1 : (c : Dev Cert.InpIdeal.nD) → Buf (Elt Ideal) ((c.tc : Thread Cert.InpIdeal.nD Cert.InpIdeal.τ).loc Cert.InpIdeal.main_v5_1)) (v2 : (c : Dev Cert.InpIdeal.nD) → Buf (Elt Ideal) ((c.tc : Thread Cert.InpIdeal.nD Cert.InpIdeal.τ).loc Cert.InpIdeal.main_v5_2)) (v3 : (c : Dev Cert.InpIdeal.nD) → Buf (Elt Ideal) ((c.tc : Thread Cert.InpIdeal.nD Cert.InpIdeal.τ).loc Cert.InpIdeal.main_v5_3)) (v4 : (c : Dev Cert.InpIdeal.nD) → Buf (Elt Ideal) ((c.tc : Thread Cert.InpIdeal.nD Cert.InpIdeal.τ).loc Cert.InpIdeal.main_v5_4)) (v5 : (c : Dev Cert.InpIdeal.nD) → Buf (Elt Ideal) ((c.tc : Thread Cert.InpIdeal.nD Cert.InpIdeal.τ).loc Cert.InpIdeal.main_v5_5)) (v6 : (c : Dev Cert.InpIdeal.nD) → Buf (Elt Ideal) ((c.tc : Thread Cert.InpIdeal.nD Cert.InpIdeal.τ).loc Cert.InpIdeal.main_v5_6)) (v7 : (c : Dev Cert.InpIdeal.nD) → Buf (Elt Ideal) ((c.tc : Thread Cert.InpIdeal.nD Cert.InpIdeal.τ).loc Cert.InpIdeal.main_v5_7)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v5_0) = v0 c
          ∧ r.2.mem ((c.tc : Thread Cert.InpIdeal.nD Cert.InpIdeal.τ).loc Cert.InpIdeal.main_v5_1) = v1 c
          ∧ r.2.mem ((c.tc : Thread Cert.InpIdeal.nD Cert.InpIdeal.τ).loc Cert.InpIdeal.main_v5_2) = v2 c
          ∧ r.2.mem ((c.tc : Thread Cert.InpIdeal.nD Cert.InpIdeal.τ).loc Cert.InpIdeal.main_v5_3) = v3 c
          ∧ r.2.mem ((c.tc : Thread Cert.InpIdeal.nD Cert.InpIdeal.τ).loc Cert.InpIdeal.main_v5_4) = v4 c
          ∧ r.2.mem ((c.tc : Thread Cert.InpIdeal.nD Cert.InpIdeal.τ).loc Cert.InpIdeal.main_v5_5) = v5 c
          ∧ r.2.mem ((c.tc : Thread Cert.InpIdeal.nD Cert.InpIdeal.τ).loc Cert.InpIdeal.main_v5_6) = v6 c
          ∧ r.2.mem ((c.tc : Thread Cert.InpIdeal.nD Cert.InpIdeal.τ).loc Cert.InpIdeal.main_v5_7) = v7 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v24) = v0 c
          ∧ r.2.mem ((c.tc : Thread Cert.InpRefIdeal.nD Cert.InpRefIdeal.τ).loc Cert.InpRefIdeal.main_v22) = v1 c
          ∧ r.2.mem ((c.tc : Thread Cert.InpRefIdeal.nD Cert.InpRefIdeal.τ).loc Cert.InpRefIdeal.main_v23) = v2 c
          ∧ r.2.mem ((c.tc : Thread Cert.InpRefIdeal.nD Cert.InpRefIdeal.τ).loc Cert.InpRefIdeal.main_v26) = v3 c
          ∧ r.2.mem ((c.tc : Thread Cert.InpRefIdeal.nD Cert.InpRefIdeal.τ).loc Cert.InpRefIdeal.main_v28) = v4 c
          ∧ r.2.mem ((c.tc : Thread Cert.InpRefIdeal.nD Cert.InpRefIdeal.τ).loc Cert.InpRefIdeal.main_v29) = v5 c
          ∧ r.2.mem ((c.tc : Thread Cert.InpRefIdeal.nD Cert.InpRefIdeal.τ).loc Cert.InpRefIdeal.main_v37) = v6 c
          ∧ r.2.mem ((c.tc : Thread Cert.InpRefIdeal.nD Cert.InpRefIdeal.τ).loc Cert.InpRefIdeal.main_v38) = v7 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)
      ∧ m' ((c.tc : Thread Cert.MkvRefIdeal.nD Cert.MkvRefIdeal.τ).loc Cert.MkvRefIdeal.main_arg3) = m ((c.tc : Thread Cert.MkvIdeal.nD Cert.MkvIdeal.τ).loc Cert.MkvIdeal.main_arg3)) →
    ∃ (v0 : (c : Dev Cert.MkvIdeal.nD) → Buf (Elt Ideal) ((c.tc : Thread Cert.MkvIdeal.nD Cert.MkvIdeal.τ).loc Cert.MkvIdeal.main_v7_0)) (v1 : (c : Dev Cert.MkvIdeal.nD) → Buf (Elt Ideal) ((c.tc : Thread Cert.MkvIdeal.nD Cert.MkvIdeal.τ).loc Cert.MkvIdeal.main_v7_1)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v7_0) = v0 c
          ∧ r.2.mem ((c.tc : Thread Cert.MkvIdeal.nD Cert.MkvIdeal.τ).loc Cert.MkvIdeal.main_v7_1) = v1 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
          ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v16) = v0 c
          ∧ r.2.mem ((c.tc : Thread Cert.MkvRefIdeal.nD Cert.MkvRefIdeal.τ).loc Cert.MkvRefIdeal.main_v19) = v1 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2)
          ∧ r.2.mem ((c.tc : Thread Cert.MkvRefIdeal.nD Cert.MkvRefIdeal.τ).loc Cert.MkvRefIdeal.main_arg3) = m' ((c.tc : Thread Cert.MkvRefIdeal.nD Cert.MkvRefIdeal.τ).loc Cert.MkvRefIdeal.main_arg3))

def preserves_Ins_InsIdeal : Prop :=
  True

def algebraic_InsIdeal_InsRefIdeal_pre_proj_ok [hInsIdeal : Cert.InsIdeal.Facts] [hInsRefIdeal : Cert.InsRefIdeal.Facts] [hPre_proj_ok : Cert.Pre_proj_ok.Facts] : Prop :=
  ∀ (m : (ℓ : Loc Cert.InsIdeal.nD Cert.InsIdeal.τ Cert.InsIdeal.sig) → Buf (Elt Ideal) ℓ) (g : Dev Cert.InsIdeal.nD → PrngReg)
    (m' : (ℓ : Loc Cert.InsRefIdeal.nD Cert.InsRefIdeal.τ Cert.InsRefIdeal.sig) → Buf (Elt Ideal) ℓ) (g' : Dev Cert.InsRefIdeal.nD → PrngReg), Pre_InsIdeal_proj_ok m →
    (∀ c : Dev Cert.InsIdeal.nD,
      m' ((c.tc : Thread Cert.InsRefIdeal.nD Cert.InsRefIdeal.τ).loc Cert.InsRefIdeal.main_arg0) = m ((c.tc : Thread Cert.InsIdeal.nD Cert.InsIdeal.τ).loc Cert.InsIdeal.main_arg0)
      ∧ m' ((c.tc : Thread Cert.InsRefIdeal.nD Cert.InsRefIdeal.τ).loc Cert.InsRefIdeal.main_arg1) = m ((c.tc : Thread Cert.InsIdeal.nD Cert.InsIdeal.τ).loc Cert.InsIdeal.main_arg1)
      ∧ m' ((c.tc : Thread Cert.InsRefIdeal.nD Cert.InsRefIdeal.τ).loc Cert.InsRefIdeal.main_arg2) = m ((c.tc : Thread Cert.InsIdeal.nD Cert.InsIdeal.τ).loc Cert.InsIdeal.main_arg2)) →
    ∃ (v0 : (c : Dev Cert.InsIdeal.nD) → Buf (Elt Ideal) ((c.tc : Thread Cert.InsIdeal.nD Cert.InsIdeal.τ).loc Cert.InsIdeal.main_v4)),
      θ_run (Cert.InsIdeal.defs (F := Ideal)) (onTc (τ := Cert.InsIdeal.τ) (Cert.InsIdeal.main (F := Ideal))) ⟨m, fun _ => 0, g⟩ (fun r => ∀ c : Dev Cert.InsIdeal.nD,
          r.2.mem ((c.tc : Thread Cert.InsIdeal.nD Cert.InsIdeal.τ).loc Cert.InsIdeal.main_v4) = v0 c
          ∧ r.2.mem ((c.tc : Thread Cert.InsIdeal.nD Cert.InsIdeal.τ).loc Cert.InsIdeal.main_arg0) = m ((c.tc : Thread Cert.InsIdeal.nD Cert.InsIdeal.τ).loc Cert.InsIdeal.main_arg0)
          ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
          ∧ r.2.mem ((c.tc : Thread Cert.InsIdeal.nD Cert.InsIdeal.τ).loc Cert.InsIdeal.main_arg2) = m ((c.tc : Thread Cert.InsIdeal.nD Cert.InsIdeal.τ).loc Cert.InsIdeal.main_arg2))
      ∧ θ_run (Cert.InsRefIdeal.defs (F := Ideal)) (onTc (τ := Cert.InsRefIdeal.τ) (Cert.InsRefIdeal.main (F := Ideal))) ⟨m', fun _ => 0, g'⟩ (fun r => ∀ c : Dev Cert.InsRefIdeal.nD,
          r.2.mem ((c.tc : Thread Cert.InsRefIdeal.nD Cert.InsRefIdeal.τ).loc Cert.InsRefIdeal.main_v29) = v0 c
          ∧ r.2.mem ((c.tc : Thread Cert.InsRefIdeal.nD Cert.InsRefIdeal.τ).loc Cert.InsRefIdeal.main_arg0) = m' ((c.tc : Thread Cert.InsRefIdeal.nD Cert.InsRefIdeal.τ).loc Cert.InsRefIdeal.main_arg0)
          ∧ r.2.mem ((c.tc : Thread Cert.InsRefIdeal.nD Cert.InsRefIdeal.τ).loc Cert.InsRefIdeal.main_arg1) = m' ((c.tc : Thread Cert.InsRefIdeal.nD Cert.InsRefIdeal.τ).loc Cert.InsRefIdeal.main_arg1)
          ∧ r.2.mem ((c.tc : Thread Cert.InsRefIdeal.nD Cert.InsRefIdeal.τ).loc Cert.InsRefIdeal.main_arg2) = m' ((c.tc : Thread Cert.InsRefIdeal.nD Cert.InsRefIdeal.τ).loc Cert.InsRefIdeal.main_arg2))

def preserves_Mos_MosIdeal : Prop :=
  True

def algebraic_MosIdeal_MosRefIdeal [hMosIdeal : Cert.MosIdeal.Facts] [hMosRefIdeal : Cert.MosRefIdeal.Facts] : Prop :=
  ∀ (m : (ℓ : Loc Cert.MosIdeal.nD Cert.MosIdeal.τ Cert.MosIdeal.sig) → Buf (Elt Ideal) ℓ) (g : Dev Cert.MosIdeal.nD → PrngReg)
    (m' : (ℓ : Loc Cert.MosRefIdeal.nD Cert.MosRefIdeal.τ Cert.MosRefIdeal.sig) → Buf (Elt Ideal) ℓ) (g' : Dev Cert.MosRefIdeal.nD → PrngReg), Pre_MosIdeal m →
    (∀ c : Dev Cert.MosIdeal.nD,
      m' ((c.tc : Thread Cert.MosRefIdeal.nD Cert.MosRefIdeal.τ).loc Cert.MosRefIdeal.main_arg0) = m ((c.tc : Thread Cert.MosIdeal.nD Cert.MosIdeal.τ).loc Cert.MosIdeal.main_arg0)
      ∧ m' ((c.tc : Thread Cert.MosRefIdeal.nD Cert.MosRefIdeal.τ).loc Cert.MosRefIdeal.main_arg1) = m ((c.tc : Thread Cert.MosIdeal.nD Cert.MosIdeal.τ).loc Cert.MosIdeal.main_arg1)
      ∧ m' ((c.tc : Thread Cert.MosRefIdeal.nD Cert.MosRefIdeal.τ).loc Cert.MosRefIdeal.main_arg2) = m ((c.tc : Thread Cert.MosIdeal.nD Cert.MosIdeal.τ).loc Cert.MosIdeal.main_arg2)
      ∧ m' ((c.tc : Thread Cert.MosRefIdeal.nD Cert.MosRefIdeal.τ).loc Cert.MosRefIdeal.main_arg3) = m ((c.tc : Thread Cert.MosIdeal.nD Cert.MosIdeal.τ).loc Cert.MosIdeal.main_arg3)
      ∧ m' ((c.tc : Thread Cert.MosRefIdeal.nD Cert.MosRefIdeal.τ).loc Cert.MosRefIdeal.main_arg4) = m ((c.tc : Thread Cert.MosIdeal.nD Cert.MosIdeal.τ).loc Cert.MosIdeal.main_arg4)
      ∧ m' ((c.tc : Thread Cert.MosRefIdeal.nD Cert.MosRefIdeal.τ).loc Cert.MosRefIdeal.main_arg5) = m ((c.tc : Thread Cert.MosIdeal.nD Cert.MosIdeal.τ).loc Cert.MosIdeal.main_arg5)
      ∧ m' ((c.tc : Thread Cert.MosRefIdeal.nD Cert.MosRefIdeal.τ).loc Cert.MosRefIdeal.main_arg6) = m ((c.tc : Thread Cert.MosIdeal.nD Cert.MosIdeal.τ).loc Cert.MosIdeal.main_arg6)) →
    ∃ (v0 : (c : Dev Cert.MosIdeal.nD) → Buf (Elt Ideal) ((c.tc : Thread Cert.MosIdeal.nD Cert.MosIdeal.τ).loc Cert.MosIdeal.main_v8)),
      θ_run (Cert.MosIdeal.defs (F := Ideal)) (onTc (τ := Cert.MosIdeal.τ) (Cert.MosIdeal.main (F := Ideal))) ⟨m, fun _ => 0, g⟩ (fun r => ∀ c : Dev Cert.MosIdeal.nD,
          r.2.mem ((c.tc : Thread Cert.MosIdeal.nD Cert.MosIdeal.τ).loc Cert.MosIdeal.main_v8) = v0 c
          ∧ r.2.mem ((c.tc : Thread Cert.MosIdeal.nD Cert.MosIdeal.τ).loc Cert.MosIdeal.main_arg0) = m ((c.tc : Thread Cert.MosIdeal.nD Cert.MosIdeal.τ).loc Cert.MosIdeal.main_arg0)
          ∧ r.2.mem ((c.tc : Thread Cert.MosIdeal.nD Cert.MosIdeal.τ).loc Cert.MosIdeal.main_arg1) = m ((c.tc : Thread Cert.MosIdeal.nD Cert.MosIdeal.τ).loc Cert.MosIdeal.main_arg1)
          ∧ r.2.mem ((c.tc : Thread Cert.MosIdeal.nD Cert.MosIdeal.τ).loc Cert.MosIdeal.main_arg2) = m ((c.tc : Thread Cert.MosIdeal.nD Cert.MosIdeal.τ).loc Cert.MosIdeal.main_arg2)
          ∧ r.2.mem ((c.tc : Thread Cert.MosIdeal.nD Cert.MosIdeal.τ).loc Cert.MosIdeal.main_arg3) = m ((c.tc : Thread Cert.MosIdeal.nD Cert.MosIdeal.τ).loc Cert.MosIdeal.main_arg3)
          ∧ r.2.mem ((c.tc : Thread Cert.MosIdeal.nD Cert.MosIdeal.τ).loc Cert.MosIdeal.main_arg4) = m ((c.tc : Thread Cert.MosIdeal.nD Cert.MosIdeal.τ).loc Cert.MosIdeal.main_arg4)
          ∧ r.2.mem ((c.tc : Thread Cert.MosIdeal.nD Cert.MosIdeal.τ).loc Cert.MosIdeal.main_arg5) = m ((c.tc : Thread Cert.MosIdeal.nD Cert.MosIdeal.τ).loc Cert.MosIdeal.main_arg5)
          ∧ r.2.mem ((c.tc : Thread Cert.MosIdeal.nD Cert.MosIdeal.τ).loc Cert.MosIdeal.main_arg6) = m ((c.tc : Thread Cert.MosIdeal.nD Cert.MosIdeal.τ).loc Cert.MosIdeal.main_arg6))
      ∧ θ_run (Cert.MosRefIdeal.defs (F := Ideal)) (onTc (τ := Cert.MosRefIdeal.τ) (Cert.MosRefIdeal.main (F := Ideal))) ⟨m', fun _ => 0, g'⟩ (fun r => ∀ c : Dev Cert.MosRefIdeal.nD,
          r.2.mem ((c.tc : Thread Cert.MosRefIdeal.nD Cert.MosRefIdeal.τ).loc Cert.MosRefIdeal.main_v25) = v0 c
          ∧ r.2.mem ((c.tc : Thread Cert.MosRefIdeal.nD Cert.MosRefIdeal.τ).loc Cert.MosRefIdeal.main_arg0) = m' ((c.tc : Thread Cert.MosRefIdeal.nD Cert.MosRefIdeal.τ).loc Cert.MosRefIdeal.main_arg0)
          ∧ r.2.mem ((c.tc : Thread Cert.MosRefIdeal.nD Cert.MosRefIdeal.τ).loc Cert.MosRefIdeal.main_arg1) = m' ((c.tc : Thread Cert.MosRefIdeal.nD Cert.MosRefIdeal.τ).loc Cert.MosRefIdeal.main_arg1)
          ∧ r.2.mem ((c.tc : Thread Cert.MosRefIdeal.nD Cert.MosRefIdeal.τ).loc Cert.MosRefIdeal.main_arg2) = m' ((c.tc : Thread Cert.MosRefIdeal.nD Cert.MosRefIdeal.τ).loc Cert.MosRefIdeal.main_arg2)
          ∧ r.2.mem ((c.tc : Thread Cert.MosRefIdeal.nD Cert.MosRefIdeal.τ).loc Cert.MosRefIdeal.main_arg3) = m' ((c.tc : Thread Cert.MosRefIdeal.nD Cert.MosRefIdeal.τ).loc Cert.MosRefIdeal.main_arg3)
          ∧ r.2.mem ((c.tc : Thread Cert.MosRefIdeal.nD Cert.MosRefIdeal.τ).loc Cert.MosRefIdeal.main_arg4) = m' ((c.tc : Thread Cert.MosRefIdeal.nD Cert.MosRefIdeal.τ).loc Cert.MosRefIdeal.main_arg4)
          ∧ r.2.mem ((c.tc : Thread Cert.MosRefIdeal.nD Cert.MosRefIdeal.τ).loc Cert.MosRefIdeal.main_arg5) = m' ((c.tc : Thread Cert.MosRefIdeal.nD Cert.MosRefIdeal.τ).loc Cert.MosRefIdeal.main_arg5)
          ∧ r.2.mem ((c.tc : Thread Cert.MosRefIdeal.nD Cert.MosRefIdeal.τ).loc Cert.MosRefIdeal.main_arg6) = m' ((c.tc : Thread Cert.MosRefIdeal.nD Cert.MosRefIdeal.τ).loc Cert.MosRefIdeal.main_arg6))

def Claim : Prop :=
  ∃ (hMoe : Cert.Moe.Facts) (hMoeIdeal : Cert.MoeIdeal.Facts) (hMoeRefIdeal : Cert.MoeRefIdeal.Facts) (hInp : Cert.Inp.Facts) (hInpIdeal : Cert.InpIdeal.Facts) (hInpRefIdeal : Cert.InpRefIdeal.Facts) (hMkv : Cert.Mkv.Facts) (hMkvIdeal : Cert.MkvIdeal.Facts) (hMkvRefIdeal : Cert.MkvRefIdeal.Facts) (hIns : Cert.Ins.Facts) (hInsIdeal : Cert.InsIdeal.Facts) (hInsRefIdeal : Cert.InsRefIdeal.Facts) (hMos : Cert.Mos.Facts) (hMosIdeal : Cert.MosIdeal.Facts) (hMosRefIdeal : Cert.MosRefIdeal.Facts) (hPre_pages_ok : Cert.Pre_pages_ok.Facts) (hPre_keys_ok : Cert.Pre_keys_ok.Facts) (hPre_proj_ok : Cert.Pre_proj_ok.Facts),
    quiescent_Moe (hMoe := hMoe) (hPre_pages_ok := hPre_pages_ok)
    ∧ quiescent_MoeIdeal (hMoeIdeal := hMoeIdeal) (hPre_pages_ok := hPre_pages_ok)
    ∧ quiescent_MoeIdeal_pre_keys_ok (hMoeIdeal := hMoeIdeal) (hPre_keys_ok := hPre_keys_ok)
    ∧ quiescent_MoeRefIdeal (hMoeRefIdeal := hMoeRefIdeal)
    ∧ quiescent_MoeRefIdeal_pre_keys_ok (hMoeRefIdeal := hMoeRefIdeal) (hPre_keys_ok := hPre_keys_ok)
    ∧ quiescent_Inp (hInp := hInp)
    ∧ quiescent_InpIdeal (hInpIdeal := hInpIdeal)
    ∧ quiescent_InpRefIdeal (hInpRefIdeal := hInpRefIdeal)
    ∧ quiescent_Mkv (hMkv := hMkv)
    ∧ quiescent_MkvIdeal (hMkvIdeal := hMkvIdeal)
    ∧ quiescent_MkvRefIdeal (hMkvRefIdeal := hMkvRefIdeal)
    ∧ quiescent_Ins (hIns := hIns)
    ∧ quiescent_InsIdeal (hInsIdeal := hInsIdeal)
    ∧ quiescent_InsIdeal_pre_proj_ok (hInsIdeal := hInsIdeal) (hPre_proj_ok := hPre_proj_ok)
    ∧ quiescent_InsRefIdeal (hInsRefIdeal := hInsRefIdeal)
    ∧ quiescent_InsRefIdeal_pre_proj_ok (hInsRefIdeal := hInsRefIdeal) (hPre_proj_ok := hPre_proj_ok)
    ∧ quiescent_Mos (hMos := hMos)
    ∧ quiescent_MosIdeal (hMosIdeal := hMosIdeal)
    ∧ quiescent_MosRefIdeal (hMosRefIdeal := hMosRefIdeal)
    ∧ preserves_Moe_MoeIdeal
    ∧ algebraic_MoeIdeal_MoeRefIdeal_pre_keys_ok (hMoeIdeal := hMoeIdeal) (hMoeRefIdeal := hMoeRefIdeal) (hPre_keys_ok := hPre_keys_ok)
    ∧ preserves_Inp_InpIdeal
    ∧ algebraic_InpIdeal_InpRefIdeal (hInpIdeal := hInpIdeal) (hInpRefIdeal := hInpRefIdeal)
    ∧ preserves_Mkv_MkvIdeal
    ∧ algebraic_MkvIdeal_MkvRefIdeal (hMkvIdeal := hMkvIdeal) (hMkvRefIdeal := hMkvRefIdeal)
    ∧ preserves_Ins_InsIdeal
    ∧ algebraic_InsIdeal_InsRefIdeal_pre_proj_ok (hInsIdeal := hInsIdeal) (hInsRefIdeal := hInsRefIdeal) (hPre_proj_ok := hPre_proj_ok)
    ∧ preserves_Mos_MosIdeal
    ∧ algebraic_MosIdeal_MosRefIdeal (hMosIdeal := hMosIdeal) (hMosRefIdeal := hMosRefIdeal)
-- ==== Pre_keys_ok.lean ====
abbrev S16384x1024 : Shape := ⟨2, ![16384, 1024]⟩
abbrev S16384x16 : Shape := ⟨2, ![16384, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S1x5120x128x8x64 : Shape := ⟨5, ![1, 5120, 128, 8, 64]⟩
abbrev S32x128 : Shape := ⟨2, ![32, 128]⟩
abbrev S32x512 : Shape := ⟨2, ![32, 512]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S1x5120x128x8x64 : S_.BroadcastsInDim S1x5120x128x8x64 (![] : Fin 0 → Fin S1x5120x128x8x64.rank)
  reducesTo_S1x5120x128x8x64_S_d0_1_2_3_4 : S1x5120x128x8x64.ReducesTo [0, 1, 2, 3, 4] S_
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S16384x1024 .f32) (main_arg1 : FVec F S16384x1024 .bf16) (main_arg2 : FVec F S16384x16 .f32) (main_arg3 : FVec F S1x16x1024x256 .f32) (main_arg4 : FVec F S1x16x1024x256 .f32) (main_arg5 : FVec F S1x16x256x1024 .f32) (main_arg6 : FVec F S1024 .f32) (main_arg7 : FVec F S1x5120x128x8x64 .f32) (main_arg8 : IVec S32x128 32) (main_arg9 : FVec F S32x512 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg8 main_v0
  let main_c_0 : IVec S_ 32 := constantI S_ 32 5120#32
  let main_v2 : IVec S32x128 32 := broadcastInDim S32x128 ![] bcast_S_S32x128 main_c_0
  let main_v3 : IVec S32x128 1 := cmpi .slt main_arg8 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  let main_v6 : FVec F S1x5120x128x8x64 .f32 := Host.absf main_arg7
  let main_cst : FVec F S_ .f32 := constant S_ .f32 0x7F800000#32
  let main_v7 : FVec F S1x5120x128x8x64 .f32 := broadcastInDim S1x5120x128x8x64 ![] bcast_S_S1x5120x128x8x64 main_cst
  let main_v8 : IVec S1x5120x128x8x64 1 := cmpf .olt main_v6 main_v7
  let main_c_2 : IVec S_ 1 := constantI S_ 1 1#1
  let main_v9 : IVec S_ 1 := (fun x v => Host.reduce IntOp.andi x v reducesTo_S1x5120x128x8x64_S_d0_1_2_3_4 h_S_) main_v8 main_c_2
  let main_v10 : IVec S_ 1 := andi main_v5 main_v9
  let main_v11 : FVec F S32x512 .f32 := Host.absf main_arg9
  let main_cst_3 : FVec F S_ .f32 := constant S_ .f32 0x7F800000#32
  let main_v12 : FVec F S32x512 .f32 := broadcastInDim S32x512 ![] bcast_S_S32x512 main_cst_3
  let main_v13 : IVec S32x512 1 := cmpf .olt main_v11 main_v12
  let main_c_4 : IVec S_ 1 := constantI S_ 1 1#1
  let main_v14 : IVec S_ 1 := (fun x v => Host.reduce IntOp.andi x v reducesTo_S32x512_S_d0_1 h_S_) main_v13 main_c_4
  let main_v15 : IVec S_ 1 := andi main_v10 main_v14
  main_v15
-- ==== Pre_pages_ok.lean ====
abbrev S16384x1024 : Shape := ⟨2, ![16384, 1024]⟩
abbrev S16384x16 : Shape := ⟨2, ![16384, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S1x5120x128x8x64 : Shape := ⟨5, ![1, 5120, 128, 8, 64]⟩
abbrev S32x128 : Shape := ⟨2, ![32, 128]⟩
abbrev S32x512 : Shape := ⟨2, ![32, 512]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S16384x1024 .f32) (main_arg1 : FVec F S16384x1024 .bf16) (main_arg2 : FVec F S16384x16 .f32) (main_arg3 : FVec F S1x16x1024x256 .f32) (main_arg4 : FVec F S1x16x1024x256 .f32) (main_arg5 : FVec F S1x16x256x1024 .f32) (main_arg6 : FVec F S1024 .f32) (main_arg7 : FVec F S1x5120x128x8x64 .f32) (main_arg8 : IVec S32x128 32) (main_arg9 : FVec F S32x512 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg8 main_v0
  let main_c_0 : IVec S_ 32 := constantI S_ 32 5120#32
  let main_v2 : IVec S32x128 32 := broadcastInDim S32x128 ![] bcast_S_S32x128 main_c_0
  let main_v3 : IVec S32x128 1 := cmpi .slt main_arg8 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  main_v5
-- ==== Pre_proj_ok.lean ====
abbrev S32x1x1024 : Shape := ⟨3, ![32, 1, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn {F : FTy → Type} [FloatOps F] (main_arg0 : FVec F S32x1x1024 .f32) (main_arg1 : FVec F S1x1024 .f32) (main_arg2 : FVec F S1x1024x4096 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x4096 .f32 := Host.absf main_arg2
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : IVec S_ 1 := andi main_v3 main_v7
  main_v8
-- ==== Moe.lean ====
abbrev S16384x1024 : Shape := ⟨2, ![16384, 1024]⟩
abbrev S16384x16 : Shape := ⟨2, ![16384, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S1x5120x128x8x64 : Shape := ⟨5, ![1, 5120, 128, 8, 64]⟩
abbrev S32x128 : Shape := ⟨2, ![32, 128]⟩
abbrev S32x512 : Shape := ⟨2, ![32, 512]⟩
abbrev S16x1024x256 : Shape := ⟨3, ![16, 1024, 256]⟩
abbrev S16x1024x512 : Shape := ⟨3, ![16, 1024, 512]⟩
abbrev S5120x128x8x64 : Shape := ⟨4, ![5120, 128, 8, 64]⟩
abbrev S5120x8x64x128 : Shape := ⟨4, ![5120, 8, 64, 128]⟩
abbrev S32x512x1 : Shape := ⟨3, ![32, 512, 1]⟩
abbrev S32x512x128 : Shape := ⟨3, ![32, 512, 128]⟩
abbrev S_ : Shape := ⟨0, ![]⟩
abbrev S16384x128 : Shape := ⟨2, ![16384, 128]⟩
abbrev S16x256x1024 : Shape := ⟨3, ![16, 256, 1024]⟩
abbrev S1x1024 : Shape := ⟨2, ![1, 1024]⟩
abbrev S32x8x128 : Shape := ⟨3, ![32, 8, 128]⟩
abbrev S1024x1024 : Shape := ⟨2, ![1024, 1024]⟩
abbrev S1024x128 : Shape := ⟨2, ![1024, 128]⟩
abbrev S2x1024x512 : Shape := ⟨3, ![2, 1024, 512]⟩
abbrev S2x256x1024 : Shape := ⟨3, ![2, 256, 1024]⟩
abbrev S1x512x128 : Shape := ⟨3, ![1, 512, 128]⟩
abbrev S1x8x64x128 : Shape := ⟨4, ![1, 8, 64, 128]⟩
abbrev S1x1 : Shape := ⟨2, ![1, 1]⟩
abbrev S1x8x128 : Shape := ⟨3, ![1, 8, 128]⟩
abbrev S8x128 : Shape := ⟨2, ![8, 128]⟩
abbrev S512x128 : Shape := ⟨2, ![512, 128]⟩
abbrev S8x64x128 : Shape := ⟨3, ![8, 64, 128]⟩
abbrev S8x8x8x128 : Shape := ⟨4, ![8, 8, 8, 128]⟩
abbrev S8x8x128 : Shape := ⟨3, ![8, 8, 128]⟩
abbrev S8 : Shape := ⟨1, ![8]⟩
abbrev S8x1 : Shape := ⟨2, ![8, 1]⟩
abbrev S1x1024x512 : Shape := ⟨3, ![1, 1024, 512]⟩
abbrev S1024x512 : Shape := ⟨2, ![1024, 512]⟩
abbrev S1024x1 : Shape := ⟨2, ![1024, 1]⟩
abbrev S1024x256 : Shape := ⟨2, ![1024, 256]⟩
abbrev S512x1024 : Shape := ⟨2, ![512, 1024]⟩

abbrev nBuf : Space → Nat
  | .hbm => 25
  | .vmem => 82
  | .smem => 1
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x16, .f32⟩
  | .hbm, ⟨3, _⟩ => ⟨S1x16x1024x256, .f32⟩
  | .hbm, ⟨4, _⟩ => ⟨S1x16x1024x256, .f32⟩
  | .hbm, ⟨5, _⟩ => ⟨S1x16x256x1024, .f32⟩
  | .hbm, ⟨6, _⟩ => ⟨S1024, .f32⟩
  | .hbm, ⟨7, _⟩ => ⟨S1x5120x128x8x64, .f32⟩
  | .hbm, ⟨8, _⟩ => ⟨S32x512, .f32⟩
  | .hbm, ⟨9, _⟩ => ⟨S16x1024x256, .f32⟩
  | .hbm, ⟨10, _⟩ => ⟨S16x1024x256, .f32⟩
  | .hbm, ⟨11, _⟩ => ⟨S16x1024x512, .f32⟩
  | .hbm, ⟨12, _⟩ => ⟨S16x1024x512, .bf16⟩
  | .hbm, ⟨13, _⟩ => ⟨S5120x128x8x64, .f32⟩
  | .hbm, ⟨14, _⟩ => ⟨S5120x8x64x128, .f32⟩
  | .hbm, ⟨15, _⟩ => ⟨S32x512x1, .f32⟩
  | .hbm, ⟨16, _⟩ => ⟨S32x512x128, .f32⟩
  | .hbm, ⟨17, _⟩ => ⟨S_, .i32⟩
  | .hbm, ⟨18, _⟩ => ⟨S_, .f32⟩
  | .hbm, ⟨19, _⟩ => ⟨S16384x128, .f32⟩
  | .hbm, ⟨20, _⟩ => ⟨S16x256x1024, .f32⟩
  | .hbm, ⟨21, _⟩ => ⟨S16x256x1024, .bf16⟩
  | .hbm, ⟨22, _⟩ => ⟨S1x1024, .f32⟩
  | .hbm, ⟨23, _⟩ => ⟨S16384x1024, .f32⟩
  | .hbm, ⟨24, _⟩ => ⟨S32x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S2x1024x512, .bf16⟩
  | .local _ .vmem, ⟨7, _⟩ => ⟨S2x1024x512, .bf16⟩
  | .local _ .vmem, ⟨8, _⟩ => ⟨S2x256x1024, .bf16⟩
  | .local _ .vmem, ⟨9, _⟩ => ⟨S2x256x1024, .bf16⟩
  | .local _ .vmem, ⟨10, _⟩ => ⟨S1x1024, .f32⟩
  | .local _ .vmem, ⟨11, _⟩ => ⟨S1x512x128, .f32⟩
  | .local _ .vmem, ⟨12, _⟩ => ⟨S1x512x128, .f32⟩
  | .local _ .vmem, ⟨13, _⟩ => ⟨S1x8x64x128, .f32⟩
  | .local _ .vmem, ⟨14, _⟩ => ⟨S1x8x64x128, .f32⟩
  | .local _ .vmem, ⟨15, _⟩ => ⟨S1x8x64x128, .f32⟩
  | .local _ .vmem, ⟨16, _⟩ => ⟨S1x8x64x128, .f32⟩
  | .local _ .vmem, ⟨17, _⟩ => ⟨S1x8x64x128, .f32⟩
  | .local _ .vmem, ⟨18, _⟩ => ⟨S1x8x64x128, .f32⟩
  | .local _ .vmem, ⟨19, _⟩ => ⟨S1x8x64x128, .f32⟩
  | .local _ .vmem, ⟨20, _⟩ => ⟨S1x8x64x128, .f32⟩
  | .local _ .vmem, ⟨21, _⟩ => ⟨S1x8x64x128, .f32⟩
  | .local _ .vmem, ⟨22, _⟩ => ⟨S1x8x64x128, .f32⟩
  | .local _ .vmem, ⟨23, _⟩ => ⟨S1x8x64x128, .f32⟩
  | .local _ .vmem, ⟨24, _⟩ => ⟨S1x8x64x128, .f32⟩
  | .local _ .vmem, ⟨25, _⟩ => ⟨S1x8x64x128, .f32⟩
  | .local _ .vmem, ⟨26, _⟩ => ⟨S1x8x64x128, .f32⟩
  | .local _ .vmem, ⟨27, _⟩ => ⟨S1x8x64x128, .f32⟩
  | .local _ .vmem, ⟨28, _⟩ => ⟨S1x8x64x128, .f32⟩
  | .local _ .vmem, ⟨29, _⟩ => ⟨S1x8x64x128, .f32⟩
  | .local _ .vmem, ⟨30, _⟩ => ⟨S1x8x64x128, .f32⟩
  | .local _ .vmem, ⟨31, _⟩ => ⟨S1x8x64x128, .f32⟩
  | .local _ .vmem, ⟨32, _⟩ => ⟨S1x8x64x128, .f32⟩
  | .local _ .vmem, ⟨33, _⟩ => ⟨S1x8x64x128, .f32⟩
  | .local _ .vmem, ⟨34, _⟩ => ⟨S1x8x64x128, .f32⟩
  | .local _ .vmem, ⟨35, _⟩ => ⟨S1x8x64x128, .f32⟩
  | .local _ .vmem, ⟨36, _⟩ => ⟨S1x8x64x128, .f32⟩
  | .local _ .vmem, ⟨37, _⟩ => ⟨S1x8x64x128, .f32⟩
  | .local _ .vmem, ⟨38, _⟩ => ⟨S1x8x64x128, .f32⟩
  | .local _ .vmem, ⟨39, _⟩ => ⟨S1x8x64x128, .f32⟩
  | .local _ .vmem, ⟨40, _⟩ => ⟨S1x8x64x128, .f32⟩
  | .local _ .vmem, ⟨41, _⟩ => ⟨S1x8x64x128, .f32⟩
  | .local _ .vmem, ⟨42, _⟩ => ⟨S1x8x64x128, .f32⟩
  | .local _ .vmem, ⟨43, _⟩ => ⟨S1x8x64x128, .f32⟩
  | .local _ .vmem, ⟨44, _⟩ => ⟨S1x8x64x128, .f32⟩
  | .local _ .vmem, ⟨45, _⟩ => ⟨S1x8x64x128, .f32⟩
  | .local _ .vmem, ⟨46, _⟩ => ⟨S1x8x64x128, .f32⟩
  | .local _ .vmem, ⟨47, _⟩ => ⟨S1x8x64x128, .f32⟩
  | .local _ .vmem, ⟨48, _⟩ => ⟨S1x8x64x128, .f32⟩
  | .local _ .vmem, ⟨49, _⟩ => ⟨S1x8x64x128, .f32⟩
  | .local _ .vmem, ⟨50, _⟩ => ⟨S1x8x64x128, .f32⟩
  | .local _ .vmem, ⟨51, _⟩ => ⟨S1x8x64x128, .f32⟩
  | .local _ .vmem, ⟨52, _⟩ => ⟨S1x8x64x128, .f32⟩
  | .local _ .vmem, ⟨53, _⟩ => ⟨S1x8x64x128, .f32⟩
  | .local _ .vmem, ⟨54, _⟩ => ⟨S1x8x64x128, .f32⟩
  | .local _ .vmem, ⟨55, _⟩ => ⟨S1x8x64x128, .f32⟩
  | .local _ .vmem, ⟨56, _⟩ => ⟨S1x8x64x128, .f32⟩
  | .local _ .vmem, ⟨57, _⟩ => ⟨S1x8x64x128, .f32⟩
  | .local _ .vmem, ⟨58, _⟩ => ⟨S1x8x64x128, .f32⟩
  | .local _ .vmem, ⟨59, _⟩ => ⟨S1x8x64x128, .f32⟩
  | .local _ .vmem, ⟨60, _⟩ => ⟨S1x8x64x128, .f32⟩
  | .local _ .vmem, ⟨61, _⟩ => ⟨S1x8x64x128, .f32⟩
  | .local _ .vmem, ⟨62, _⟩ => ⟨S1x8x64x128, .f32⟩
  | .local _ .vmem, ⟨63, _⟩ => ⟨S1x8x64x128, .f32⟩
  | .local _ .vmem, ⟨64, _⟩ => ⟨S1x8x64x128, .f32⟩
  | .local _ .vmem, ⟨65, _⟩ => ⟨S1x8x64x128, .f32⟩
  | .local _ .vmem, ⟨66, _⟩ => ⟨S1x8x64x128, .f32⟩
  | .local _ .vmem, ⟨67, _⟩ => ⟨S1x8x64x128, .f32⟩
  | .local _ .vmem, ⟨68, _⟩ => ⟨S1x8x64x128, .f32⟩
  | .local _ .vmem, ⟨69, _⟩ => ⟨S1x8x64x128, .f32⟩
  | .local _ .vmem, ⟨70, _⟩ => ⟨S1x8x64x128, .f32⟩
  | .local _ .vmem, ⟨71, _⟩ => ⟨S1x8x64x128, .f32⟩
  | .local _ .vmem, ⟨72, _⟩ => ⟨S1x8x64x128, .f32⟩
  | .local _ .vmem, ⟨73, _⟩ => ⟨S1x8x64x128, .f32⟩
  | .local _ .vmem, ⟨74, _⟩ => ⟨S1x8x64x128, .f32⟩
  | .local _ .vmem, ⟨75, _⟩ => ⟨S1x8x64x128, .f32⟩
  | .local _ .vmem, ⟨76, _⟩ => ⟨S1x8x64x128, .f32⟩
  | .local _ .vmem, ⟨77, _⟩ => ⟨S1024x1024, .f32⟩
  | .local _ .vmem, ⟨78, _⟩ => ⟨S1024x1024, .f32⟩
  | .local _ .vmem, ⟨79, _⟩ => ⟨S1x8x128, .f32⟩
  | .local _ .vmem, ⟨80, _⟩ => ⟨S1x8x128, .f32⟩
  | .local _ .vmem, ⟨81, _⟩ => ⟨S1024x1024, .f32⟩
  | .local _ .smem, ⟨0, _⟩ => ⟨S32x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg33_1 : Ref sig .tc := ⟨.vmem, 66, rfl⟩
abbrev cc0_stg34_0 : Ref sig .tc := ⟨.vmem, 67, rfl⟩
abbrev cc0_stg34_1 : Ref sig .tc := ⟨.vmem, 68, rfl⟩
abbrev cc0_stg35_0 : Ref sig .tc := ⟨.vmem, 69, rfl⟩
abbrev cc0_stg35_1 : Ref sig .tc := ⟨.vmem, 70, rfl⟩
abbrev cc0_stg36_0 : Ref sig .tc := ⟨.vmem, 71, rfl⟩
abbrev cc0_stg36_1 : Ref sig .tc := ⟨.vmem, 72, rfl⟩
abbrev cc0_stg37_0 : Ref sig .tc := ⟨.vmem, 73, rfl⟩
abbrev cc0_stg37_1 : Ref sig .tc := ⟨.vmem, 74, rfl⟩
abbrev cc0_stg38_0 : Ref sig .tc := ⟨.vmem, 75, rfl⟩
abbrev cc0_stg38_1 : Ref sig .tc := ⟨.vmem, 76, rfl⟩
abbrev cc0_stg39_0 : Ref sig .tc := ⟨.vmem, 77, rfl⟩
abbrev cc0_stg39_1 : Ref sig .tc := ⟨.vmem, 78, rfl⟩
abbrev cc0_stg40_0 : Ref sig .tc := ⟨.vmem, 79, rfl⟩
abbrev cc0_stg40_1 : Ref sig .tc := ⟨.vmem, 80, rfl⟩
abbrev cc0_scratch0 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem33_1 : DmaSem sig := 66
abbrev cc0_sem34_0 : DmaSem sig := 67
abbrev cc0_sem34_1 : DmaSem sig := 68
abbrev cc0_sem35_0 : DmaSem sig := 69
abbrev cc0_sem35_1 : DmaSem sig := 70
abbrev cc0_sem36_0 : DmaSem sig := 71
abbrev cc0_sem36_1 : DmaSem sig := 72
abbrev cc0_sem37_0 : DmaSem sig := 73
abbrev cc0_sem37_1 : DmaSem sig := 74
abbrev cc0_sem38_0 : DmaSem sig := 75
abbrev cc0_sem38_1 : DmaSem sig := 76
abbrev cc0_sem39_0 : DmaSem sig := 77
abbrev cc0_sem39_1 : DmaSem sig := 78
abbrev cc0_sem40_0 : DmaSem sig := 79
abbrev cc0_sem40_1 : DmaSem sig := 80

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_5 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v22 : Index := Scalar.indexCast v18
  let c4_i32_4 : BitVec 32 := 4#32
  let v19 : BitVec 32 := Scalar.remsi v1 c4_i32_4
  let c32_i32 : BitVec 32 := 32#32
  let v20 : BitVec 32 := Scalar.muli v19 c32_i32
  let v21 : BitVec 32 := Scalar.addi v20 c0_i32_5
  let v23 : Index := Scalar.indexCast v21
  ![v22.toNat, v23.toNat]
def k0_cond3 (i : grid0.Coords) : BitVec 1 :=
  let arg1 : BitVec 32 := BitVec.ofNat 32 (i 1).val
  let c7_i32_231 : BitVec 32 := 7#32
  let v389 : BitVec 1 := Scalar.cmpi .eq arg1 c7_i32_231
  let v390 : BitVec 32 := Scalar.extui v389
  let c0_i32_232 : BitVec 32 := 0#32
  let v391 : BitVec 1 := Scalar.cmpi .ne v390 c0_i32_232
  v391

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_7 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c0_i32_5 : BitVec 32 := 0#32
  let v21 : BitVec 32 := Scalar.addi v20 c0_i32_5
  let v22 : Index := Scalar.indexCast v18
  let v23 : Index := Scalar.indexCast v21
  let v24 : BitVec 32 := pf.at 0 (Rect.unit (s := S32x128) ![v22.toNat, v23.toNat] S1x1.size (k0_off1_inb i 0)) numel1_S1x1
  let c0_i32_6 : BitVec 32 := 0#32
  let c0_i32_7 : BitVec 32 := 0#32
  let c0_i32_8 : BitVec 32 := 0#32
  let c0_i32_9 : BitVec 32 := 0#32
  ![v24.toNat, c0_i32_6.toNat, c0_i32_7.toNat, c0_i32_8.toNat]

def cc0_transform_8 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c1_i32_5 : BitVec 32 := 1#32
  let v21 : BitVec 32 := Scalar.addi v20 c1_i32_5
  let v22 : Index := Scalar.indexCast v18
  let v23 : Index := Scalar.indexCast v21
  let v24 : BitVec 32 := pf.at 0 (Rect.unit (s := S32x128) ![v22.toNat, v23.toNat] S1x1.size (k0_off1_inb i 1)) numel1_S1x1
  let c0_i32_6 : BitVec 32 := 0#32
  let c0_i32_7 : BitVec 32 := 0#32
  let c0_i32_8 : BitVec 32 := 0#32
  let c0_i32_9 : BitVec 32 := 0#32
  ![v24.toNat, c0_i32_6.toNat, c0_i32_7.toNat, c0_i32_8.toNat]

def cc0_transform_9 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c2_i32 : BitVec 32 := 2#32
  let v21 : BitVec 32 := Scalar.addi v20 c2_i32
  let v22 : Index := Scalar.indexCast v18
  let v23 : Index := Scalar.indexCast v21
  let v24 : BitVec 32 := pf.at 0 (Rect.unit (s := S32x128) ![v22.toNat, v23.toNat] S1x1.size (k0_off1_inb i 2)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_10 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c3_i32 : BitVec 32 := 3#32
  let v21 : BitVec 32 := Scalar.addi v20 c3_i32
  let v22 : Index := Scalar.indexCast v18
  let v23 : Index := Scalar.indexCast v21
  let v24 : BitVec 32 := pf.at 0 (Rect.unit (s := S32x128) ![v22.toNat, v23.toNat] S1x1.size (k0_off1_inb i 3)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_11 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c4_i32_5 : BitVec 32 := 4#32
  let v21 : BitVec 32 := Scalar.addi v20 c4_i32_5
  let v22 : Index := Scalar.indexCast v18
  let v23 : Index := Scalar.indexCast v21
  let v24 : BitVec 32 := pf.at 0 (Rect.unit (s := S32x128) ![v22.toNat, v23.toNat] S1x1.size (k0_off1_inb i 4)) numel1_S1x1
  let c0_i32_6 : BitVec 32 := 0#32
  let c0_i32_7 : BitVec 32 := 0#32
  let c0_i32_8 : BitVec 32 := 0#32
  let c0_i32_9 : BitVec 32 := 0#32
  ![v24.toNat, c0_i32_6.toNat, c0_i32_7.toNat, c0_i32_8.toNat]

def cc0_transform_12 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c5_i32 : BitVec 32 := 5#32
  let v21 : BitVec 32 := Scalar.addi v20 c5_i32
  let v22 : Index := Scalar.indexCast v18
  let v23 : Index := Scalar.indexCast v21
  let v24 : BitVec 32 := pf.at 0 (Rect.unit (s := S32x128) ![v22.toNat, v23.toNat] S1x1.size (k0_off1_inb i 5)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_13 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c6_i32 : BitVec 32 := 6#32
  let v21 : BitVec 32 := Scalar.addi v20 c6_i32
  let v22 : Index := Scalar.indexCast v18
  let v23 : Index := Scalar.indexCast v21
  let v24 : BitVec 32 := pf.at 0 (Rect.unit (s := S32x128) ![v22.toNat, v23.toNat] S1x1.size (k0_off1_inb i 6)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_14 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c7_i32 : BitVec 32 := 7#32
  let v21 : BitVec 32 := Scalar.addi v20 c7_i32
  let v22 : Index := Scalar.indexCast v18
  let v23 : Index := Scalar.indexCast v21
  let v24 : BitVec 32 := pf.at 0 (Rect.unit (s := S32x128) ![v22.toNat, v23.toNat] S1x1.size (k0_off1_inb i 7)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_15 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c8_i32_5 : BitVec 32 := 8#32
  let v21 : BitVec 32 := Scalar.addi v20 c8_i32_5
  let v22 : Index := Scalar.indexCast v18
  let v23 : Index := Scalar.indexCast v21
  let v24 : BitVec 32 := pf.at 0 (Rect.unit (s := S32x128) ![v22.toNat, v23.toNat] S1x1.size (k0_off1_inb i 8)) numel1_S1x1
  let c0_i32_6 : BitVec 32 := 0#32
  let c0_i32_7 : BitVec 32 := 0#32
  let c0_i32_8 : BitVec 32 := 0#32
  let c0_i32_9 : BitVec 32 := 0#32
  ![v24.toNat, c0_i32_6.toNat, c0_i32_7.toNat, c0_i32_8.toNat]

def cc0_transform_16 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c9_i32 : BitVec 32 := 9#32
  let v21 : BitVec 32 := Scalar.addi v20 c9_i32
  let v22 : Index := Scalar.indexCast v18
  let v23 : Index := Scalar.indexCast v21
  let v24 : BitVec 32 := pf.at 0 (Rect.unit (s := S32x128) ![v22.toNat, v23.toNat] S1x1.size (k0_off1_inb i 9)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_17 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c10_i32 : BitVec 32 := 10#32
  let v21 : BitVec 32 := Scalar.addi v20 c10_i32
  let v22 : Index := Scalar.indexCast v18
  let v23 : Index := Scalar.indexCast v21
  let v24 : BitVec 32 := pf.at 0 (Rect.unit (s := S32x128) ![v22.toNat, v23.toNat] S1x1.size (k0_off1_inb i 10)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_18 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c11_i32 : BitVec 32 := 11#32
  let v21 : BitVec 32 := Scalar.addi v20 c11_i32
  let v22 : Index := Scalar.indexCast v18
  let v23 : Index := Scalar.indexCast v21
  let v24 : BitVec 32 := pf.at 0 (Rect.unit (s := S32x128) ![v22.toNat, v23.toNat] S1x1.size (k0_off1_inb i 11)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_19 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c12_i32 : BitVec 32 := 12#32
  let v21 : BitVec 32 := Scalar.addi v20 c12_i32
  let v22 : Index := Scalar.indexCast v18
  let v23 : Index := Scalar.indexCast v21
  let v24 : BitVec 32 := pf.at 0 (Rect.unit (s := S32x128) ![v22.toNat, v23.toNat] S1x1.size (k0_off1_inb i 12)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_20 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c13_i32 : BitVec 32 := 13#32
  let v21 : BitVec 32 := Scalar.addi v20 c13_i32
  let v22 : Index := Scalar.indexCast v18
  let v23 : Index := Scalar.indexCast v21
  let v24 : BitVec 32 := pf.at 0 (Rect.unit (s := S32x128) ![v22.toNat, v23.toNat] S1x1.size (k0_off1_inb i 13)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_21 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c14_i32 : BitVec 32 := 14#32
  let v21 : BitVec 32 := Scalar.addi v20 c14_i32
  let v22 : Index := Scalar.indexCast v18
  let v23 : Index := Scalar.indexCast v21
  let v24 : BitVec 32 := pf.at 0 (Rect.unit (s := S32x128) ![v22.toNat, v23.toNat] S1x1.size (k0_off1_inb i 14)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_22 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c15_i32 : BitVec 32 := 15#32
  let v21 : BitVec 32 := Scalar.addi v20 c15_i32
  let v22 : Index := Scalar.indexCast v18
  let v23 : Index := Scalar.indexCast v21
  let v24 : BitVec 32 := pf.at 0 (Rect.unit (s := S32x128) ![v22.toNat, v23.toNat] S1x1.size (k0_off1_inb i 15)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_23 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c16_i32 : BitVec 32 := 16#32
  let v21 : BitVec 32 := Scalar.addi v20 c16_i32
  let v22 : Index := Scalar.indexCast v18
  let v23 : Index := Scalar.indexCast v21
  let v24 : BitVec 32 := pf.at 0 (Rect.unit (s := S32x128) ![v22.toNat, v23.toNat] S1x1.size (k0_off1_inb i 16)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_24 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c17_i32 : BitVec 32 := 17#32
  let v21 : BitVec 32 := Scalar.addi v20 c17_i32
  let v22 : Index := Scalar.indexCast v18
  let v23 : Index := Scalar.indexCast v21
  let v24 : BitVec 32 := pf.at 0 (Rect.unit (s := S32x128) ![v22.toNat, v23.toNat] S1x1.size (k0_off1_inb i 17)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_25 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c18_i32 : BitVec 32 := 18#32
  let v21 : BitVec 32 := Scalar.addi v20 c18_i32
  let v22 : Index := Scalar.indexCast v18
  let v23 : Index := Scalar.indexCast v21
  let v24 : BitVec 32 := pf.at 0 (Rect.unit (s := S32x128) ![v22.toNat, v23.toNat] S1x1.size (k0_off1_inb i 18)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_26 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c19_i32 : BitVec 32 := 19#32
  let v21 : BitVec 32 := Scalar.addi v20 c19_i32
  let v22 : Index := Scalar.indexCast v18
  let v23 : Index := Scalar.indexCast v21
  let v24 : BitVec 32 := pf.at 0 (Rect.unit (s := S32x128) ![v22.toNat, v23.toNat] S1x1.size (k0_off1_inb i 19)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_27 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c20_i32 : BitVec 32 := 20#32
  let v21 : BitVec 32 := Scalar.addi v20 c20_i32
  let v22 : Index := Scalar.indexCast v18
  let v23 : Index := Scalar.indexCast v21
  let v24 : BitVec 32 := pf.at 0 (Rect.unit (s := S32x128) ![v22.toNat, v23.toNat] S1x1.size (k0_off1_inb i 20)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_28 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c21_i32 : BitVec 32 := 21#32
  let v21 : BitVec 32 := Scalar.addi v20 c21_i32
  let v22 : Index := Scalar.indexCast v18
  let v23 : Index := Scalar.indexCast v21
  let v24 : BitVec 32 := pf.at 0 (Rect.unit (s := S32x128) ![v22.toNat, v23.toNat] S1x1.size (k0_off1_inb i 21)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_29 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c22_i32 : BitVec 32 := 22#32
  let v21 : BitVec 32 := Scalar.addi v20 c22_i32
  let v22 : Index := Scalar.indexCast v18
  let v23 : Index := Scalar.indexCast v21
  let v24 : BitVec 32 := pf.at 0 (Rect.unit (s := S32x128) ![v22.toNat, v23.toNat] S1x1.size (k0_off1_inb i 22)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_30 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c23_i32 : BitVec 32 := 23#32
  let v21 : BitVec 32 := Scalar.addi v20 c23_i32
  let v22 : Index := Scalar.indexCast v18
  let v23 : Index := Scalar.indexCast v21
  let v24 : BitVec 32 := pf.at 0 (Rect.unit (s := S32x128) ![v22.toNat, v23.toNat] S1x1.size (k0_off1_inb i 23)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_31 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c24_i32 : BitVec 32 := 24#32
  let v21 : BitVec 32 := Scalar.addi v20 c24_i32
  let v22 : Index := Scalar.indexCast v18
  let v23 : Index := Scalar.indexCast v21
  let v24 : BitVec 32 := pf.at 0 (Rect.unit (s := S32x128) ![v22.toNat, v23.toNat] S1x1.size (k0_off1_inb i 24)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_32 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c25_i32 : BitVec 32 := 25#32
  let v21 : BitVec 32 := Scalar.addi v20 c25_i32
  let v22 : Index := Scalar.indexCast v18
  let v23 : Index := Scalar.indexCast v21
  let v24 : BitVec 32 := pf.at 0 (Rect.unit (s := S32x128) ![v22.toNat, v23.toNat] S1x1.size (k0_off1_inb i 25)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_33 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c26_i32 : BitVec 32 := 26#32
  let v21 : BitVec 32 := Scalar.addi v20 c26_i32
  let v22 : Index := Scalar.indexCast v18
  let v23 : Index := Scalar.indexCast v21
  let v24 : BitVec 32 := pf.at 0 (Rect.unit (s := S32x128) ![v22.toNat, v23.toNat] S1x1.size (k0_off1_inb i 26)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_34 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c27_i32 : BitVec 32 := 27#32
  let v21 : BitVec 32 := Scalar.addi v20 c27_i32
  let v22 : Index := Scalar.indexCast v18
  let v23 : Index := Scalar.indexCast v21
  let v24 : BitVec 32 := pf.at 0 (Rect.unit (s := S32x128) ![v22.toNat, v23.toNat] S1x1.size (k0_off1_inb i 27)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_35 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c28_i32 : BitVec 32 := 28#32
  let v21 : BitVec 32 := Scalar.addi v20 c28_i32
  let v22 : Index := Scalar.indexCast v18
  let v23 : Index := Scalar.indexCast v21
  let v24 : BitVec 32 := pf.at 0 (Rect.unit (s := S32x128) ![v22.toNat, v23.toNat] S1x1.size (k0_off1_inb i 28)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_36 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c29_i32 : BitVec 32 := 29#32
  let v21 : BitVec 32 := Scalar.addi v20 c29_i32
  let v22 : Index := Scalar.indexCast v18
  let v23 : Index := Scalar.indexCast v21
  let v24 : BitVec 32 := pf.at 0 (Rect.unit (s := S32x128) ![v22.toNat, v23.toNat] S1x1.size (k0_off1_inb i 29)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_37 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c30_i32 : BitVec 32 := 30#32
  let v21 : BitVec 32 := Scalar.addi v20 c30_i32
  let v22 : Index := Scalar.indexCast v18
  let v23 : Index := Scalar.indexCast v21
  let v24 : BitVec 32 := pf.at 0 (Rect.unit (s := S32x128) ![v22.toNat, v23.toNat] S1x1.size (k0_off1_inb i 30)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_38 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.remsi v1 c4_i32_4
  let c32_i32 : BitVec 32 := 32#32
  let v20 : BitVec 32 := Scalar.muli v19 c32_i32
  let c31_i32 : BitVec 32 := 31#32
  let v21 : BitVec 32 := Scalar.addi v20 c31_i32
  let v22 : Index := Scalar.indexCast v18
  let v23 : Index := Scalar.indexCast v21
  let v24 : BitVec 32 := pf.at 0 (Rect.unit (s := S32x128) ![v22.toNat, v23.toNat] S1x1.size (k0_off1_inb i 31)) numel1_S1x1
  let c0_i32_5 : BitVec 32 := 0#32
  let c0_i32_6 : BitVec 32 := 0#32
  let c0_i32_7 : BitVec 32 := 0#32
  let c0_i32_8 : BitVec 32 := 0#32
  ![v24.toNat, c0_i32_5.toNat, c0_i32_6.toNat, c0_i32_7.toNat]

def cc0_transform_39 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_40 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x8x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x8x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x8x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x8x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x8x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x8x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x8x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x8x64x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x8x64x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S1x8x64x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true]

abbrev stage0_37 : Fin 2 → Memref sig .tc .vmem S1x8x64x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true, true]

abbrev stage0_38 : Fin 2 → Memref sig .tc .vmem S1x8x64x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true, true]

abbrev stage0_39 : Fin 2 → Memref sig .tc .vmem S1024x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true, false]

abbrev stage0_40 : Fin 2 → Memref sig .tc .vmem S1x8x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true, true]
-- ==== MoeRefIdeal.lean ====
abbrev S16384x1024 : Shape := ⟨2, ![16384, 1024]⟩
abbrev S16384x16 : Shape := ⟨2, ![16384, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S1x5120x128x8x64 : Shape := ⟨5, ![1, 5120, 128, 8, 64]⟩
abbrev S32x128 : Shape := ⟨2, ![32, 128]⟩
abbrev S32x512 : Shape := ⟨2, ![32, 512]⟩
abbrev S16x1024x256 : Shape := ⟨3, ![16, 1024, 256]⟩
abbrev S16384x16x256 : Shape := ⟨3, ![16384, 16, 256]⟩
abbrev S_ : Shape := ⟨0, ![]⟩
abbrev S16384x16x1 : Shape := ⟨3, ![16384, 16, 1]⟩
abbrev S16x256x1024 : Shape := ⟨3, ![16, 256, 1024]⟩
abbrev S16384 : Shape := ⟨1, ![16384]⟩
abbrev S16384x1 : Shape := ⟨2, ![16384, 1]⟩
abbrev S1x1024 : Shape := ⟨2, ![1, 1024]⟩
abbrev S5120x128x8x64 : Shape := ⟨4, ![5120, 128, 8, 64]⟩
abbrev S32x128x1 : Shape := ⟨3, ![32, 128, 1]⟩
abbrev S32x128x128x8x64 : Shape := ⟨5, ![32, 128, 128, 8, 64]⟩
abbrev S32x16384x8x64 : Shape := ⟨4, ![32, 16384, 8, 64]⟩
abbrev S32x64x256x8x64 : Shape := ⟨5, ![32, 64, 256, 8, 64]⟩
abbrev S32x8x64x256x64 : Shape := ⟨5, ![32, 8, 64, 256, 64]⟩
abbrev S32x8x64x64 : Shape := ⟨4, ![32, 8, 64, 64]⟩
abbrev S32x8x64 : Shape := ⟨3, ![32, 8, 64]⟩
abbrev S32x8x128 : Shape := ⟨3, ![32, 8, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x16, .f32⟩
  | .hbm, ⟨3, _⟩ => ⟨S1x16x1024x256, .f32⟩
  | .hbm, ⟨4, _⟩ => ⟨S1x16x1024x256, .f32⟩
  | .hbm, ⟨5, _⟩ => ⟨S1x16x256x1024, .f32⟩
  | .hbm, ⟨6, _⟩ => ⟨S1024, .f32⟩
  | .hbm, ⟨7, _⟩ => ⟨S1x5120x128x8x64, .f32⟩
  | .hbm, ⟨8, _⟩ => ⟨S32x128, .i32⟩
  | .hbm, ⟨9, _⟩ => ⟨S32x512, .f32⟩
  | .hbm, ⟨10, _⟩ => ⟨S16384x1024, .f32⟩
  | .hbm, ⟨11, _⟩ => ⟨S16x1024x256, .f32⟩
  | .hbm, ⟨12, _⟩ => ⟨S16384x16x256, .f32⟩
  | .hbm, ⟨13, _⟩ => ⟨S16384x16x256, .f32⟩
  | .hbm, ⟨14, _⟩ => ⟨S16384x16x256, .f32⟩
  | .hbm, ⟨15, _⟩ => ⟨S_, .f32⟩
  | .hbm, ⟨16, _⟩ => ⟨S16384x16x256, .f32⟩
  | .hbm, ⟨17, _⟩ => ⟨S16384x16x256, .f32⟩
  | .hbm, ⟨18, _⟩ => ⟨S_, .f32⟩
  | .hbm, ⟨19, _⟩ => ⟨S16384x16x256, .f32⟩
  | .hbm, ⟨20, _⟩ => ⟨S16384x16x256, .f32⟩
  | .hbm, ⟨21, _⟩ => ⟨S16384x16x256, .f32⟩
  | .hbm, ⟨22, _⟩ => ⟨S16x1024x256, .f32⟩
  | .hbm, ⟨23, _⟩ => ⟨S16384x16x256, .f32⟩
  | .hbm, ⟨24, _⟩ => ⟨S16384x16x256, .f32⟩
  | .hbm, ⟨25, _⟩ => ⟨S16384x16x1, .f32⟩
  | .hbm, ⟨26, _⟩ => ⟨S16384x16x256, .f32⟩
  | .hbm, ⟨27, _⟩ => ⟨S16384x16x256, .f32⟩
  | .hbm, ⟨28, _⟩ => ⟨S16x256x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S5120x128x8x64, .f32⟩
  | .hbm, ⟨48, _⟩ => ⟨S_, .i32⟩
  | .hbm, ⟨49, _⟩ => ⟨S32x128, .i32⟩
  | .hbm, ⟨50, _⟩ => ⟨S32x128, .i1⟩
  | .hbm, ⟨51, _⟩ => ⟨S_, .i32⟩
  | .hbm, ⟨52, _⟩ => ⟨S32x128, .i32⟩
  | .hbm, ⟨53, _⟩ => ⟨S32x128, .i32⟩
  | .hbm, ⟨54, _⟩ => ⟨S32x128, .i32⟩
  | .hbm, ⟨55, _⟩ => ⟨S32x128x1, .i32⟩
  | .hbm, ⟨56, _⟩ => ⟨S32x128x128x8x64, .f32⟩
  | .hbm, ⟨57, _⟩ => ⟨S32x16384x8x64, .f32⟩
  | .hbm, ⟨58, _⟩ => ⟨S32x64x256x8x64, .f32⟩
  | .hbm, ⟨59, _⟩ => ⟨S32x8x64x256x64, .f32⟩
  | .hbm, ⟨60, _⟩ => ⟨S_, .f32⟩
  | .hbm, ⟨61, _⟩ => ⟨S32x8x64x64, .f32⟩
  | .hbm, ⟨62, _⟩ => ⟨S_, .f32⟩
  | .hbm, ⟨63, _⟩ => ⟨S32x8x64x64, .f32⟩
  | .hbm, ⟨64, _⟩ => ⟨S32x8x64x64, .f32⟩
  | .hbm, ⟨65, _⟩ => ⟨S32x8x64, .f32⟩
  | .hbm, ⟨66, _⟩ => ⟨S32x8x64, .f32⟩
  | .hbm, ⟨67, _⟩ => ⟨S_, .f32⟩
  | .hbm, ⟨68, _⟩ => ⟨S32x8x64, .f32⟩
  | .hbm, ⟨69, _⟩ => ⟨S32x8x64, .f32⟩
  | .hbm, ⟨70, _⟩ => ⟨S_, .i32⟩
  | .hbm, ⟨71, _⟩ => ⟨S_, .f32⟩
  | .hbm, ⟨72, _⟩ => ⟨S32x8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_c_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_c_6 : Ref sig .tc := ⟨.hbm, 70, rfl⟩
abbrev main_call1_v0 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== Inp.lean ====
abbrev S4x4096x1024 : Shape := ⟨3, ![4, 4096, 1024]⟩
abbrev S1x1024 : Shape := ⟨2, ![1, 1024]⟩
abbrev S1x1024x4096 : Shape := ⟨3, ![1, 1024, 4096]⟩
abbrev S16384x1024 : Shape := ⟨2, ![16384, 1024]⟩
abbrev S1024 : Shape := ⟨1, ![1024]⟩
abbrev S1024x4096 : Shape := ⟨2, ![1024, 4096]⟩
abbrev S16384x512 : Shape := ⟨2, ![16384, 512]⟩
abbrev S4x512x4096 : Shape := ⟨3, ![4, 512, 4096]⟩
abbrev S512x1024 : Shape := ⟨2, ![512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S16384x512, .f32⟩
  | .hbm, ⟨9, _⟩ => ⟨S4x512x4096, .f32⟩
  | .hbm, ⟨10, _⟩ => ⟨S4x512x4096, .f32⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev main_v5_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InpRefIdeal.lean ====
abbrev S4x4096x1024 : Shape := ⟨3, ![4, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4x4096x512 : Shape := ⟨3, ![4, 4096, 512]⟩
abbrev S4x512x4096 : Shape := ⟨3, ![4, 512, 4096]⟩
abbrev S16384x512 : Shape := ⟨2, ![16384, 512]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x4096, .f32⟩
  | .hbm, ⟨21, _⟩ => ⟨S4x4096x4096, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x1024, .f32⟩
  | .hbm, ⟨27, _⟩ => ⟨S4x4096x1024, .f32⟩
  | .hbm, ⟨28, _⟩ => ⟨S4x512x4096, .f32⟩
  | .hbm, ⟨29, _⟩ => ⟨S4x512x4096, .f32⟩
  | .hbm, ⟨30, _⟩ => ⟨S16384x512, .f32⟩
  | .hbm, ⟨31, _⟩ => ⟨S16384x512, .f32⟩
  | .hbm, ⟨32, _⟩ => ⟨S16384x512, .bf16⟩
  | .hbm, ⟨33, _⟩ => ⟨S16384x512, .f32⟩
  | .hbm, ⟨34, _⟩ => ⟨S16384x512, .bf16⟩
  | .hbm, ⟨35, _⟩ => ⟨S16384x512, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | .hbm, ⟨45, _⟩ => ⟨S16384x1024, .bf16⟩
  | .hbm, ⟨46, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Mkv.lean ====
abbrev S4x256x1024 : Shape := ⟨3, ![4, 256, 1024]⟩
abbrev S1x1024 : Shape := ⟨2, ![1, 1024]⟩
abbrev S1x1024x512 : Shape := ⟨3, ![1, 1024, 512]⟩
abbrev S1024x1024 : Shape := ⟨2, ![1024, 1024]⟩
abbrev S1024 : Shape := ⟨1, ![1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MkvRefIdeal.lean ====
abbrev S4x256x1024 : Shape := ⟨3, ![4, 256, 1024]⟩
abbrev S1x1024 : Shape := ⟨2, ![1, 1024]⟩
abbrev S1x1024x512 : Shape := ⟨3, ![1, 1024, 512]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x512 : Shape := ⟨2, ![1024, 512]⟩
abbrev S4x256x512 : Shape := ⟨3, ![4, 256, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x512, .f32⟩
  | .hbm, ⟨22, _⟩ => ⟨S4x256x512, .f32⟩
  | .hbm, ⟨23, _⟩ => ⟨S1024x512, .f32⟩
  | .hbm, ⟨24, _⟩ => ⟨S1024x512, .f32⟩
  | .hbm, ⟨25, _⟩ => ⟨S4x256x512, .f32⟩
  | .hbm, ⟨26, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ins.lean ====
abbrev S32x1x1024 : Shape := ⟨3, ![32, 1, 1024]⟩
abbrev S1x1024 : Shape := ⟨2, ![1, 1024]⟩
abbrev S1x1024x4096 : Shape := ⟨3, ![1, 1024, 4096]⟩
abbrev S32x1024 : Shape := ⟨2, ![32, 1024]⟩
abbrev S1024 : Shape := ⟨1, ![1024]⟩
abbrev S1024x4096 : Shape := ⟨2, ![1024, 4096]⟩
abbrev S32x4096 : Shape := ⟨2, ![32, 4096]⟩
abbrev S1024x512 : Shape := ⟨2, ![1024, 512]⟩
abbrev S32x512 : Shape := ⟨2, ![32, 512]⟩
abbrev S32 : Shape := ⟨1, ![32]⟩
abbrev S32x1 : Shape := ⟨2, ![32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4096, .f32⟩
  | .hbm, ⟨3, _⟩ => ⟨S32x1024, .f32⟩
  | .hbm, ⟨4, _⟩ => ⟨S1024, .f32⟩
  | .hbm, ⟨5, _⟩ => ⟨S1x1024, .f32⟩
  | .hbm, ⟨6, _⟩ => ⟨S1024x4096, .f32⟩
  | .hbm, ⟨7, _⟩ => ⟨S32x4096, .f32⟩
  | .local _ .vmem, ⟨0, _⟩ => ⟨S32x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S32x512, .f32⟩
  | .local _ .vmem, ⟨5, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c512_i32 : BitVec 32 := 512#32
  let v0 : BitVec 32 := Scalar.muli arg0 c512_i32
  let c2048_i32 : BitVec 32 := 2048#32
  let v44 : BitVec 1 := Scalar.cmpi .sge v0 c2048_i32
  let c3072_i32 : BitVec 32 := 3072#32
  let v45 : BitVec 1 := Scalar.cmpi .slt v0 c3072_i32
  let v46 : BitVec 1 := Scalar.andi v44 v45
  let v47 : BitVec 32 := Scalar.extui v46
  let c0_i32 : BitVec 32 := 0#32
  let v48 : BitVec 1 := Scalar.cmpi .ne v47 c0_i32
  v48

def k0_cond2 (i : grid0.Coords) : BitVec 1 :=
  let arg0 : BitVec 32 := BitVec.ofNat 32 (i 0).val
  let c512_i32 : BitVec 32 := 512#32
  let v0 : BitVec 32 := Scalar.muli arg0 c512_i32
  let c2048_i32 : BitVec 32 := 2048#32
  let v44 : BitVec 1 := Scalar.cmpi .sge v0 c2048_i32
  let c3072_i32 : BitVec 32 := 3072#32
  let v45 : BitVec 1 := Scalar.cmpi .slt v0 c3072_i32
  let v46 : BitVec 1 := Scalar.andi v44 v45
  let v_true : BitVec 1 := 1#1
  let v49 : BitVec 1 := Scalar.xori v46 v_true
  let v50 : BitVec 32 := Scalar.extui v49
  let c0_i32_13 : BitVec 32 := 0#32
  let v51 : BitVec 1 := Scalar.cmpi .ne v50 c0_i32_13
  v51

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InsRefIdeal.lean ====
abbrev S32x1x1024 : Shape := ⟨3, ![32, 1, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4096 : Shape := ⟨2, ![1024, 4096]⟩
abbrev S32x1x4096 : Shape := ⟨3, ![32, 1, 4096]⟩
abbrev S32x1x512 : Shape := ⟨3, ![32, 1, 512]⟩
abbrev S32x4096 : Shape := ⟨2, ![32, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S32x1x1024, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x1024, .f32⟩
  | .hbm, ⟨16, _⟩ => ⟨S32x1x1024, .f32⟩
  | .hbm, ⟨17, _⟩ => ⟨S1x1x1024, .f32⟩
  | .hbm, ⟨18, _⟩ => ⟨S32x1x1024, .f32⟩
  | .hbm, ⟨19, _⟩ => ⟨S32x1x1024, .f32⟩
  | .hbm, ⟨20, _⟩ => ⟨S1024x4096, .f32⟩
  | .hbm, ⟨21, _⟩ => ⟨S32x1x4096, .f32⟩
  | .hbm, ⟨22, _⟩ => ⟨S32x1x512, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x1x4096, .f32⟩
  | .hbm, ⟨37, _⟩ => ⟨S32x4096, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Mos.lean ====
abbrev S32x1024 : Shape := ⟨2, ![32, 1024]⟩
abbrev S32x16 : Shape := ⟨2, ![32, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S16x1024x256 : Shape := ⟨3, ![16, 1024, 256]⟩
abbrev S16x1024x512 : Shape := ⟨3, ![16, 1024, 512]⟩
abbrev S_ : Shape := ⟨0, ![]⟩
abbrev S32x128 : Shape := ⟨2, ![32, 128]⟩
abbrev S16x256x1024 : Shape := ⟨3, ![16, 256, 1024]⟩
abbrev S1x1024 : Shape := ⟨2, ![1, 1024]⟩
abbrev S2x1024x512 : Shape := ⟨3, ![2, 1024, 512]⟩
abbrev S2x256x1024 : Shape := ⟨3, ![2, 256, 1024]⟩
abbrev S1x1024x512 : Shape := ⟨3, ![1, 1024, 512]⟩
abbrev S1024x512 : Shape := ⟨2, ![1024, 512]⟩
abbrev S32x512 : Shape := ⟨2, ![32, 512]⟩
abbrev S32 : Shape := ⟨1, ![32]⟩
abbrev S32x1 : Shape := ⟨2, ![32, 1]⟩
abbrev S32x256 : Shape := ⟨2, ![32, 256]⟩
abbrev S512x1024 : Shape := ⟨2, ![512, 1024]⟩

abbrev nBuf : Space → Nat
  | .hbm => 18
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S32x16, .f32⟩
  | .hbm, ⟨3, _⟩ => ⟨S1x16x1024x256, .f32⟩
  | .hbm, ⟨4, _⟩ => ⟨S1x16x1024x256, .f32⟩
  | .hbm, ⟨5, _⟩ => ⟨S1x16x256x1024, .f32⟩
  | .hbm, ⟨6, _⟩ => ⟨S1024, .f32⟩
  | .hbm, ⟨7, _⟩ => ⟨S16x1024x256, .f32⟩
  | .hbm, ⟨8, _⟩ => ⟨S16x1024x256, .f32⟩
  | .hbm, ⟨9, _⟩ => ⟨S16x1024x512, .f32⟩
  | .hbm, ⟨10, _⟩ => ⟨S16x1024x512, .bf16⟩
  | .hbm, ⟨11, _⟩ => ⟨S_, .i32⟩
  | .hbm, ⟨12, _⟩ => ⟨S_, .f32⟩
  | .hbm, ⟨13, _⟩ => ⟨S32x128, .f32⟩
  | .hbm, ⟨14, _⟩ => ⟨S16x256x1024, .f32⟩
  | .hbm, ⟨15, _⟩ => ⟨S16x256x1024, .bf16⟩
  | .hbm, ⟨16, _⟩ => ⟨S1x1024, .f32⟩
  | .hbm, ⟨17, _⟩ => ⟨S32x1024, .f32⟩
  | .local _ .vmem, ⟨0, _⟩ => ⟨S32x1024, .f32⟩
  | .local _ .vmem, ⟨1, _⟩ => ⟨S32x1024, .bf16⟩
  | .local _ .vmem, ⟨2, _⟩ => ⟨S32x128, .f32⟩
  | .local _ .vmem, ⟨3, _⟩ => ⟨S2x1024x512, .bf16⟩
  | .local _ .vmem, ⟨4, _⟩ => ⟨S2x1024x512, .bf16⟩
  | .local _ .vmem, ⟨5, _⟩ => ⟨S2x256x1024, .bf16⟩
  | .local _ .vmem, ⟨6, _⟩ => ⟨S2x256x1024, .bf16⟩
  | .local _ .vmem, ⟨7, _⟩ => ⟨S1x1024, .f32⟩
  | .local _ .vmem, ⟨8, _⟩ => ⟨S32x1024, .f32⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MosRefIdeal.lean ====
abbrev S32x1024 : Shape := ⟨2, ![32, 1024]⟩
abbrev S32x16 : Shape := ⟨2, ![32, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S16x1024x256 : Shape := ⟨3, ![16, 1024, 256]⟩
abbrev S32x16x256 : Shape := ⟨3, ![32, 16, 256]⟩
abbrev S_ : Shape := ⟨0, ![]⟩
abbrev S32x16x1 : Shape := ⟨3, ![32, 16, 1]⟩
abbrev S16x256x1024 : Shape := ⟨3, ![16, 256, 1024]⟩
abbrev S32 : Shape := ⟨1, ![32]⟩
abbrev S32x1 : Shape := ⟨2, ![32, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S32x16, .f32⟩
  | .hbm, ⟨3, _⟩ => ⟨S1x16x1024x256, .f32⟩
  | .hbm, ⟨4, _⟩ => ⟨S1x16x1024x256, .f32⟩
  | .hbm, ⟨5, _⟩ => ⟨S1x16x256x1024, .f32⟩
  | .hbm, ⟨6, _⟩ => ⟨S1024, .f32⟩
  | .hbm, ⟨7, _⟩ => ⟨S32x1024, .f32⟩
  | .hbm, ⟨8, _⟩ => ⟨S16x1024x256, .f32⟩
  | .hbm, ⟨9, _⟩ => ⟨S32x16x256, .f32⟩
  | .hbm, ⟨10, _⟩ => ⟨S32x16x256, .f32⟩
  | .hbm, ⟨11, _⟩ => ⟨S32x16x256, .f32⟩
  | .hbm, ⟨12, _⟩ => ⟨S_, .f32⟩
  | .hbm, ⟨13, _⟩ => ⟨S32x16x256, .f32⟩
  | .hbm, ⟨14, _⟩ => ⟨S32x16x256, .f32⟩
  | .hbm, ⟨15, _⟩ => ⟨S_, .f32⟩
  | .hbm, ⟨16, _⟩ => ⟨S32x16x256, .f32⟩
  | .hbm, ⟨17, _⟩ => ⟨S32x16x256, .f32⟩
  | .hbm, ⟨18, _⟩ => ⟨S32x16x256, .f32⟩
  | .hbm, ⟨19, _⟩ => ⟨S16x1024x256, .f32⟩
  | .hbm, ⟨20, _⟩ => ⟨S32x16x256, .f32⟩
  | .hbm, ⟨21, _⟩ => ⟨S32x16x256, .f32⟩
  | .hbm, ⟨22, _⟩ => ⟨S32x16x1, .f32⟩
  | .hbm, ⟨23, _⟩ => ⟨S32x16x256, .f32⟩
  | .hbm, ⟨24, _⟩ => ⟨S32x16x256, .f32⟩
  | .hbm, ⟨25, _⟩ => ⟨S16x256x1024, .f32⟩
  | .hbm, ⟨26, _⟩ => ⟨S32x1024, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32, .f32⟩
  | .hbm, ⟨31, _⟩ => ⟨S32x1, .f32⟩
  | .hbm, ⟨32, _⟩ => ⟨S_, .f32⟩
  | .hbm, ⟨33, _⟩ => ⟨S32x1, .f32⟩
  | .hbm, ⟨34, _⟩ => ⟨S32x1, .f32⟩
  | .hbm, ⟨35, _⟩ => ⟨S_, .f32⟩
  | .hbm, ⟨36, _⟩ => ⟨S32x1, .f32⟩
  | .hbm, ⟨37, _⟩ => ⟨S32x1, .f32⟩
  | .hbm, ⟨38, _⟩ => ⟨S32x1, .f32⟩
  | .hbm, ⟨39, _⟩ => ⟨S32x1024, .f32⟩
  | .hbm, ⟨40, _⟩ => ⟨S32x1024, .f32⟩
  | .hbm, ⟨41, _⟩ => ⟨S1x1024, .f32⟩
  | .hbm, ⟨42, _⟩ => ⟨S32x1024, .f32⟩
  | .hbm, ⟨43, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.PreKeys.lean ====
/- The shape relations the predicate `keys_ok` states, proved. -/
module

public import proofs.«01_k».proof.Pre_keys_ok
public import Idealize.ShloMosaic.Lib.Decide

@[expose] public section

namespace Cert.Pre_keys_ok.Own

open Idealize.ShloMosaic Cert.Pre_keys_ok

/-- The predicate's facts. -/
instance facts : Cert.Pre_keys_ok.Facts where
  bcast_S_S32x128 := by decide
  reducesTo_S32x128_S_d0_1 := by decide
  h_S_ := by decide
  bcast_S_S1x5120x128x8x64 := by decide
  reducesTo_S1x5120x128x8x64_S_d0_1_2_3_4 := by decide
  bcast_S_S32x512 := by decide
  reducesTo_S32x512_S_d0_1 := by decide

end Cert.Pre_keys_ok.Own

end
-- ==== Proof.MoeOk.lean ====
/- The pages a step of the expert-and-key-sum call reads, off the page table. -/
module

public import Idealize.ShloMosaic.Lib.ReduceAll
public import proofs.«01_k».proof.Defs
public import proofs.«01_k».proof.Proof.Gen.MoeIdeal.Frame.Runs
public import proofs.«01_k».proof.Proof.Gen.Pre_pages_ok

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the index map of page operand `r` loads at grid point `i`. -/
def word (pf : pre0.Contents (Elt F)) (i : grid0.Coords) (r : Fin 32) : BitVec 32 :=
  pf.at 0 (Rect.unit (s := S32x128) (k0_off1 i (BitVec.ofNat 32 r.val)) S1x1.size (k0_off1_inb i r)) numel1_S1x1

theorem transform_0 (pf : pre0.Contents (Elt F)) (i : grid0.Coords) :
    cc0_transform_7 k0_off1_inb numel1_S1x1 pf i = ![(word pf i 0).toNat, 0, 0, 0] := rfl
theorem transform_1 (pf : pre0.Contents (Elt F)) (i : grid0.Coords) :
    cc0_transform_8 k0_off1_inb numel1_S1x1 pf i = ![(word pf i 1).toNat, 0, 0, 0] := rfl
theorem transform_2 (pf : pre0.Contents (Elt F)) (i : grid0.Coords) :
    cc0_transform_9 k0_off1_inb numel1_S1x1 pf i = ![(word pf i 2).toNat, 0, 0, 0] := rfl
theorem transform_3 (pf : pre0.Contents (Elt F)) (i : grid0.Coords) :
    cc0_transform_10 k0_off1_inb numel1_S1x1 pf i = ![(word pf i 3).toNat, 0, 0, 0] := rfl
theorem transform_4 (pf : pre0.Contents (Elt F)) (i : grid0.Coords) :
    cc0_transform_11 k0_off1_inb numel1_S1x1 pf i = ![(word pf i 4).toNat, 0, 0, 0] := rfl
theorem transform_5 (pf : pre0.Contents (Elt F)) (i : grid0.Coords) :
    cc0_transform_12 k0_off1_inb numel1_S1x1 pf i = ![(word pf i 5).toNat, 0, 0, 0] := rfl
theorem transform_6 (pf : pre0.Contents (Elt F)) (i : grid0.Coords) :
    cc0_transform_13 k0_off1_inb numel1_S1x1 pf i = ![(word pf i 6).toNat, 0, 0, 0] := rfl
theorem transform_7 (pf : pre0.Contents (Elt F)) (i : grid0.Coords) :
    cc0_transform_14 k0_off1_inb numel1_S1x1 pf i = ![(word pf i 7).toNat, 0, 0, 0] := rfl
theorem transform_8 (pf : pre0.Contents (Elt F)) (i : grid0.Coords) :
    cc0_transform_15 k0_off1_inb numel1_S1x1 pf i = ![(word pf i 8).toNat, 0, 0, 0] := rfl
theorem transform_9 (pf : pre0.Contents (Elt F)) (i : grid0.Coords) :
    cc0_transform_16 k0_off1_inb numel1_S1x1 pf i = ![(word pf i 9).toNat, 0, 0, 0] := rfl
theorem transform_10 (pf : pre0.Contents (Elt F)) (i : grid0.Coords) :
    cc0_transform_17 k0_off1_inb numel1_S1x1 pf i = ![(word pf i 10).toNat, 0, 0, 0] := rfl
theorem transform_11 (pf : pre0.Contents (Elt F)) (i : grid0.Coords) :
    cc0_transform_18 k0_off1_inb numel1_S1x1 pf i = ![(word pf i 11).toNat, 0, 0, 0] := rfl
theorem transform_12 (pf : pre0.Contents (Elt F)) (i : grid0.Coords) :
    cc0_transform_19 k0_off1_inb numel1_S1x1 pf i = ![(word pf i 12).toNat, 0, 0, 0] := rfl
theorem transform_13 (pf : pre0.Contents (Elt F)) (i : grid0.Coords) :
    cc0_transform_20 k0_off1_inb numel1_S1x1 pf i = ![(word pf i 13).toNat, 0, 0, 0] := rfl
theorem transform_14 (pf : pre0.Contents (Elt F)) (i : grid0.Coords) :
    cc0_transform_21 k0_off1_inb numel1_S1x1 pf i = ![(word pf i 14).toNat, 0, 0, 0] := rfl
theorem transform_15 (pf : pre0.Contents (Elt F)) (i : grid0.Coords) :
    cc0_transform_22 k0_off1_inb numel1_S1x1 pf i = ![(word pf i 15).toNat, 0, 0, 0] := rfl
theorem transform_16 (pf : pre0.Contents (Elt F)) (i : grid0.Coords) :
    cc0_transform_23 k0_off1_inb numel1_S1x1 pf i = ![(word pf i 16).toNat, 0, 0, 0] := rfl
theorem transform_17 (pf : pre0.Contents (Elt F)) (i : grid0.Coords) :
    cc0_transform_24 k0_off1_inb numel1_S1x1 pf i = ![(word pf i 17).toNat, 0, 0, 0] := rfl
theorem transform_18 (pf : pre0.Contents (Elt F)) (i : grid0.Coords) :
    cc0_transform_25 k0_off1_inb numel1_S1x1 pf i = ![(word pf i 18).toNat, 0, 0, 0] := rfl
theorem transform_19 (pf : pre0.Contents (Elt F)) (i : grid0.Coords) :
    cc0_transform_26 k0_off1_inb numel1_S1x1 pf i = ![(word pf i 19).toNat, 0, 0, 0] := rfl
theorem transform_20 (pf : pre0.Contents (Elt F)) (i : grid0.Coords) :
    cc0_transform_27 k0_off1_inb numel1_S1x1 pf i = ![(word pf i 20).toNat, 0, 0, 0] := rfl
theorem transform_21 (pf : pre0.Contents (Elt F)) (i : grid0.Coords) :
    cc0_transform_28 k0_off1_inb numel1_S1x1 pf i = ![(word pf i 21).toNat, 0, 0, 0] := rfl
theorem transform_22 (pf : pre0.Contents (Elt F)) (i : grid0.Coords) :
    cc0_transform_29 k0_off1_inb numel1_S1x1 pf i = ![(word pf i 22).toNat, 0, 0, 0] := rfl
theorem transform_23 (pf : pre0.Contents (Elt F)) (i : grid0.Coords) :
    cc0_transform_30 k0_off1_inb numel1_S1x1 pf i = ![(word pf i 23).toNat, 0, 0, 0] := rfl
theorem transform_24 (pf : pre0.Contents (Elt F)) (i : grid0.Coords) :
    cc0_transform_31 k0_off1_inb numel1_S1x1 pf i = ![(word pf i 24).toNat, 0, 0, 0] := rfl
theorem transform_25 (pf : pre0.Contents (Elt F)) (i : grid0.Coords) :
    cc0_transform_32 k0_off1_inb numel1_S1x1 pf i = ![(word pf i 25).toNat, 0, 0, 0] := rfl
theorem transform_26 (pf : pre0.Contents (Elt F)) (i : grid0.Coords) :
    cc0_transform_33 k0_off1_inb numel1_S1x1 pf i = ![(word pf i 26).toNat, 0, 0, 0] := rfl
theorem transform_27 (pf : pre0.Contents (Elt F)) (i : grid0.Coords) :
    cc0_transform_34 k0_off1_inb numel1_S1x1 pf i = ![(word pf i 27).toNat, 0, 0, 0] := rfl
theorem transform_28 (pf : pre0.Contents (Elt F)) (i : grid0.Coords) :
    cc0_transform_35 k0_off1_inb numel1_S1x1 pf i = ![(word pf i 28).toNat, 0, 0, 0] := rfl
theorem transform_29 (pf : pre0.Contents (Elt F)) (i : grid0.Coords) :
    cc0_transform_36 k0_off1_inb numel1_S1x1 pf i = ![(word pf i 29).toNat, 0, 0, 0] := rfl
theorem transform_30 (pf : pre0.Contents (Elt F)) (i : grid0.Coords) :
    cc0_transform_37 k0_off1_inb numel1_S1x1 pf i = ![(word pf i 30).toNat, 0, 0, 0] := rfl
theorem transform_31 (pf : pre0.Contents (Elt F)) (i : grid0.Coords) :
    cc0_transform_38 k0_off1_inb numel1_S1x1 pf i = ![(word pf i 31).toNat, 0, 0, 0] := rfl

/-- A page number below 5120 names a block inside the cache. -/
theorem page_inb (n : ℕ) (h : n < 5120) (a : Fin 4) : (![n, 0, 0, 0] a + 1) * S1x8x64x128.size a ≤ S5120x8x64x128.size a := by
  match a with
  | ⟨0, _⟩ => show (n + 1) * 1 ≤ 5120; omega
  | ⟨1, _⟩ => show (0 + 1) * 8 ≤ 8; omega
  | ⟨2, _⟩ => show (0 + 1) * 64 ≤ 64; omega
  | ⟨3, _⟩ => show (0 + 1) * 128 ≤ 128; omega

/-- When every word of the table is a page of the cache, every block the step reads lies inside it. -/
theorem ok_of_words (pf : pre0.Contents (Elt F)) (h : ∀ i r, (word pf i r).toNat < 5120) : ok0 pf := by
  unfold ok0
  refine ⟨fun i => ⟨by rw [transform_0]; exact page_inb _ (h i 0), Or.inl rfl⟩, fun i => ⟨by rw [transform_1]; exact page_inb _ (h i 1), Or.inl rfl⟩, fun i => ⟨by rw [transform_2]; exact page_inb _ (h i 2), Or.inl rfl⟩, fun i => ⟨by rw [transform_3]; exact page_inb _ (h i 3), Or.inl rfl⟩, fun i => ⟨by rw [transform_4]; exact page_inb _ (h i 4), Or.inl rfl⟩, fun i => ⟨by rw [transform_5]; exact page_inb _ (h i 5), Or.inl rfl⟩, fun i => ⟨by rw [transform_6]; exact page_inb _ (h i 6), Or.inl rfl⟩, fun i => ⟨by rw [transform_7]; exact page_inb _ (h i 7), Or.inl rfl⟩, fun i => ⟨by rw [transform_8]; exact page_inb _ (h i 8), Or.inl rfl⟩, fun i => ⟨by rw [transform_9]; exact page_inb _ (h i 9), Or.inl rfl⟩, fun i => ⟨by rw [transform_10]; exact page_inb _ (h i 10), Or.inl rfl⟩, fun i => ⟨by rw [transform_11]; exact page_inb _ (h i 11), Or.inl rfl⟩, fun i => ⟨by rw [transform_12]; exact page_inb _ (h i 12), Or.inl rfl⟩, fun i => ⟨by rw [transform_13]; exact page_inb _ (h i 13), Or.inl rfl⟩, fun i => ⟨by rw [transform_14]; exact page_inb _ (h i 14), Or.inl rfl⟩, fun i => ⟨by rw [transform_15]; exact page_inb _ (h i 15), Or.inl rfl⟩, fun i => ⟨by rw [transform_16]; exact page_inb _ (h i 16), Or.inl rfl⟩, fun i => ⟨by rw [transform_17]; exact page_inb _ (h i 17), Or.inl rfl⟩, fun i => ⟨by rw [transform_18]; exact page_inb _ (h i 18), Or.inl rfl⟩, fun i => ⟨by rw [transform_19]; exact page_inb _ (h i 19), Or.inl rfl⟩, fun i => ⟨by rw [transform_20]; exact page_inb _ (h i 20), Or.inl rfl⟩, fun i => ⟨by rw [transform_21]; exact page_inb _ (h i 21), Or.inl rfl⟩, fun i => ⟨by rw [transform_22]; exact page_inb _ (h i 22), Or.inl rfl⟩, fun i => ⟨by rw [transform_23]; exact page_inb _ (h i 23), Or.inl rfl⟩, fun i => ⟨by rw [transform_24]; exact page_inb _ (h i 24), Or.inl rfl⟩, fun i => ⟨by rw [transform_25]; exact page_inb _ (h i 25), Or.inl rfl⟩, fun i => ⟨by rw [transform_26]; exact page_inb _ (h i 26), Or.inl rfl⟩, fun i => ⟨by rw [transform_27]; exact page_inb _ (h i 27), Or.inl rfl⟩, fun i => ⟨by rw [transform_28]; exact page_inb _ (h i 28), Or.inl rfl⟩, fun i => ⟨by rw [transform_29]; exact page_inb _ (h i 29), Or.inl rfl⟩, fun i => ⟨by rw [transform_30]; exact page_inb _ (h i 30), Or.inl rfl⟩, fun i => ⟨by rw [transform_31]; exact page_inb _ (h i 31), Or.inl rfl⟩⟩

/-- A word signed between 0 and 5120 is, unsigned, below 5120. -/
theorem page_word (v : BitVec 32) (e : IntOp.andi (IntOp.cmpi .sge v 0#32) (IntOp.cmpi .slt v 5120#32) = 1#1) : v.toNat < 5120 := by
  obtain ⟨h0, h1⟩ := IntOp.andi_eq_one.1 e
  rw [IntOp.cmpi_sge] at h0
  rw [IntOp.cmpi_slt] at h1
  simp only [BitVec.toInt_eq_toNat_cond, BitVec.toNat_ofNat, Nat.reducePow, Nat.reduceMod] at h0 h1
  omega

/-- `jnp.all` of the two comparisons says that every word of the table is a page. -/
theorem pages_of_all {S : Shape} {u t : Shape} {axes : List (Fin S.rank)} [Subsingleton t.Idx] (x z l : IVec S 32) (h : S.ReducesTo axes t) (hu : 0 < u.numel)
    (init : IVec u 1) (j : t.Idx) (hz : ∀ i, z i = 0#32) (hl : ∀ i, l i = 5120#32)
    (e : Host.reduce IntOp.andi (andi (cmpi .sge x z) (cmpi .slt x l)) init h hu j = 1#1) (i : S.Idx) : (x i).toNat < 5120 := by
  have e1 : IntOp.andi (IntOp.cmpi .sge (x i) (z i)) (IntOp.cmpi .slt (x i) (l i)) = 1#1 := Host.reduce_andi_all _ _ _ _ j e i
  rw [hz, hl] at e1
  exact page_word _ e1

instance : Subsingleton (Shape.Idx ⟨0, ![]⟩) := ⟨fun a b => funext fun k => k.elim0⟩

/-- The side condition of the page table from the words themselves. -/
theorem ok_of_table (m : (ℓ : Loc nD τ sig) → Buf (Elt F) ℓ)
    (h : ∀ j : S32x128.Idx, BitVec.toNat (m ((((0 : Dev nD)).tc : Thread nD τ).loc main_arg8) j) < 5120) : Ok m :=
  ok_of_words _ fun i r => by
    show BitVec.toNat (tbl m 0 _) < 5120
    unfold tbl
    show BitVec.toNat (V m (0 : Dev nD) main_arg8 _) < 5120
    rw [V_main_arg8]
    exact h _

/-- The table's words from the predicate `pages_ok`. -/
theorem words_of_pages (a0 a1 a2 a3 a4 a5 a6 a7) (a8 : IVec Cert.Pre_pages_ok.S32x128 32) (a9)
    (h : Cert.Pre_pages_ok.fn (F := F) a0 a1 a2 a3 a4 a5 a6 a7 a8 a9 = fun _ => 1#1) (j) : (a8 j).toNat < 5120 := by
  have e := congrFun h (fun k => k.elim0)
  unfold Cert.Pre_pages_ok.fn at e
  exact pages_of_all a8 _ _ _ _ _ _ (fun _ => rfl) (fun _ => rfl) e j

/-- The page table of the launch memory is sound under `pages_ok`. -/
theorem ok_pages (m : (ℓ : Loc nD τ sig) → Buf (Elt Ideal) ℓ) (h : Cert.Pre_MoeIdeal m) : Ok m :=
  ok_of_table m fun j => words_of_pages _ _ _ _ _ _ _ _ _ _ (h 0) j

end Cert.MoeIdeal.Body

end
-- ==== Proof.MoeStep.lean ====
/- What one step of the expert-and-key-sum call computes, as functions of the blocks it reads. -/
module

public import Idealize.ShloMosaic.Lib.Pipeline.Value
public import Idealize.ShloMosaic.Lib.WritesUnit
public import proofs.«01_k».proof.Proof.Gen.MoeIdeal.Frame.Runs

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step's number of the key quarter of its batch row: the step's position modulo 4, as the call computes it. -/
def quarter (i : grid0.Coords) : BitVec 32 :=
  Scalar.remsi (Scalar.addi (Scalar.muli (BitVec.ofNat 32 (i 0).val) 8#32) (BitVec.ofNat 32 (i 1).val)) 4#32

/-- The lane numbers of a score row. -/
def laneNo : IVec S8x128 32 := iota .tc S8x128 32 [1] iota_S8x128_d1_w32

/-- The lane numbers of a row of the combine matrix. -/
def expertNo : IVec S1024x128 32 := iota .tc S1024x128 32 [1] iota_S1024x128_d1_w32

/-- The block scores a step leaves: the scores it found, with the sixteen blocks of its thirty-two pages put in. -/
def scoreStep (i : grid0.Coords) (x6 : Vec F S1x512x128 .f32) (x7 x8 x9 x10 x11 x12 x13 x14 x15 x16 x17 x18 x19 x20 x21 x22 x23 x24 x25 x26 x27 x28 x29 x30 x31 x32 x33 x34 x35 x36 x37 x38 : Vec F S1x8x64x128 .f32) (s : Vec F S1x8x128 .f32) : Vec F S1x8x128 .f32 :=
  let q := quarter i
  let w := k0_pay5 x6
  let s0 := k0_pay8 q laneNo (k0_pay4 s) w (k0_pay6 i) (k0_pay7 x6 x7 x8) x9 x10
  let s1 := k0_pay10 q laneNo w s0 (k0_pay9 w x11 x12) (Scalar.muli q 16#32) 2#32 x13 x14
  let s2 := k0_pay12 q laneNo w s1 (k0_pay11 w x15 x16) x17 x18
  let s3 := k0_pay14 q laneNo w s2 (k0_pay13 x19) x20 x21 x22
  let s4 := k0_pay16 q laneNo w s3 (k0_pay15 x23) x24 x25 x26
  let s5 := k0_pay17 q laneNo w s4 x27 x28
  let s6 := k0_pay20 q laneNo w s5 (k0_pay18 w x29 x30) (k0_pay19 q laneNo) x31 x32
  let s7 := k0_pay22 q laneNo w s6 (k0_pay21 w x33 x34) x35 x36
  k0_pay24 q laneNo w s7 (k0_pay23 x37 x38)

/-- The accumulator a step leaves: what it found plus the outputs of the step's two experts. -/
def accStep (i : grid0.Coords) (x1 : Vec F S1024x1024 .bf16) (x2 : Vec F S1024x128 .f32) (x3 : Vec F S2x1024x512 .bf16) (x4 : Vec F S2x256x1024 .bf16) (a : Vec F S1024x1024 .f32) : Vec F S1024x1024 .f32 :=
  k0_pay27 (BitVec.ofNat 32 (i 1).val) x1 (k0_pay25 x2) expertNo
    (k0_pay26 (BitVec.ofNat 32 (i 1).val) x1 x2 (View.ld x3 (Rect.unit (s := S2x1024x512) ![0, 0, 0] S1x1024x512.size inb_S2x1024x512_S1x1024x512_0_0_0)))
    (View.ld x3 (Rect.unit (s := S2x1024x512) ![1, 0, 0] S1x1024x512.size inb_S2x1024x512_S1x1024x512_1_0_0)) x4 a

/-- Reading back a list of stores whose last one covered the whole buffer gives that store's value. -/
theorem read_last {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y h (fun a => (Nat.zero_add _).symm)

/-- Holding a whole buffer at contents is holding its cells at those contents. -/
theorem owns_unread (c : Dev nD) {S : Shape} {e : EltTy} (m : Memref sig .tc .vmem S e) (h : m.IsWhole) (X : S.Idx → Elt F e) :
    (owns (c : Thread nD τ) m fullShare X : sProp 𝕄) = (m.view.loc (c : Thread nD τ) ↦[m.view.set]{fullShare} h.unread X) := by
  have h1 : (owns (c : Thread nD τ) m fullShare X : sProp 𝕄) ⊢ (m.view.loc (c : Thread nD τ) ↦[m.view.set]{fullShare} h.unread X) := by
    unfold owns
    iintro ⟨%f, %hf, H⟩
    obtain rfl := h.eq_unread hf
    iexact H
  have h2 : (m.view.loc (c : Thread nD τ) ↦[m.view.set]{fullShare} h.unread X) ⊢ (owns (c : Thread nD τ) m fullShare X : sProp 𝕄) := by
    unfold owns
    iintro H
    iexists _
    isplitr
    · ipureintro; exact h.read_unread _
    iexact H
  exact Idealize.SL.BI.Entails.antisymm h1 h2

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

theorem ld_S1024x1024 {e : EltTy} (X : Vec F S1024x1024 e) (inb) : View.ld (X : S1024x1024.Idx → Elt F e) (Rect.unit (s := S1024x1024) ![0, 0] ![1024, 1024] inb) = X := View.ld_unit_zero z2 _ X
theorem ld_S1024x128 {e : EltTy} (X : Vec F S1024x128 e) (inb) : View.ld (X : S1024x128.Idx → Elt F e) (Rect.unit (s := S1024x128) ![0, 0] ![1024, 128] inb) = X := View.ld_unit_zero z2 _ X
theorem ld_S1x1024 {e : EltTy} (X : Vec F S1x1024 e) (inb) : View.ld (X : S1x1024.Idx → Elt F e) (Rect.unit (s := S1x1024) ![0, 0] ![1, 1024] inb) = X := View.ld_unit_zero z2 _ X
theorem ld_S1x512x128 {e : EltTy} (X : Vec F S1x512x128 e) (inb) : View.ld (X : S1x512x128.Idx → Elt F e) (Rect.unit (s := S1x512x128) ![0, 0, 0] ![1, 512, 128] inb) = X := View.ld_unit_zero z3 _ X
theorem ld_S2x256x1024 {e : EltTy} (X : Vec F S2x256x1024 e) (inb) : View.ld (X : S2x256x1024.Idx → Elt F e) (Rect.unit (s := S2x256x1024) ![0, 0, 0] ![2, 256, 1024] inb) = X := View.ld_unit_zero z3 _ X
theorem ld_S1x8x128 {e : EltTy} (X : Vec F S1x8x128 e) (inb) : View.ld (X : S1x8x128.Idx → Elt F e) (Rect.unit (s := S1x8x128) ![0, 0, 0] ![1, 8, 128] inb) = X := View.ld_unit_zero z3 _ X
theorem ld_S1x8x64x128 {e : EltTy} (X : Vec F S1x8x64x128 e) (inb) : View.ld (X : S1x8x64x128.Idx → Elt F e) (Rect.unit (s := S1x8x64x128) ![0, 0, 0, 0] ![1, 8, 64, 128] inb) = X := View.ld_unit_zero z4 _ X
theorem readCov_S1024x1024 (v : View sig .tc .vmem S1024x1024 .f32) (w : Vec F S1024x1024 .f32) (inb) (inb') :
    v.readCov [(⟨Rect.unit (s := S1024x1024) ![0, 0] ![1024, 1024] inb, w⟩ : View.Piece (Elt F) S1024x1024 .f32)] (Rect.unit (s := S1024x1024) ![0, 0] ![1024, 1024] inb').toLoadRect = w := View.readCov_unit_zero v z2 inb w
theorem readCov_S1x8x128 (v : View sig .tc .vmem S1x8x128 .f32) (w : Vec F S1x8x128 .f32) (inb) (inb') :
    v.readCov [(⟨Rect.unit (s := S1x8x128) ![0, 0, 0] ![1, 8, 128] inb, w⟩ : View.Piece (Elt F) S1x8x128 .f32)] (Rect.unit (s := S1x8x128) ![0, 0, 0] ![1, 8, 128] inb').toLoadRect = w := View.readCov_unit_zero v z3 inb w

end Cert.MoeIdeal.Body

end
-- ==== Proof.MoeRunA.lean ====
/- The body of the expert-and-key-sum call, run at a first step of a token tile whose key block starts an output block. -/
module

public import proofs.«01_k».proof.Proof.MoeStep

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- At a first step of a token tile whose key block starts an output block: from the blocks it reads and whatever its outputs hold, the body ends with the inputs as they were, the scores at `scoreStep` and the accumulator at `accStep`, the output tile untouched. -/
theorem run_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S2x1024x512 .bf16) (harg6 : arg6.IsWhole) (arg7 : Memref sig .tc .vmem S2x256x1024 .bf16) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1024x1024 .f32) (harg42 : arg42.IsWhole) (arg43 : Memref sig .tc .vmem S1x8x128 .f32) (harg43 : arg43.IsWhole) (arg44 : Memref sig .tc .vmem S1024x1024 .f32) (harg44 : arg44.IsWhole) (hc0 : cond0_0 i) (hc1 : cond0_1 i) (hc2 : ¬cond0_2 i)
    (x0 : Vec F S1024x1024 .f32) (x1 : Vec F S1024x1024 .bf16) (x2 : Vec F S1024x128 .f32) (x3 : Vec F S2x1024x512 .bf16) (x4 : Vec F S2x256x1024 .bf16) (x5 : Vec F S1x1024 .f32) (x6 : Vec F S1x512x128 .f32) (x7 x8 x9 x10 x11 x12 x13 x14 x15 x16 x17 x18 x19 x20 x21 x22 x23 x24 x25 x26 x27 x28 x29 x30 x31 x32 x33 x34 x35 x36 x37 x38 : Vec F S1x8x64x128 .f32) (y : Vec F S1024x1024 .f32) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ (∃ d, owns (c : Thread nD τ) arg43 fullShare d) ∗ (∃ d, owns (c : Thread nD τ) arg44 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ owns (c : Thread nD τ) arg43 fullShare (scoreStep i x6 x7 x8 x9 x10 x11 x12 x13 x14 x15 x16 x17 x18 x19 x20 x21 x22 x23 x24 x25 x26 x27 x28 x29 x30 x31 x32 x33 x34 x35 x36 x37 x38 k0_pay2) ∗ owns (c : Thread nD τ) arg44 fullShare (accStep i x1 x2 x3 x4 k0_pay3) ∗ tbPt0 c tbM0_0 xt0) -∗ K ⟨⟩))
      ⊢ wp frame (wpE (defs₀ (F := F)) Variants.none c none) E (cc0_moe_keysums i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_moe_keysums_eq_skeleton]; unfold cc0_moe_keysums_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  simp only [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11, owns_unread c arg12 harg12, owns_unread c arg13 harg13, owns_unread c arg14 harg14, owns_unread c arg15 harg15, owns_unread c arg16 harg16, owns_unread c arg17 harg17, owns_unread c arg18 harg18, owns_unread c arg19 harg19, owns_unread c arg20 harg20, owns_unread c arg21 harg21, owns_unread c arg22 harg22, owns_unread c arg23 harg23, owns_unread c arg24 harg24, owns_unread c arg25 harg25, owns_unread c arg26 harg26, owns_unread c arg27 harg27, owns_unread c arg28 harg28, owns_unread c arg29 harg29, owns_unread c arg30 harg30, owns_unread c arg31 harg31, owns_unread c arg32 harg32, owns_unread c arg33 harg33, owns_unread c arg34 harg34, owns_unread c arg35 harg35, owns_unread c arg36 harg36, owns_unread c arg37 harg37, owns_unread c arg38 harg38, owns_unread c arg39 harg39, owns_unread c arg40 harg40, owns_unread c arg41 harg41, owns_unread c arg42 harg42, owns_unread c arg43 harg43, owns_unread c arg44 harg44]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, ⟨%s, H40⟩, ⟨%a, HS0⟩, HT0, Hk⟩
  sl_exec (disch := first | sl_exact hc0 | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]
  · iapply (Entails.of_eq (owns_unread c arg43 harg43 _))
    unfold owns; iexists _; isplitr; swap; · iexact H40
    ipureintro; refine (read_last _ _ z3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  isplitl [HS0]
  · iapply (Entails.of_eq (owns_unread c arg44 harg44 _))
    unfold owns; iexists _; isplitr; swap; · iexact HS0
    ipureintro; refine (read_last _ _ z2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  iexact HT0

end Cert.MoeIdeal.Body

end
-- ==== Proof.MoeRunB.lean ====
/- The body of the expert-and-key-sum call, run at a step that starts nothing and is not the last of its token tile. -/
module

public import proofs.«01_k».proof.Proof.MoeStep

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- At a step that starts nothing and is not the last of its token tile: from the blocks it reads and whatever its outputs hold, the body ends with the inputs as they were, the scores at `scoreStep` and the accumulator at `accStep`, the output tile untouched. -/
theorem run_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S2x1024x512 .bf16) (harg6 : arg6.IsWhole) (arg7 : Memref sig .tc .vmem S2x256x1024 .bf16) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1024x1024 .f32) (harg42 : arg42.IsWhole) (arg43 : Memref sig .tc .vmem S1x8x128 .f32) (harg43 : arg43.IsWhole) (arg44 : Memref sig .tc .vmem S1024x1024 .f32) (harg44 : arg44.IsWhole) (hc0 : ¬cond0_0 i) (hc1 : ¬cond0_1 i) (hc2 : ¬cond0_2 i)
    (x0 : Vec F S1024x1024 .f32) (x1 : Vec F S1024x1024 .bf16) (x2 : Vec F S1024x128 .f32) (x3 : Vec F S2x1024x512 .bf16) (x4 : Vec F S2x256x1024 .bf16) (x5 : Vec F S1x1024 .f32) (x6 : Vec F S1x512x128 .f32) (x7 x8 x9 x10 x11 x12 x13 x14 x15 x16 x17 x18 x19 x20 x21 x22 x23 x24 x25 x26 x27 x28 x29 x30 x31 x32 x33 x34 x35 x36 x37 x38 : Vec F S1x8x64x128 .f32) (y : Vec F S1024x1024 .f32) (s : Vec F S1x8x128 .f32) (a : Vec F S1024x1024 .f32) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ owns (c : Thread nD τ) arg43 fullShare s ∗ owns (c : Thread nD τ) arg44 fullShare a ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ owns (c : Thread nD τ) arg43 fullShare (scoreStep i x6 x7 x8 x9 x10 x11 x12 x13 x14 x15 x16 x17 x18 x19 x20 x21 x22 x23 x24 x25 x26 x27 x28 x29 x30 x31 x32 x33 x34 x35 x36 x37 x38 s) ∗ owns (c : Thread nD τ) arg44 fullShare (accStep i x1 x2 x3 x4 a) ∗ tbPt0 c tbM0_0 xt0) -∗ K ⟨⟩))
      ⊢ wp frame (wpE (defs₀ (F := F)) Variants.none c none) E (cc0_moe_keysums i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_moe_keysums_eq_skeleton]; unfold cc0_moe_keysums_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  simp only [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11, owns_unread c arg12 harg12, owns_unread c arg13 harg13, owns_unread c arg14 harg14, owns_unread c arg15 harg15, owns_unread c arg16 harg16, owns_unread c arg17 harg17, owns_unread c arg18 harg18, owns_unread c arg19 harg19, owns_unread c arg20 harg20, owns_unread c arg21 harg21, owns_unread c arg22 harg22, owns_unread c arg23 harg23, owns_unread c arg24 harg24, owns_unread c arg25 harg25, owns_unread c arg26 harg26, owns_unread c arg27 harg27, owns_unread c arg28 harg28, owns_unread c arg29 harg29, owns_unread c arg30 harg30, owns_unread c arg31 harg31, owns_unread c arg32 harg32, owns_unread c arg33 harg33, owns_unread c arg34 harg34, owns_unread c arg35 harg35, owns_unread c arg36 harg36, owns_unread c arg37 harg37, owns_unread c arg38 harg38, owns_unread c arg39 harg39, owns_unread c arg40 harg40, owns_unread c arg41 harg41, owns_unread c arg42 harg42, owns_unread c arg43 harg43, owns_unread c arg44 harg44]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HS0, HT0, Hk⟩
  sl_exec (disch := first | sl_exact hc0 | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]
  · iapply (Entails.of_eq (owns_unread c arg43 harg43 _))
    unfold owns; iexists _; isplitr; swap; · iexact H40
    ipureintro; refine (read_last _ _ z3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  isplitl [HS0]
  · iapply (Entails.of_eq (owns_unread c arg44 harg44 _))
    unfold owns; iexists _; isplitr; swap; · iexact HS0
    ipureintro; refine (read_last _ _ z2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  iexact HT0

end Cert.MoeIdeal.Body

end
-- ==== Proof.MoeRunC.lean ====
/- The body of the expert-and-key-sum call, run at a step that starts an output block inside a token tile. -/
module

public import proofs.«01_k».proof.Proof.MoeStep

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- At a step that starts an output block inside a token tile: from the blocks it reads and whatever its outputs hold, the body ends with the inputs as they were, the scores at `scoreStep` and the accumulator at `accStep`, the output tile untouched. -/
theorem run_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S2x1024x512 .bf16) (harg6 : arg6.IsWhole) (arg7 : Memref sig .tc .vmem S2x256x1024 .bf16) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1024x1024 .f32) (harg42 : arg42.IsWhole) (arg43 : Memref sig .tc .vmem S1x8x128 .f32) (harg43 : arg43.IsWhole) (arg44 : Memref sig .tc .vmem S1024x1024 .f32) (harg44 : arg44.IsWhole) (hc0 : cond0_0 i) (hc1 : ¬cond0_1 i) (hc2 : ¬cond0_2 i)
    (x0 : Vec F S1024x1024 .f32) (x1 : Vec F S1024x1024 .bf16) (x2 : Vec F S1024x128 .f32) (x3 : Vec F S2x1024x512 .bf16) (x4 : Vec F S2x256x1024 .bf16) (x5 : Vec F S1x1024 .f32) (x6 : Vec F S1x512x128 .f32) (x7 x8 x9 x10 x11 x12 x13 x14 x15 x16 x17 x18 x19 x20 x21 x22 x23 x24 x25 x26 x27 x28 x29 x30 x31 x32 x33 x34 x35 x36 x37 x38 : Vec F S1x8x64x128 .f32) (y : Vec F S1024x1024 .f32) (a : Vec F S1024x1024 .f32) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ (∃ d, owns (c : Thread nD τ) arg43 fullShare d) ∗ owns (c : Thread nD τ) arg44 fullShare a ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare y ∗ owns (c : Thread nD τ) arg43 fullShare (scoreStep i x6 x7 x8 x9 x10 x11 x12 x13 x14 x15 x16 x17 x18 x19 x20 x21 x22 x23 x24 x25 x26 x27 x28 x29 x30 x31 x32 x33 x34 x35 x36 x37 x38 k0_pay2) ∗ owns (c : Thread nD τ) arg44 fullShare (accStep i x1 x2 x3 x4 a) ∗ tbPt0 c tbM0_0 xt0) -∗ K ⟨⟩))
      ⊢ wp frame (wpE (defs₀ (F := F)) Variants.none c none) E (cc0_moe_keysums i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_moe_keysums_eq_skeleton]; unfold cc0_moe_keysums_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  simp only [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11, owns_unread c arg12 harg12, owns_unread c arg13 harg13, owns_unread c arg14 harg14, owns_unread c arg15 harg15, owns_unread c arg16 harg16, owns_unread c arg17 harg17, owns_unread c arg18 harg18, owns_unread c arg19 harg19, owns_unread c arg20 harg20, owns_unread c arg21 harg21, owns_unread c arg22 harg22, owns_unread c arg23 harg23, owns_unread c arg24 harg24, owns_unread c arg25 harg25, owns_unread c arg26 harg26, owns_unread c arg27 harg27, owns_unread c arg28 harg28, owns_unread c arg29 harg29, owns_unread c arg30 harg30, owns_unread c arg31 harg31, owns_unread c arg32 harg32, owns_unread c arg33 harg33, owns_unread c arg34 harg34, owns_unread c arg35 harg35, owns_unread c arg36 harg36, owns_unread c arg37 harg37, owns_unread c arg38 harg38, owns_unread c arg39 harg39, owns_unread c arg40 harg40, owns_unread c arg41 harg41, owns_unread c arg42 harg42, owns_unread c arg43 harg43, owns_unread c arg44 harg44]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, ⟨%s, H40⟩, HS0, HT0, Hk⟩
  sl_exec (disch := first | sl_exact hc0 | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]
  · iapply (Entails.of_eq (owns_unread c arg43 harg43 _))
    unfold owns; iexists _; isplitr; swap; · iexact H40
    ipureintro; refine (read_last _ _ z3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  isplitl [HS0]
  · iapply (Entails.of_eq (owns_unread c arg44 harg44 _))
    unfold owns; iexists _; isplitr; swap; · iexact HS0
    ipureintro; refine (read_last _ _ z2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  iexact HT0

end Cert.MoeIdeal.Body

end
-- ==== Proof.MoeRunD.lean ====
/- The body of the expert-and-key-sum call, run at a last step of a token tile. -/
module

public import proofs.«01_k».proof.Proof.MoeStep

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- At a last step of a token tile: from the blocks it reads and whatever its outputs hold, the body ends with the inputs as they were, the scores at `scoreStep` and the accumulator at `accStep`, and the output tile at the normalised sum. -/
theorem run_D (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S2x1024x512 .bf16) (harg6 : arg6.IsWhole) (arg7 : Memref sig .tc .vmem S2x256x1024 .bf16) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1024x1024 .f32) (harg42 : arg42.IsWhole) (arg43 : Memref sig .tc .vmem S1x8x128 .f32) (harg43 : arg43.IsWhole) (arg44 : Memref sig .tc .vmem S1024x1024 .f32) (harg44 : arg44.IsWhole) (hc0 : ¬cond0_0 i) (hc1 : ¬cond0_1 i) (hc2 : cond0_2 i)
    (x0 : Vec F S1024x1024 .f32) (x1 : Vec F S1024x1024 .bf16) (x2 : Vec F S1024x128 .f32) (x3 : Vec F S2x1024x512 .bf16) (x4 : Vec F S2x256x1024 .bf16) (x5 : Vec F S1x1024 .f32) (x6 : Vec F S1x512x128 .f32) (x7 x8 x9 x10 x11 x12 x13 x14 x15 x16 x17 x18 x19 x20 x21 x22 x23 x24 x25 x26 x27 x28 x29 x30 x31 x32 x33 x34 x35 x36 x37 x38 : Vec F S1x8x64x128 .f32) (s : Vec F S1x8x128 .f32) (a : Vec F S1024x1024 .f32) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ (∃ d, owns (c : Thread nD τ) arg42 fullShare d) ∗ owns (c : Thread nD τ) arg43 fullShare s ∗ owns (c : Thread nD τ) arg44 fullShare a ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare x36 ∗ owns (c : Thread nD τ) arg40 fullShare x37 ∗ owns (c : Thread nD τ) arg41 fullShare x38 ∗ owns (c : Thread nD τ) arg42 fullShare (k0_pay1 x0 (accStep i x1 x2 x3 x4 a) x5) ∗ owns (c : Thread nD τ) arg43 fullShare (scoreStep i x6 x7 x8 x9 x10 x11 x12 x13 x14 x15 x16 x17 x18 x19 x20 x21 x22 x23 x24 x25 x26 x27 x28 x29 x30 x31 x32 x33 x34 x35 x36 x37 x38 s) ∗ owns (c : Thread nD τ) arg44 fullShare (accStep i x1 x2 x3 x4 a) ∗ tbPt0 c tbM0_0 xt0) -∗ K ⟨⟩))
      ⊢ wp frame (wpE (defs₀ (F := F)) Variants.none c none) E (cc0_moe_keysums i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_moe_keysums_eq_skeleton]; unfold cc0_moe_keysums_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  simp only [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11, owns_unread c arg12 harg12, owns_unread c arg13 harg13, owns_unread c arg14 harg14, owns_unread c arg15 harg15, owns_unread c arg16 harg16, owns_unread c arg17 harg17, owns_unread c arg18 harg18, owns_unread c arg19 harg19, owns_unread c arg20 harg20, owns_unread c arg21 harg21, owns_unread c arg22 harg22, owns_unread c arg23 harg23, owns_unread c arg24 harg24, owns_unread c arg25 harg25, owns_unread c arg26 harg26, owns_unread c arg27 harg27, owns_unread c arg28 harg28, owns_unread c arg29 harg29, owns_unread c arg30 harg30, owns_unread c arg31 harg31, owns_unread c arg32 harg32, owns_unread c arg33 harg33, owns_unread c arg34 harg34, owns_unread c arg35 harg35, owns_unread c arg36 harg36, owns_unread c arg37 harg37, owns_unread c arg38 harg38, owns_unread c arg39 harg39, owns_unread c arg40 harg40, owns_unread c arg41 harg41, owns_unread c arg42 harg42, owns_unread c arg43 harg43, owns_unread c arg44 harg44]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, ⟨%y, H39⟩, H40, HS0, HT0, Hk⟩
  sl_exec (disch := first | sl_exact hc0 | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]
  · iapply (Entails.of_eq (owns_unread c arg42 harg42 _))
    unfold owns; iexists _; isplitr; swap; · iexact H39
    ipureintro; refine (read_last _ _ z2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  isplitl [H40]
  · iapply (Entails.of_eq (owns_unread c arg43 harg43 _))
    unfold owns; iexists _; isplitr; swap; · iexact H40
    ipureintro; refine (read_last _ _ z3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  isplitl [HS0]
  · iapply (Entails.of_eq (owns_unread c arg44 harg44 _))
    unfold owns; iexists _; isplitr; swap; · iexact HS0
    ipureintro; refine (read_last _ _ z2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, ld_S1024x1024, ld_S1024x128, ld_S1x1024, ld_S1x512x128, ld_S2x256x1024, ld_S1x8x128, ld_S1x8x64x128, readCov_S1024x1024, readCov_S1x8x128]
    rfl
  iexact HT0

end Cert.MoeIdeal.Body

end
-- ==== Proof.MoeOuts.lean ====
/- What the expert-and-key-sum call leaves after each of its steps. -/
module

public import proofs.«01_k».proof.Proof.MoeRunA
public import proofs.«01_k».proof.Proof.MoeRunB
public import proofs.«01_k».proof.Proof.MoeRunC
public import proofs.«01_k».proof.Proof.MoeRunD

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scores step `t` leaves over the scores `s`. -/
def scAt (hO : Ok m) (c : Dev nD) (t : Fin (cfgM m hO).N) (s : Vec F S1x8x128 .f32) : Vec F S1x8x128 .f32 :=
  scoreStep (grid0.coords t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) s

/-- The accumulator step `t` leaves over the accumulator `a`. -/
def acAt (hO : Ok m) (c : Dev nD) (t : Fin (cfgM m hO).N) (a : Vec F S1024x1024 .f32) : Vec F S1024x1024 .f32 :=
  accStep (grid0.coords t) (iblk m hO c 1 t) (iblk m hO c 2 t) (iblk m hO c 3 t) (iblk m hO c 4 t) a

/-- The output tile step `t` writes when its accumulator ends at `a`. -/
def outAt (hO : Ok m) (c : Dev nD) (t : Fin (cfgM m hO).N) (a : Vec F S1024x1024 .f32) : Vec F S1024x1024 .f32 := k0_pay1 (iblk m hO c 0 t) a (iblk m hO c 5 t)

/-- What the output tile, the scores and the accumulator hold after step `n`: the scores start afresh at every fourth
    step, the accumulator at every eighth; the output tile is stored at the last step of each eight (elsewhere its
    component stands for nothing that is read). -/
def outsAt0 (hO : Ok m) (c : Dev nD) : (n : ℕ) → n < (cfgM m hO).N → Vec F S1024x1024 .f32 × Vec F S1x8x128 .f32 × Vec F S1024x1024 .f32
  | 0, hn => (outAt m hO c ⟨0, hn⟩ (acAt m hO c ⟨0, hn⟩ k0_pay3), scAt m hO c ⟨0, hn⟩ k0_pay2, acAt m hO c ⟨0, hn⟩ k0_pay3)
  | n + 1, hn =>
    (outAt m hO c ⟨n + 1, hn⟩ (acAt m hO c ⟨n + 1, hn⟩ (if (n + 1) % 8 = 0 then k0_pay3 else (outsAt0 hO c n (Nat.lt_of_succ_lt hn)).2.2)),
     scAt m hO c ⟨n + 1, hn⟩ (if (n + 1) % 4 = 0 then k0_pay2 else (outsAt0 hO c n (Nat.lt_of_succ_lt hn)).2.1),
     acAt m hO c ⟨n + 1, hn⟩ (if (n + 1) % 8 = 0 then k0_pay3 else (outsAt0 hO c n (Nat.lt_of_succ_lt hn)).2.2))

/-- The state before step `t`'s stores: the scores it starts from. -/
def scIn (hO : Ok m) (c : Dev nD) (t : Fin (cfgM m hO).N) : Vec F S1x8x128 .f32 :=
  if t.val % 4 = 0 then k0_pay2 else (outsAt0 m hO c (t.val - 1) (Nat.lt_of_le_of_lt (Nat.sub_le _ _) t.isLt)).2.1

/-- The accumulator step `t` starts from. -/
def acIn (hO : Ok m) (c : Dev nD) (t : Fin (cfgM m hO).N) : Vec F S1024x1024 .f32 :=
  if t.val % 8 = 0 then k0_pay3 else (outsAt0 m hO c (t.val - 1) (Nat.lt_of_le_of_lt (Nat.sub_le _ _) t.isLt)).2.2

/-- After step `t`, whatever the step. -/
theorem outsAt0_eq (hO : Ok m) (c : Dev nD) (t : Fin (cfgM m hO).N) :
    outsAt0 m hO c t.val t.isLt = (outAt m hO c t (acAt m hO c t (acIn m hO c t)), scAt m hO c t (scIn m hO c t), acAt m hO c t (acIn m hO c t)) := by
  obtain ⟨n, hn⟩ := t
  cases n with
  | zero => rfl
  | succ n => rfl

end Cert.MoeIdeal.Body

end
-- ==== Proof.MoeBody.lean ====
/- What a step of the expert-and-key-sum call is given and what it must leave. -/
module

public import proofs.«01_k».proof.Proof.MoeOuts

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => (outsAt0 m hO c t.val t.isLt).1
    | ⟨40, _⟩ => (outsAt0 m hO c t.val t.isLt).2.1
    | ⟨_ + 41, h⟩ => absurd h (Nat.not_lt.2 (Nat.le_add_left _ _))
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = (outsAt0 m hO c t.val t.isLt).1 := by dsimp only [dats]; try rfl
theorem after0_40 (hO : Ok m) (c : Dev nD) (t : Fin (cfgM m hO).N) : (dats m hO 0 c).after 40 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
/-- At a point that does not start an output block the scores' staging buffer holds what the point before left. -/
theorem before0_40 (hO : Ok m) (c : Dev nD) (t : Fin (cfgM m hO).N) (h0 : ¬t.val % 4 = 0) (d) :
    (dats m hO 0 c).before 40 t d = (outsAt0 m hO c (t.val - 1) (Nat.lt_of_le_of_lt (Nat.sub_le _ _) t.isLt)).2.1 := by
  have hN : t.val < 128 := lt_of_lt_of_eq t.isLt (show (cfgM m hO).N = 128 from N_0)
  rw [Dat.before_out_kept _ 40 rfl t (by omega) (Bool.eq_false_iff.mpr fun h => by have := (flush0_40 (adm m hO) _).mp h; dsimp only at this; omega)
    (fun _ => rfl) (fun _ _ => rfl)]
  dsimp only [dats]
  try rfl

/-- Whatever the point, the invariant gives the accumulator's buffer at some contents. -/
theorem PhiS_any (hO : Ok m) (c : Dev nD) (n : ℕ) (h : n ≤ (cfgM m hO).N) :
    PhiS m hO c n h ⊢ iprop(iprop(iprop((∃ d, owns (c : Thread nD τ) scM0_0 fullShare d)) ∗ (∃ r, prngReg c r)) ∗ Pipeline.ΦT pre0 (tbl m) c) := by
  cases n with
  | zero => rw [PhiS_zero m hO c 0 h rfl, PhiA0_eq]
  | succ n =>
    rw [PhiS_succ m hO c n h]
    iintro ⟨⟨HS0, Hg⟩, HT0⟩
    isplitl [HS0 Hg]
    · isplitl [HS0]
      · iexists _; iexact HS0
      iexact Hg
    iexact HT0

theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]
theorem leaves0_8 (hO : Ok m) (c : Dev nD) (t : Fin (cfgM m hO).N) : (dats m hO 0 c).leavesExact 8 t = owns (c : Thread nD τ) (ms0_8 m hO t) fullShare (iblk m hO c 8 t) := by
  rw [show (dats m hO 0 c).leavesExact 8 t = owns (c : Thread nD τ) (ms0_8 m hO t) fullShare ((dats m hO 0 c).after 8 t) from by
    unfold Dat.leavesExact; rw [liveAt0_8 m hO t]; try rfl, after0_8]
theorem leaves0_9 (hO : Ok m) (c : Dev nD) (t : Fin (cfgM m hO).N) : (dats m hO 0 c).leavesExact 9 t = owns (c : Thread nD τ) (ms0_9 m hO t) fullShare (iblk m hO c 9 t) := by
  rw [show (dats m hO 0 c).leavesExact 9 t = owns (c : Thread nD τ) (ms0_9 m hO t) fullShare ((dats m hO 0 c).after 9 t) from by
    unfold Dat.leavesExact; rw [liveAt0_9 m hO t]; try rfl, after0_9]
theorem leaves0_10 (hO : Ok m) (c : Dev nD) (t : Fin (cfgM m hO).N) : (dats m hO 0 c).leavesExact 10 t = owns (c : Thread nD τ) (ms0_10 m hO t) fullShare (iblk m hO c 10 t) := by
  rw [show (dats m hO 0 c).leavesExact 10 t = owns (c : Thread nD τ) (ms0_10 m hO t) fullShare ((dats m hO 0 c).after 10 t) from by
    unfold Dat.leavesExact; rw [liveAt0_10 m hO t]; try rfl, after0_10]
theorem leaves0_11 (hO : Ok m) (c : Dev nD) (t : Fin (cfgM m hO).N) : (dats m hO 0 c).leavesExact 11 t = owns (c : Thread nD τ) (ms0_11 m hO t) fullShare (iblk m hO c 11 t) := by
  rw [show (dats m hO 0 c).leavesExact 11 t = owns (c : Thread nD τ) (ms0_11 m hO t) fullShare ((dats m hO 0 c).after 11 t) from by
    unfold Dat.leavesExact; rw [liveAt0_11 m hO t]; try rfl, after0_11]
theorem leaves0_12 (hO : Ok m) (c : Dev nD) (t : Fin (cfgM m hO).N) : (dats m hO 0 c).leavesExact 12 t = owns (c : Thread nD τ) (ms0_12 m hO t) fullShare (iblk m hO c 12 t) := by
  rw [show (dats m hO 0 c).leavesExact 12 t = owns (c : Thread nD τ) (ms0_12 m hO t) fullShare ((dats m hO 0 c).after 12 t) from by
    unfold Dat.leavesExact; rw [liveAt0_12 m hO t]; try rfl, after0_12]
theorem leaves0_13 (hO : Ok m) (c : Dev nD) (t : Fin (cfgM m hO).N) : (dats m hO 0 c).leavesExact 13 t = owns (c : Thread nD τ) (ms0_13 m hO t) fullShare (iblk m hO c 13 t) := by
  rw [show (dats m hO 0 c).leavesExact 13 t = owns (c : Thread nD τ) (ms0_13 m hO t) fullShare ((dats m hO 0 c).after 13 t) from by
    unfold Dat.leavesExact; rw [liveAt0_13 m hO t]; try rfl, after0_13]
theorem leaves0_14 (hO : Ok m) (c : Dev nD) (t : Fin (cfgM m hO).N) : (dats m hO 0 c).leavesExact 14 t = owns (c : Thread nD τ) (ms0_14 m hO t) fullShare (iblk m hO c 14 t) := by
  rw [show (dats m hO 0 c).leavesExact 14 t = owns (c : Thread nD τ) (ms0_14 m hO t) fullShare ((dats m hO 0 c).after 14 t) from by
    unfold Dat.leavesExact; rw [liveAt0_14 m hO t]; try rfl, after0_14]
theorem leaves0_15 (hO : Ok m) (c : Dev nD) (t : Fin (cfgM m hO).N) : (dats m hO 0 c).leavesExact 15 t = owns (c : Thread nD τ) (ms0_15 m hO t) fullShare (iblk m hO c 15 t) := by
  rw [show (dats m hO 0 c).leavesExact 15 t = owns (c : Thread nD τ) (ms0_15 m hO t) fullShare ((dats m hO 0 c).after 15 t) from by
    unfold Dat.leavesExact; rw [liveAt0_15 m hO t]; try rfl, after0_15]
theorem leaves0_16 (hO : Ok m) (c : Dev nD) (t : Fin (cfgM m hO).N) : (dats m hO 0 c).leavesExact 16 t = owns (c : Thread nD τ) (ms0_16 m hO t) fullShare (iblk m hO c 16 t) := by
  rw [show (dats m hO 0 c).leavesExact 16 t = owns (c : Thread nD τ) (ms0_16 m hO t) fullShare ((dats m hO 0 c).after 16 t) from by
    unfold Dat.leavesExact; rw [liveAt0_16 m hO t]; try rfl, after0_16]
theorem leaves0_17 (hO : Ok m) (c : Dev nD) (t : Fin (cfgM m hO).N) : (dats m hO 0 c).leavesExact 17 t = owns (c : Thread nD τ) (ms0_17 m hO t) fullShare (iblk m hO c 17 t) := by
  rw [show (dats m hO 0 c).leavesExact 17 t = owns (c : Thread nD τ) (ms0_17 m hO t) fullShare ((dats m hO 0 c).after 17 t) from by
    unfold Dat.leavesExact; rw [liveAt0_17 m hO t]; try rfl, after0_17]
theorem leaves0_18 (hO : Ok m) (c : Dev nD) (t : Fin (cfgM m hO).N) : (dats m hO 0 c).leavesExact 18 t = owns (c : Thread nD τ) (ms0_18 m hO t) fullShare (iblk m hO c 18 t) := by
  rw [show (dats m hO 0 c).leavesExact 18 t = owns (c : Thread nD τ) (ms0_18 m hO t) fullShare ((dats m hO 0 c).after 18 t) from by
    unfold Dat.leavesExact; rw [liveAt0_18 m hO t]; try rfl, after0_18]
theorem leaves0_19 (hO : Ok m) (c : Dev nD) (t : Fin (cfgM m hO).N) : (dats m hO 0 c).leavesExact 19 t = owns (c : Thread nD τ) (ms0_19 m hO t) fullShare (iblk m hO c 19 t) := by
  rw [show (dats m hO 0 c).leavesExact 19 t = owns (c : Thread nD τ) (ms0_19 m hO t) fullShare ((dats m hO 0 c).after 19 t) from by
    unfold Dat.leavesExact; rw [liveAt0_19 m hO t]; try rfl, after0_19]
theorem leaves0_20 (hO : Ok m) (c : Dev nD) (t : Fin (cfgM m hO).N) : (dats m hO 0 c).leavesExact 20 t = owns (c : Thread nD τ) (ms0_20 m hO t) fullShare (iblk m hO c 20 t) := by
  rw [show (dats m hO 0 c).leavesExact 20 t = owns (c : Thread nD τ) (ms0_20 m hO t) fullShare ((dats m hO 0 c).after 20 t) from by
    unfold Dat.leavesExact; rw [liveAt0_20 m hO t]; try rfl, after0_20]
theorem leaves0_21 (hO : Ok m) (c : Dev nD) (t : Fin (cfgM m hO).N) : (dats m hO 0 c).leavesExact 21 t = owns (c : Thread nD τ) (ms0_21 m hO t) fullShare (iblk m hO c 21 t) := by
  rw [show (dats m hO 0 c).leavesExact 21 t = owns (c : Thread nD τ) (ms0_21 m hO t) fullShare ((dats m hO 0 c).after 21 t) from by
    unfold Dat.leavesExact; rw [liveAt0_21 m hO t]; try rfl, after0_21]
theorem leaves0_22 (hO : Ok m) (c : Dev nD) (t : Fin (cfgM m hO).N) : (dats m hO 0 c).leavesExact 22 t = owns (c : Thread nD τ) (ms0_22 m hO t) fullShare (iblk m hO c 22 t) := by
  rw [show (dats m hO 0 c).leavesExact 22 t = owns (c : Thread nD τ) (ms0_22 m hO t) fullShare ((dats m hO 0 c).after 22 t) from by
    unfold Dat.leavesExact; rw [liveAt0_22 m hO t]; try rfl, after0_22]
theorem leaves0_23 (hO : Ok m) (c : Dev nD) (t : Fin (cfgM m hO).N) : (dats m hO 0 c).leavesExact 23 t = owns (c : Thread nD τ) (ms0_23 m hO t) fullShare (iblk m hO c 23 t) := by
  rw [show (dats m hO 0 c).leavesExact 23 t = owns (c : Thread nD τ) (ms0_23 m hO t) fullShare ((dats m hO 0 c).after 23 t) from by
    unfold Dat.leavesExact; rw [liveAt0_23 m hO t]; try rfl, after0_23]
theorem leaves0_24 (hO : Ok m) (c : Dev nD) (t : Fin (cfgM m hO).N) : (dats m hO 0 c).leavesExact 24 t = owns (c : Thread nD τ) (ms0_24 m hO t) fullShare (iblk m hO c 24 t) := by
  rw [show (dats m hO 0 c).leavesExact 24 t = owns (c : Thread nD τ) (ms0_24 m hO t) fullShare ((dats m hO 0 c).after 24 t) from by
    unfold Dat.leavesExact; rw [liveAt0_24 m hO t]; try rfl, after0_24]
theorem leaves0_25 (hO : Ok m) (c : Dev nD) (t : Fin (cfgM m hO).N) : (dats m hO 0 c).leavesExact 25 t = owns (c : Thread nD τ) (ms0_25 m hO t) fullShare (iblk m hO c 25 t) := by
  rw [show (dats m hO 0 c).leavesExact 25 t = owns (c : Thread nD τ) (ms0_25 m hO t) fullShare ((dats m hO 0 c).after 25 t) from by
    unfold Dat.leavesExact; rw [liveAt0_25 m hO t]; try rfl, after0_25]
theorem leaves0_26 (hO : Ok m) (c : Dev nD) (t : Fin (cfgM m hO).N) : (dats m hO 0 c).leavesExact 26 t = owns (c : Thread nD τ) (ms0_26 m hO t) fullShare (iblk m hO c 26 t) := by
  rw [show (dats m hO 0 c).leavesExact 26 t = owns (c : Thread nD τ) (ms0_26 m hO t) fullShare ((dats m hO 0 c).after 26 t) from by
    unfold Dat.leavesExact; rw [liveAt0_26 m hO t]; try rfl, after0_26]
theorem leaves0_27 (hO : Ok m) (c : Dev nD) (t : Fin (cfgM m hO).N) : (dats m hO 0 c).leavesExact 27 t = owns (c : Thread nD τ) (ms0_27 m hO t) fullShare (iblk m hO c 27 t) := by
  rw [show (dats m hO 0 c).leavesExact 27 t = owns (c : Thread nD τ) (ms0_27 m hO t) fullShare ((dats m hO 0 c).after 27 t) from by
    unfold Dat.leavesExact; rw [liveAt0_27 m hO t]; try rfl, after0_27]
theorem leaves0_28 (hO : Ok m) (c : Dev nD) (t : Fin (cfgM m hO).N) : (dats m hO 0 c).leavesExact 28 t = owns (c : Thread nD τ) (ms0_28 m hO t) fullShare (iblk m hO c 28 t) := by
  rw [show (dats m hO 0 c).leavesExact 28 t = owns (c : Thread nD τ) (ms0_28 m hO t) fullShare ((dats m hO 0 c).after 28 t) from by
    unfold Dat.leavesExact; rw [liveAt0_28 m hO t]; try rfl, after0_28]
theorem leaves0_29 (hO : Ok m) (c : Dev nD) (t : Fin (cfgM m hO).N) : (dats m hO 0 c).leavesExact 29 t = owns (c : Thread nD τ) (ms0_29 m hO t) fullShare (iblk m hO c 29 t) := by
  rw [show (dats m hO 0 c).leavesExact 29 t = owns (c : Thread nD τ) (ms0_29 m hO t) fullShare ((dats m hO 0 c).after 29 t) from by
    unfold Dat.leavesExact; rw [liveAt0_29 m hO t]; try rfl, after0_29]
theorem leaves0_30 (hO : Ok m) (c : Dev nD) (t : Fin (cfgM m hO).N) : (dats m hO 0 c).leavesExact 30 t = owns (c : Thread nD τ) (ms0_30 m hO t) fullShare (iblk m hO c 30 t) := by
  rw [show (dats m hO 0 c).leavesExact 30 t = owns (c : Thread nD τ) (ms0_30 m hO t) fullShare ((dats m hO 0 c).after 30 t) from by
    unfold Dat.leavesExact; rw [liveAt0_30 m hO t]; try rfl, after0_30]
theorem leaves0_31 (hO : Ok m) (c : Dev nD) (t : Fin (cfgM m hO).N) : (dats m hO 0 c).leavesExact 31 t = owns (c : Thread nD τ) (ms0_31 m hO t) fullShare (iblk m hO c 31 t) := by
  rw [show (dats m hO 0 c).leavesExact 31 t = owns (c : Thread nD τ) (ms0_31 m hO t) fullShare ((dats m hO 0 c).after 31 t) from by
    unfold Dat.leavesExact; rw [liveAt0_31 m hO t]; try rfl, after0_31]
theorem leaves0_32 (hO : Ok m) (c : Dev nD) (t : Fin (cfgM m hO).N) : (dats m hO 0 c).leavesExact 32 t = owns (c : Thread nD τ) (ms0_32 m hO t) fullShare (iblk m hO c 32 t) := by
  rw [show (dats m hO 0 c).leavesExact 32 t = owns (c : Thread nD τ) (ms0_32 m hO t) fullShare ((dats m hO 0 c).after 32 t) from by
    unfold Dat.leavesExact; rw [liveAt0_32 m hO t]; try rfl, after0_32]
theorem leaves0_33 (hO : Ok m) (c : Dev nD) (t : Fin (cfgM m hO).N) : (dats m hO 0 c).leavesExact 33 t = owns (c : Thread nD τ) (ms0_33 m hO t) fullShare (iblk m hO c 33 t) := by
  rw [show (dats m hO 0 c).leavesExact 33 t = owns (c : Thread nD τ) (ms0_33 m hO t) fullShare ((dats m hO 0 c).after 33 t) from by
    unfold Dat.leavesExact; rw [liveAt0_33 m hO t]; try rfl, after0_33]
theorem leaves0_34 (hO : Ok m) (c : Dev nD) (t : Fin (cfgM m hO).N) : (dats m hO 0 c).leavesExact 34 t = owns (c : Thread nD τ) (ms0_34 m hO t) fullShare (iblk m hO c 34 t) := by
  rw [show (dats m hO 0 c).leavesExact 34 t = owns (c : Thread nD τ) (ms0_34 m hO t) fullShare ((dats m hO 0 c).after 34 t) from by
    unfold Dat.leavesExact; rw [liveAt0_34 m hO t]; try rfl, after0_34]
theorem leaves0_35 (hO : Ok m) (c : Dev nD) (t : Fin (cfgM m hO).N) : (dats m hO 0 c).leavesExact 35 t = owns (c : Thread nD τ) (ms0_35 m hO t) fullShare (iblk m hO c 35 t) := by
  rw [show (dats m hO 0 c).leavesExact 35 t = owns (c : Thread nD τ) (ms0_35 m hO t) fullShare ((dats m hO 0 c).after 35 t) from by
    unfold Dat.leavesExact; rw [liveAt0_35 m hO t]; try rfl, after0_35]
theorem leaves0_36 (hO : Ok m) (c : Dev nD) (t : Fin (cfgM m hO).N) : (dats m hO 0 c).leavesExact 36 t = owns (c : Thread nD τ) (ms0_36 m hO t) fullShare (iblk m hO c 36 t) := by
  rw [show (dats m hO 0 c).leavesExact 36 t = owns (c : Thread nD τ) (ms0_36 m hO t) fullShare ((dats m hO 0 c).after 36 t) from by
    unfold Dat.leavesExact; rw [liveAt0_36 m hO t]; try rfl, after0_36]
theorem leaves0_37 (hO : Ok m) (c : Dev nD) (t : Fin (cfgM m hO).N) : (dats m hO 0 c).leavesExact 37 t = owns (c : Thread nD τ) (ms0_37 m hO t) fullShare (iblk m hO c 37 t) := by
  rw [show (dats m hO 0 c).leavesExact 37 t = owns (c : Thread nD τ) (ms0_37 m hO t) fullShare ((dats m hO 0 c).after 37 t) from by
    unfold Dat.leavesExact; rw [liveAt0_37 m hO t]; try rfl, after0_37]
theorem leaves0_38 (hO : Ok m) (c : Dev nD) (t : Fin (cfgM m hO).N) : (dats m hO 0 c).leavesExact 38 t = owns (c : Thread nD τ) (ms0_38 m hO t) fullShare (iblk m hO c 38 t) := by
  rw [show (dats m hO 0 c).leavesExact 38 t = owns (c : Thread nD τ) (ms0_38 m hO t) fullShare ((dats m hO 0 c).after 38 t) from by
    unfold Dat.leavesExact; rw [liveAt0_38 m hO t]; try rfl, after0_38]
theorem leaves0_40 (hO : Ok m) (c : Dev nD) (t : Fin (cfgM m hO).N) : (dats m hO 0 c).leavesExact 40 t = owns (c : Thread nD τ) (ms0_40 m hO t) fullShare ((outsAt0 m hO c t.val t.isLt).2.1) := by
  rw [show (dats m hO 0 c).leavesExact 40 t = owns (c : Thread nD τ) (ms0_40 m hO t) fullShare ((dats m hO 0 c).after 40 t) from by
    unfold Dat.leavesExact; rw [liveAt0_40 m hO t]; try rfl, after0_40]
theorem leaves0_39 (hO : Ok m) (c : Dev nD) (t : Fin (cfgM m hO).N) (h0 : ¬t.val % 4 = 0) (h1 : ¬t.val % 8 = 0) (h2 : t.val % 8 = 7) :
    (dats m hO 0 c).leavesExact 39 t = owns (c : Thread nD τ) (ms0_39 m hO t) fullShare ((outsAt0 m hO c t.val t.isLt).1) := by
  rw [show (dats m hO 0 c).leavesExact 39 t = owns (c : Thread nD τ) (ms0_39 m hO t) fullShare ((dats m hO 0 c).after 39 t) from by
    unfold Dat.leavesExact; rw [liveAt0_39_D m hO t (fun h => h0 ((hcond0_0 t).mp h)) (fun h => h1 ((hcond0_1 t).mp h)) ((hcond0_2 t).mpr h2)]; try rfl, after0_39]

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t
    ∗ (dats m hO 0 c).leavesExact 22 t
    ∗ (dats m hO 0 c).leavesExact 23 t
    ∗ (dats m hO 0 c).leavesExact 24 t
    ∗ (dats m hO 0 c).leavesExact 25 t
    ∗ (dats m hO 0 c).leavesExact 26 t
    ∗ (dats m hO 0 c).leavesExact 27 t
    ∗ (dats m hO 0 c).leavesExact 28 t
    ∗ (dats m hO 0 c).leavesExact 29 t
    ∗ (dats m hO 0 c).leavesExact 30 t
    ∗ (dats m hO 0 c).leavesExact 31 t
    ∗ (dats m hO 0 c).leavesExact 32 t
    ∗ (dats m hO 0 c).leavesExact 33 t
    ∗ (dats m hO 0 c).leavesExact 34 t
    ∗ (dats m hO 0 c).leavesExact 35 t
    ∗ (dats m hO 0 c).leavesExact 36 t
    ∗ (dats m hO 0 c).leavesExact 37 t
    ∗ (dats m hO 0 c).leavesExact 38 t
    ∗ (dats m hO 0 c).leavesExact 39 t
    ∗ (dats m hO 0 c).leavesExact 40 t)

end Cert.MoeIdeal.Body

end
-- ==== Proof.MoeFrame.lean ====
/- The expert-and-key-sum call from start to end: every step does what `MoeOuts` says, and the arguments end unchanged. -/
module

public import Idealize.ShloMosaic.Lib.Claim
public import proofs.«01_k».proof.Proof.MoeBody

@[expose] public section

set_option maxRecDepth 16384

noncomputable section

namespace Cert.MoeIdeal.Body

open Cert.MoeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option pp.maxSteps 150 in
set_option maxHeartbeats 16000000 in
/-- The body at a point of case A. -/
theorem sound_A (hO : Ok m) (c : Dev nD) (t : Fin (cfgM m hO).N) (h0 : t.val % 4 = 0) (h1 : t.val % 8 = 0) (h2 : ¬t.val % 8 = 7) :
    bodyPre m hO c t ⊢ wp frame (wpE (defs₀ (F := F)) Variants.none c none) Set.univ (bodyAt0 (adm m hO) t) (fun _ => bodyPost m hO c t) := by
  have hp := Eq.refl (bodyPost m hO c t)
  conv at hp =>
    rhs
    unfold bodyPost
    rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t, leaves0_11 m hO c t, leaves0_12 m hO c t, leaves0_13 m hO c t, leaves0_14 m hO c t, leaves0_15 m hO c t, leaves0_16 m hO c t, leaves0_17 m hO c t, leaves0_18 m hO c t, leaves0_19 m hO c t, leaves0_20 m hO c t, leaves0_21 m hO c t, leaves0_22 m hO c t, leaves0_23 m hO c t, leaves0_24 m hO c t, leaves0_25 m hO c t, leaves0_26 m hO c t, leaves0_27 m hO c t, leaves0_28 m hO c t, leaves0_29 m hO c t, leaves0_30 m hO c t, leaves0_31 m hO c t, leaves0_32 m hO c t, leaves0_33 m hO c t, leaves0_34 m hO c t, leaves0_35 m hO c t, leaves0_36 m hO c t, leaves0_37 m hO c t, leaves0_38 m hO c t, leaves0_40 m hO c t]
  rw [hp]
  unfold bodyPre bodyAt0
  rw [show (dats m hO 0 c).owesAt () t.succ = (dats m hO 0 c).owesAt () t.castSucc from rfl]
  rw [show (dats m hO 0 c).Φ t.succ = PhiS m hO c (t.val + 1) t.isLt from rfl, PhiS_succ]
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38]
  rw [Dat.leavesExact_idle (dats m hO 0 c) 39 t (idleAt0_39_A m hO t ((hcond0_0 t).mpr h0) ((hcond0_1 t).mpr h1) (fun h => h2 ((hcond0_2 t).mp h))) (noFlush0_39_A m hO t ((hcond0_0 t).mpr h0) ((hcond0_1 t).mpr h1) (fun h => h2 ((hcond0_2 t).mp h)))]
  rw [PhiS_castSucc m hO c t]
  have hany := PhiS_any m hO c t.val (Nat.le_of_lt t.isLt)
  rw [PhiT0_eq] at hany ⊢
  rw [outsAt0_eq m hO c t, show acIn m hO c t = k0_pay3 from if_pos h1, show scIn m hO c t = k0_pay2 from if_pos h0]
  dsimp only
  unfold scAt acAt
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  ihave HQ := hany $$ HP
  icases HQ with ⟨⟨HS0, Hg⟩, HT0⟩
  iapply (run_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) _ (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HS0, HT0⟩
  isplitl [HS0 Hg HT0]
  · isplitl [HS0 Hg]
    · isplitl [HS0]; · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  iexact H40

set_option pp.maxSteps 150 in
set_option maxHeartbeats 16000000 in
/-- The body at a point of case B. -/
theorem sound_B (hO : Ok m) (c : Dev nD) (t : Fin (cfgM m hO).N) (h0 : ¬t.val % 4 = 0) (h1 : ¬t.val % 8 = 0) (h2 : ¬t.val % 8 = 7) :
    bodyPre m hO c t ⊢ wp frame (wpE (defs₀ (F := F)) Variants.none c none) Set.univ (bodyAt0 (adm m hO) t) (fun _ => bodyPost m hO c t) := by
  have hp := Eq.refl (bodyPost m hO c t)
  conv at hp =>
    rhs
    unfold bodyPost
    rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t, leaves0_11 m hO c t, leaves0_12 m hO c t, leaves0_13 m hO c t, leaves0_14 m hO c t, leaves0_15 m hO c t, leaves0_16 m hO c t, leaves0_17 m hO c t, leaves0_18 m hO c t, leaves0_19 m hO c t, leaves0_20 m hO c t, leaves0_21 m hO c t, leaves0_22 m hO c t, leaves0_23 m hO c t, leaves0_24 m hO c t, leaves0_25 m hO c t, leaves0_26 m hO c t, leaves0_27 m hO c t, leaves0_28 m hO c t, leaves0_29 m hO c t, leaves0_30 m hO c t, leaves0_31 m hO c t, leaves0_32 m hO c t, leaves0_33 m hO c t, leaves0_34 m hO c t, leaves0_35 m hO c t, leaves0_36 m hO c t, leaves0_37 m hO c t, leaves0_38 m hO c t, leaves0_40 m hO c t]
  rw [hp]
  unfold bodyPre bodyAt0
  rw [show (dats m hO 0 c).owesAt () t.succ = (dats m hO 0 c).owesAt () t.castSucc from rfl]
  rw [show (dats m hO 0 c).Φ t.succ = PhiS m hO c (t.val + 1) t.isLt from rfl, PhiS_succ]
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_40 m hO c t h0]
  rw [Dat.leavesExact_idle (dats m hO 0 c) 39 t (idleAt0_39_B m hO t (fun h => h0 ((hcond0_0 t).mp h)) (fun h => h1 ((hcond0_1 t).mp h)) (fun h => h2 ((hcond0_2 t).mp h))) (noFlush0_39_B m hO t (fun h => h0 ((hcond0_0 t).mp h)) (fun h => h1 ((hcond0_1 t).mp h)) (fun h => h2 ((hcond0_2 t).mp h)))]
  rw [PhiS_castSucc m hO c t, PhiS_pos m hO c _ _ (by omega), PhiT0_eq]
  rw [outsAt0_eq m hO c t, show acIn m hO c t = _ from if_neg h1, show scIn m hO c t = _ from if_neg h0]
  dsimp only
  unfold scAt acAt
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (run_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) _ _ _ (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HS0, HT0⟩
  isplitl [HS0 Hg HT0]
  · isplitl [HS0 Hg]
    · isplitl [HS0]; · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  iexact H40

set_option pp.maxSteps 150 in
set_option maxHeartbeats 16000000 in
/-- The body at a point of case C. -/
theorem sound_C (hO : Ok m) (c : Dev nD) (t : Fin (cfgM m hO).N) (h0 : t.val % 4 = 0) (h1 : ¬t.val % 8 = 0) (h2 : ¬t.val % 8 = 7) :
    bodyPre m hO c t ⊢ wp frame (wpE (defs₀ (F := F)) Variants.none c none) Set.univ (bodyAt0 (adm m hO) t) (fun _ => bodyPost m hO c t) := by
  have hp := Eq.refl (bodyPost m hO c t)
  conv at hp =>
    rhs
    unfold bodyPost
    rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t, leaves0_11 m hO c t, leaves0_12 m hO c t, leaves0_13 m hO c t, leaves0_14 m hO c t, leaves0_15 m hO c t, leaves0_16 m hO c t, leaves0_17 m hO c t, leaves0_18 m hO c t, leaves0_19 m hO c t, leaves0_20 m hO c t, leaves0_21 m hO c t, leaves0_22 m hO c t, leaves0_23 m hO c t, leaves0_24 m hO c t, leaves0_25 m hO c t, leaves0_26 m hO c t, leaves0_27 m hO c t, leaves0_28 m hO c t, leaves0_29 m hO c t, leaves0_30 m hO c t, leaves0_31 m hO c t, leaves0_32 m hO c t, leaves0_33 m hO c t, leaves0_34 m hO c t, leaves0_35 m hO c t, leaves0_36 m hO c t, leaves0_37 m hO c t, leaves0_38 m hO c t, leaves0_40 m hO c t]
  rw [hp]
  unfold bodyPre bodyAt0
  rw [show (dats m hO 0 c).owesAt () t.succ = (dats m hO 0 c).owesAt () t.castSucc from rfl]
  rw [show (dats m hO 0 c).Φ t.succ = PhiS m hO c (t.val + 1) t.isLt from rfl, PhiS_succ]
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38]
  rw [Dat.leavesExact_idle (dats m hO 0 c) 39 t (idleAt0_39_C m hO t ((hcond0_0 t).mpr h0) (fun h => h1 ((hcond0_1 t).mp h)) (fun h => h2 ((hcond0_2 t).mp h))) (noFlush0_39_C m hO t ((hcond0_0 t).mpr h0) (fun h => h1 ((hcond0_1 t).mp h)) (fun h => h2 ((hcond0_2 t).mp h)))]
  rw [PhiS_castSucc m hO c t, PhiS_pos m hO c _ _ (by omega), PhiT0_eq]
  rw [outsAt0_eq m hO c t, show acIn m hO c t = _ from if_neg h1, show scIn m hO c t = k0_pay2 from if_pos h0]
  dsimp only
  unfold scAt acAt
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (run_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) _ _ (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HS0, HT0⟩
  isplitl [HS0 Hg HT0]
  · isplitl [HS0 Hg]
    · isplitl [HS0]; · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  iexact H40

set_option pp.maxSteps 150 in
set_option maxHeartbeats 16000000 in
/-- The body at a point of case D. -/
theorem sound_D (hO : Ok m) (c : Dev nD) (t : Fin (cfgM m hO).N) (h0 : ¬t.val % 4 = 0) (h1 : ¬t.val % 8 = 0) (h2 : t.val % 8 = 7) :
    bodyPre m hO c t ⊢ wp frame (wpE (defs₀ (F := F)) Variants.none c none) Set.univ (bodyAt0 (adm m hO) t) (fun _ => bodyPost m hO c t) := by
  have hp := Eq.refl (bodyPost m hO c t)
  conv at hp =>
    rhs
    unfold bodyPost
    rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t, leaves0_11 m hO c t, leaves0_12 m hO c t, leaves0_13 m hO c t, leaves0_14 m hO c t, leaves0_15 m hO c t, leaves0_16 m hO c t, leaves0_17 m hO c t, leaves0_18 m hO c t, leaves0_19 m hO c t, leaves0_20 m hO c t, leaves0_21 m hO c t, leaves0_22 m hO c t, leaves0_23 m hO c t, leaves0_24 m hO c t, leaves0_25 m hO c t, leaves0_26 m hO c t, leaves0_27 m hO c t, leaves0_28 m hO c t, leaves0_29 m hO c t, leaves0_30 m hO c t, leaves0_31 m hO c t, leaves0_32 m hO c t, leaves0_33 m hO c t, leaves0_34 m hO c t, leaves0_35 m hO c t, leaves0_36 m hO c t, leaves0_37 m hO c t, leaves0_38 m hO c t, leaves0_40 m hO c t]
  rw [hp]
  unfold bodyPre bodyAt0
  rw [show (dats m hO 0 c).owesAt () t.succ = (dats m hO 0 c).owesAt () t.castSucc from rfl]
  rw [show (dats m hO 0 c).Φ t.succ = PhiS m hO c (t.val + 1) t.isLt from rfl, PhiS_succ]
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_40 m hO c t h0]
  rw [leaves0_39 m hO c t h0 h1 h2]
  rw [PhiS_castSucc m hO c t, PhiS_pos m hO c _ _ (by omega), PhiT0_eq]
  rw [outsAt0_eq m hO c t, show acIn m hO c t = _ from if_neg h1, show scIn m hO c t = _ from if_neg h0]
  dsimp only
  unfold outAt scAt acAt
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (run_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) _ _ (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  isplitl [H40]; · iexact H40
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HS0, HT0⟩
  isplitl [HS0 Hg HT0]
  · isplitl [HS0 Hg]
    · isplitl [HS0]; · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iexact H40

/-- The body at any point: one of the four cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 4 = 0
  · by_cases h1 : t.val % 8 = 0
    · exact sound_A m hO c t h0 h1 (by omega)
    · exact sound_C m hO c t h0 h1 (by omega)
  · by_cases h2 : t.val % 8 = 7
    · exact sound_D m hO c t h0 (by omega) h2
    · exact sound_B m hO c t h0 (by omega) h2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 8000000 in
/-- Every step meets what the pipeline asks of its body. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- The call runs to its end from any memory whose page table lies in the cache, leaving the arguments as they were and no
    semaphore raised. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.MoeIdeal.Body

end
-- ==== Proof.MoeBits.lean ====
/- The expert-and-key-sum call on machine numbers: its text is its idealisation's, so its run is the same run. -/
module

public import proofs.«01_k».proof.Proof.Gen.Moe
public import proofs.«01_k».proof.Proof.MoeOk
public import proofs.«01_k».proof.Proof.MoeFrame

@[expose] public section

noncomputable section

namespace Cert.Moe.Bits

open Idealize.ShloMosaic Idealize.SL.Sem Cert.Moe

set_option maxHeartbeats 16000000 in
/-- The frame on machine numbers: the same statement as the idealisation's run taken at machine numbers. -/
theorem frame : Cert.quiescent_Moe (hMoe := Cert.Moe.Gen.facts) (hPre_pages_ok := Cert.Pre_pages_ok.Gen.facts) := by
  intro m ρ h
  have key := Cert.MoeIdeal.Body.frame (F := Bits) m ρ (Cert.MoeIdeal.Body.ok_of_table m (Cert.MoeIdeal.Body.words_of_pages _ _ _ _ _ _ _ _ _ _ (h 0)))
  refine Eq.mpr ?_ key
  chain_rfl

end Cert.Moe.Bits

end
-- ==== Proof.Spec.lean ====
/- The mathematics the kernels and the references are both compared with, on extended reals. -/
module

public import Idealize.ShloMosaic.Lib.Pointwise
public import Idealize.ShloMosaic.Lib.Pipeline.Value

@[expose] public section

noncomputable section

namespace Cert.Spec

open Idealize.ShloMosaic

/-- The reciprocal root of the mean square of 1024 numbers, with the stabilising constant under the root. -/
def inv (x : Fin 1024 → EReal) : EReal :=
  Ideal.rsqrt (Ideal.div (∑ k, x k * x k) (Ideal.ofBits FTy.f32 1149239296#32) + Ideal.ofBits FTy.f32 897988541#32)

/-- The RMS norm of a row of 1024 numbers under a gain, at coordinate `k`. -/
def rms (x g : Fin 1024 → EReal) (k : Fin 1024) : EReal := x k * inv x * g k

/-- The dot product of an RMS-normalised row with a weight column. -/
def proj (x g w : Fin 1024 → EReal) : EReal := ∑ k, rms x g k * w k

end Cert.Spec

end
-- ==== Proof.Inp.lean ====
/- The projection of the prompt rows: the kernel's eight arrays and the reference's eight arrays are the same
   RMS-normalised rows times ranges of columns of one weight matrix (one range through a logistic, two of them laid
   transposed as well). -/
module

public import proofs.«01_k».proof.Defs
public import proofs.«01_k».proof.Proof.Spec
public import proofs.«01_k».proof.Proof.Gen.InpIdeal.Value
public import proofs.«01_k».proof.Proof.Gen.InpRefIdeal.Run
public import proofs.«01_k».proof.Proof.Gen.InpRefIdeal.Read

@[expose] public section

noncomputable section

open Idealize.ShloMosaic Idealize.ShloMosaic.TcCoe Idealize.SL.Sem
open Idealize.ShloMosaic.Pipeline (Dat)

/-! ## The kernel -/

namespace Cert.InpIdeal.RefValue

open Cert.InpIdeal Cert.InpIdeal.Gen

/-- One projected number: row `s` of batch `b`, normalised, times column `n` of the weights. -/
def val (x : S4x4096x1024.Idx → EReal) (g : S1x1024.Idx → EReal) (w : S1x1024x4096.Idx → EReal) (b : Fin 4) (s n : Fin 4096) : EReal :=
  Spec.proj (fun k => x (ix3 b s k)) (fun k => g (ix2 0 k)) (fun k => w (ix3 0 k n))

/-- 512 columns from `o` on, all rows one after another. -/
def flat (o : Nat) (ho : o + 512 ≤ 4096) (x : S4x4096x1024.Idx → EReal) (g : S1x1024.Idx → EReal) (w : S1x1024x4096.Idx → EReal) (i : S16384x512.Idx) : EReal :=
  val x g w ⟨(i 0).val / 4096, by have h : (i 0).val < 16384 := (i 0).isLt; omega⟩ ⟨(i 0).val % 4096, Nat.mod_lt _ (by decide)⟩
    ⟨o + (i 1).val, by have h : (i 1).val < 512 := (i 1).isLt; omega⟩

/-- 1024 columns from `o` on, all rows one after another. -/
def wide (o : Nat) (ho : o + 1024 ≤ 4096) (x : S4x4096x1024.Idx → EReal) (g : S1x1024.Idx → EReal) (w : S1x1024x4096.Idx → EReal) (i : S16384x1024.Idx) : EReal :=
  val x g w ⟨(i 0).val / 4096, by have h : (i 0).val < 16384 := (i 0).isLt; omega⟩ ⟨(i 0).val % 4096, Nat.mod_lt _ (by decide)⟩
    ⟨o + (i 1).val, by have h : (i 1).val < 1024 := (i 1).isLt; omega⟩

/-- 512 columns from `o` on, laid batch by batch with the rows last. -/
def turned (o : Nat) (ho : o + 512 ≤ 4096) (x : S4x4096x1024.Idx → EReal) (g : S1x1024.Idx → EReal) (w : S1x1024x4096.Idx → EReal) (i : S4x512x4096.Idx) : EReal :=
  val x g w (i 0) (i 2) ⟨o + (i 1).val, by have h : (i 1).val < 512 := (i 1).isLt; omega⟩

/-- The normalised rows of a block. -/
theorem pay6_apply (v0 : Vec Ideal S512x1024 .f32) (v2 : Vec Ideal S1x1024 .f32) (r : Fin 512) (k : Fin 1024) :
    k0_pay6 v0 v2 (ix2 r k) = Spec.rms (fun k => v0 (ix2 r k)) (fun k => v2 (ix2 0 k)) k := by
  unfold_payloads
  pointwise
  rfl

/-- The product with 512 columns, at a row and a column. -/
theorem pay3_apply (v16 : Vec Ideal S512x1024 .bf16) (v39 : Vec Ideal S1024x512 .bf16) (r c : Fin 512) :
    k0_pay3 v16 v39 (ix2 r c) = ∑ k : Fin 1024, (v16 (ix2 r k) * v39 (ix2 k c) : EReal) := by
  unfold_payloads
  pointwise [dot_S512x1024_S1024x512_S512x512_1_0_0_1_n_n]

/-- The product with 1024 columns, at a row and a column. -/
theorem pay5_apply (v16 : Vec Ideal S512x1024 .bf16) (v49 : Vec Ideal S1024x1024 .bf16) (r : Fin 512) (c : Fin 1024) :
    k0_pay5 v16 v49 (ix2 r c) = ∑ k : Fin 1024, (v16 (ix2 r k) * v49 (ix2 k c) : EReal) := by
  unfold_payloads
  pointwise [dot_S512x1024_S1024x1024_S512x1024_1_0_0_1_n_n]

/-- The product with the first 512 columns is the product with 512 columns. -/
theorem pay7_eq (v0 : Vec Ideal S512x1024 .f32) (v2 : Vec Ideal S1x1024 .f32) (w : Vec Ideal S1024x512 .bf16) : k0_pay7 v0 v2 w = k0_pay3 (k0_pay6 v0 v2) w := rfl

/-- So is the keys' product. -/
theorem pay8_eq (v0 : Vec Ideal S512x1024 .f32) (v2 : Vec Ideal S1x1024 .f32) (w : Vec Ideal S1024x512 .bf16) : k0_pay8 v0 v2 w = k0_pay3 (k0_pay6 v0 v2) w := rfl

/-- So is the values' product. -/
theorem pay11_eq (v0 : Vec Ideal S512x1024 .f32) (v2 : Vec Ideal S1x1024 .f32) (w : Vec Ideal S1024x512 .bf16) : k0_pay11 v0 v2 w = k0_pay3 (k0_pay6 v0 v2) w := rfl

/-- A block turned over. -/
theorem pay1_apply (v : Vec Ideal S512x512 .f32) (r c : Fin 512) : k0_pay1 (F := Ideal) v (ix3 0 c r) = v (ix2 r c) := by
  unfold_payloads
  refine (shapeCast_apply _ _ _ (ix2 c r) ?_).trans ?_
  · rewrite [Shape.rowMajor_val_three, Shape.rowMajor_val_two]
    show c.val * 512 + r.val = (0 * 512 + c.val) * 512 + r.val
    omega
  · pointwise

/-- The logistic of the product with 1024 columns. -/
theorem pay4_apply (v16 : Vec Ideal S512x1024 .bf16) (v49 : Vec Ideal S1024x1024 .bf16) (r : Fin 512) (c : Fin 1024) :
    k0_pay4 v16 v49 (ix2 r c) = Ideal.logistic (k0_pay5 v16 v49 (ix2 r c)) := rfl

/-- The batches' rows laid one after another. -/
theorem rows_apply (x : S4x4096x1024.Idx → EReal) (h : S4x4096x1024.ShapeCasts S16384x1024) (r : Fin 16384) (k : Fin 1024) :
    shapeCast S16384x1024 x h (ix2 r k) = x (ix3 ⟨r.val / 4096, by omega⟩ ⟨r.val % 4096, by omega⟩ k) := by
  refine shapeCast_apply _ _ _ _ ?_
  rewrite [Shape.rowMajor_val_three, Shape.rowMajor_val_two]
  show (r.val / 4096 * 4096 + r.val % 4096) * 1024 + k.val = r.val * 1024 + k.val
  omega

/-- A row flattened and laid as a row again. -/
theorem gain_apply (x : S1x1024.Idx → EReal) (h : S1x1024.ShapeCasts S1024) (h' : S1024.ShapeCasts S1x1024) (k : Fin 1024) :
    shapeCast S1x1024 (shapeCast S1024 x h) h' (ix2 0 k) = x (ix2 0 k) := by
  refine (shapeCast_apply _ _ _ (ix1 k) ?_).trans (shapeCast_apply _ _ _ _ ?_) <;>
  · rewrite [Shape.rowMajor_val_one, Shape.rowMajor_val_two]
    simp [ix1, ix2]

/-- The one layer's weight matrix. -/
theorem weight_apply (x : S1x1024x4096.Idx → EReal) (h : S1x1024x4096.ShapeCasts S1024x4096) (k : Fin 1024) (n : Fin 4096) :
    shapeCast S1024x4096 x h (ix2 k n) = x (ix3 0 k n) := by
  refine shapeCast_apply _ _ _ _ ?_
  rewrite [Shape.rowMajor_val_three, Shape.rowMajor_val_two]
  show (0 * 1024 + k.val) * 4096 + n.val = k.val * 4096 + n.val
  omega

variable (m : (ℓ : Loc nD τ sig) → Buf (Elt Ideal) ℓ) (ρ : Dev nD → PrngReg)

/-- The rows the kernel reads are the rows of the argument, batch by batch. -/
theorem V0 (c : Dev nD) (r : Fin 16384) (k : Fin 1024) : (V m c main_v0 : S16384x1024.Idx → EReal) (ix2 r k)
    = (m ((c : Thread nD τ).loc main_arg0) : S4x4096x1024.Idx → EReal) (ix3 ⟨r.val / 4096, by omega⟩ ⟨r.val % 4096, by omega⟩ k) := by
  have h : V m c main_v0 = shapeCast _ (m ((c : Thread nD τ).loc main_arg0)) shapeCasts_S4x4096x1024_S16384x1024 := by
    unfold V; after_results <;> rfl
  rw [h]
  exact rows_apply _ _ r k

/-- The gain row the kernel reads is the argument's. -/
theorem V2 (c : Dev nD) (k : Fin 1024) : (V m c main_v2 : S1x1024.Idx → EReal) (ix2 0 k)
    = (m ((c : Thread nD τ).loc main_arg1) : S1x1024.Idx → EReal) (ix2 0 k) := by
  have h : V m c main_v2 = shapeCast _ (shapeCast _ (m ((c : Thread nD τ).loc main_arg1)) shapeCasts_S1x1024_S1024) shapeCasts_S1024_S1x1024 := by
    unfold V; after_results <;> rfl
  rw [h]
  exact gain_apply _ _ _ k

/-- The weight matrix the kernel reads is the argument's. -/
theorem V4 (c : Dev nD) (k : Fin 1024) (n : Fin 4096) : (V m c main_v4 : S1024x4096.Idx → EReal) (ix2 k n)
    = (m ((c : Thread nD τ).loc main_arg2) : S1x1024x4096.Idx → EReal) (ix3 0 k n) := by
  have h : V m c main_v4 = (truncf (F := Ideal) .bf16 (shapeCast _ (m ((c : Thread nD τ).loc main_arg2)) shapeCasts_S1x1024x4096_S1024x4096) bitsLt_bf16_f32 : S1024x4096.Idx → EReal) := by
    unfold V; after_results <;> rfl
  rw [h]
  exact weight_apply _ _ k n

/-- Where the inputs' blocks lie: the rows' blocks walk down the rows, the others stay. -/
theorem idxs : ∀ t : Fin cfg0.N, win0_0.index t 0 = t.val ∧ win0_0.index t 1 = 0 ∧ win0_1.index t 0 = 0 ∧ win0_1.index t 1 = 0
    ∧ win0_2.index t 0 = 0 ∧ win0_2.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0)

theorem tlt (t : Fin cfg0.N) : t.val < 32 := lt_of_lt_of_eq t.isLt N_0

/-- Block `t` of the rows. -/
theorem blk0 (c : Dev nD) (t : Fin cfg0.N) (r : Fin 512) (k : Fin 1024) : (iblk m c 0 t : S512x1024.Idx → EReal) (ix2 r k)
    = (m ((c : Thread nD τ).loc main_arg0) : S4x4096x1024.Idx → EReal)
        (ix3 ⟨(t.val * 512 + r.val) / 4096, by have := tlt t; omega⟩ ⟨(t.val * 512 + r.val) % 4096, by omega⟩ k) := by
  refine Eq.trans ?_ (V0 m c ⟨t.val * 512 + r.val, by have := tlt t; omega⟩ k)
  have hi := idxs t
  unfold iblk
  rw [View.read_apply]
  show V m c main_v0 _ = V m c main_v0 _
  congr 1
  funext a
  apply Fin.ext
  match a with
  | ⟨0, _⟩ => show win0_0.index t 0 * 512 + 1 * r.val = t.val * 512 + r.val; rw [hi.1]; omega
  | ⟨1, _⟩ => show win0_0.index t 1 * 1024 + 1 * k.val = k.val; rw [hi.2.1]; omega

/-- Block `t` of the gain: the whole row. -/
theorem blk1 (c : Dev nD) (t : Fin cfg0.N) (k : Fin 1024) : (iblk m c 1 t : S1x1024.Idx → EReal) (ix2 0 k)
    = (m ((c : Thread nD τ).loc main_arg1) : S1x1024.Idx → EReal) (ix2 0 k) := by
  refine Eq.trans ?_ (V2 m c k)
  have hi := idxs t
  unfold iblk
  rw [View.read_apply]
  show V m c main_v2 _ = V m c main_v2 _
  congr 1
  funext a
  apply Fin.ext
  match a with
  | ⟨0, _⟩ => show win0_1.index t 0 * 1 + 1 * 0 = 0; rw [hi.2.2.1]
  | ⟨1, _⟩ => show win0_1.index t 1 * 1024 + 1 * k.val = k.val; rw [hi.2.2.2.1]; omega

/-- Block `t` of the weights: all of them. -/
theorem blk2 (c : Dev nD) (t : Fin cfg0.N) (k : Fin 1024) (n : Fin 4096) : (iblk m c 2 t : S1024x4096.Idx → EReal) (ix2 k n)
    = (m ((c : Thread nD τ).loc main_arg2) : S1x1024x4096.Idx → EReal) (ix3 0 k n) := by
  refine Eq.trans ?_ (V4 m c k n)
  have hi := idxs t
  unfold iblk
  rw [View.read_apply]
  show V m c main_v4 _ = V m c main_v4 _
  congr 1
  funext a
  apply Fin.ext
  match a with
  | ⟨0, _⟩ => show win0_2.index t 0 * 1024 + 1 * k.val = k.val; rw [hi.2.2.2.2.1]; omega
  | ⟨1, _⟩ => show win0_2.index t 1 * 4096 + 1 * n.val = n.val; rw [hi.2.2.2.2.2]; omega

theorem hz : (![0, 0] : Fin 2 → Nat) = fun _ => 0 := funext fun a => by fin_cases a <;> rfl
theorem hz3 : (![0, 0, 0] : Fin 3 → Nat) = fun _ => 0 := funext fun a => by fin_cases a <;> rfl

/-- 512 columns of the weights. -/
theorem ld512 (x : Vec Ideal S1024x4096 .bf16) (o : Nat) (h : ∀ a : Fin 2, (![0, o] : Fin 2 → Nat) a + S1024x512.size a ≤ S1024x4096.size a) (k : Fin 1024) (n : Fin 512) :
    View.ld x (Rect.unit (s := S1024x4096) ![0, o] S1024x512.size h) (ix2 k n) = x (ix2 k ⟨o + n.val, by have h1 : o + 512 ≤ 4096 := h 1; omega⟩) := by
  refine congrArg x ?_
  funext a
  apply Fin.ext
  match a with
  | ⟨0, _⟩ => show 0 + 1 * k.val = k.val; omega
  | ⟨1, _⟩ => show o + 1 * n.val = o + n.val; omega

/-- 1024 columns of the weights. -/
theorem ld1024 (x : Vec Ideal S1024x4096 .bf16) (o : Nat) (h : ∀ a : Fin 2, (![0, o] : Fin 2 → Nat) a + S1024x1024.size a ≤ S1024x4096.size a) (k n : Fin 1024) :
    View.ld x (Rect.unit (s := S1024x4096) ![0, o] S1024x1024.size h) (ix2 k n) = x (ix2 k ⟨o + n.val, by have h1 : o + 1024 ≤ 4096 := h 1; omega⟩) := by
  refine congrArg x ?_
  funext a
  apply Fin.ext
  match a with
  | ⟨0, _⟩ => show 0 + 1 * k.val = k.val; omega
  | ⟨1, _⟩ => show o + 1 * n.val = o + n.val; omega

/-- A point's product with 512 columns, at a row and a column. -/
theorem point512 (c : Dev nD) (t : Fin cfg0.N) (o : Nat) (h : ∀ a : Fin 2, (![0, o] : Fin 2 → Nat) a + S1024x512.size a ≤ S1024x4096.size a) (r n : Fin 512) :
    k0_pay3 (k0_pay6 (iblk m c 0 t) (iblk m c 1 t)) (View.ld (iblk m c 2 t) (Rect.unit (s := S1024x4096) ![0, o] S1024x512.size h)) (ix2 r n)
      = val (m ((c : Thread nD τ).loc main_arg0)) (m ((c : Thread nD τ).loc main_arg1)) (m ((c : Thread nD τ).loc main_arg2))
        ⟨(t.val * 512 + r.val) / 4096, by have := tlt t; omega⟩ ⟨(t.val * 512 + r.val) % 4096, by omega⟩ ⟨o + n.val, by have h1 : o + 512 ≤ 4096 := h 1; omega⟩ := by
  rw [pay3_apply]
  unfold val Spec.proj
  refine Finset.sum_congr rfl fun k _ => ?_
  rw [pay6_apply, ld512, blk2]
  simp only [blk0, blk1]

/-- A point's product with 1024 columns, at a row and a column. -/
theorem point1024 (c : Dev nD) (t : Fin cfg0.N) (o : Nat) (h : ∀ a : Fin 2, (![0, o] : Fin 2 → Nat) a + S1024x1024.size a ≤ S1024x4096.size a) (r : Fin 512) (n : Fin 1024) :
    k0_pay5 (k0_pay6 (iblk m c 0 t) (iblk m c 1 t)) (View.ld (iblk m c 2 t) (Rect.unit (s := S1024x4096) ![0, o] S1024x1024.size h)) (ix2 r n)
      = val (m ((c : Thread nD τ).loc main_arg0)) (m ((c : Thread nD τ).loc main_arg1)) (m ((c : Thread nD τ).loc main_arg2))
        ⟨(t.val * 512 + r.val) / 4096, by have := tlt t; omega⟩ ⟨(t.val * 512 + r.val) % 4096, by omega⟩ ⟨o + n.val, by have h1 : o + 1024 ≤ 4096 := h 1; omega⟩ := by
  rw [pay5_apply]
  unfold val Spec.proj
  refine Finset.sum_congr rfl fun k _ => ?_
  rw [pay6_apply, ld1024, blk2]
  simp only [blk0, blk1]

/-- The logistic of 1024 columns from 2048 on. -/
def gate (x : S4x4096x1024.Idx → EReal) (g : S1x1024.Idx → EReal) (w : S1x1024x4096.Idx → EReal) (i : S16384x1024.Idx) : EReal :=
  Ideal.logistic (wide 2048 (by decide) x g w i)

/-- Where the blocks of the queries lie. -/
theorem idxs3 : ∀ t : Fin cfg0.N, win0_3.index t 0 = t.val ∧ win0_3.index t 1 = 0 :=
  (by decide +kernel : ∀ t : Fin grid0.N, win0_3.index t 0 = t.val ∧ win0_3.index t 1 = 0)

/-- What point `t` writes back to the queries is block `t` of them. -/
theorem flushed_eq3 (c : Dev nD) (t : Fin cfg0.N) : (dats m 0 c).flushed 3 t = (win0_3.blk t).view.read (Elt Ideal)
    (flat 0 (by decide) (m ((c : Thread nD τ).loc main_arg0)) (m ((c : Thread nD τ).loc main_arg1)) (m ((c : Thread nD τ).loc main_arg2)) : S16384x512.Idx → EReal) := by
  have hi := idxs3 t
  have ht := tlt t
  rw [Value.flushed3]
  unfold out0_3
  rw [View.canon_unit_zero hz, View.ld_unit_zero hz, View.ld_unit_zero hz]
  funext j
  rw [View.read_apply]
  obtain ⟨r, n, rfl⟩ : ∃ (r : Fin 512) (n : Fin 512), j = ix2 r n := ⟨j 0, j 1, by funext a; match a with | ⟨0, _⟩ => rfl | ⟨1, _⟩ => rfl⟩
  have e : (win0_3.blk t).view.emb (ix2 r n) = (ix2 ⟨t.val * 512 + r.val, by omega⟩ n : S16384x512.Idx) := by
    funext a
    apply Fin.ext
    match a with
    | ⟨0, _⟩ => show win0_3.index t 0 * 512 + 1 * r.val = t.val * 512 + r.val; rw [hi.1]; omega
    | ⟨1, _⟩ => show win0_3.index t 1 * 512 + 1 * n.val = n.val; rw [hi.2]; omega
  rw [e]
  exact point512 m c t 0 _ r n

/-- The blocks of the queries tile their array. -/
theorem cover3 (i : S16384x512.Idx) : ∃ t : Fin cfg0.N, (cfg0.win 3).flush t = true ∧ i ∈ ((cfg0.win 3).blk t).view.set := by
  have h0 : (i 0).val < 16384 := (i 0).isLt
  have h1 : (i 1).val < 512 := (i 1).isLt
  have hN : cfg0.N = 32 := N_0
  obtain ⟨t, ht⟩ : ∃ t : Fin cfg0.N, t.val = (i 0).val / 512 := ⟨⟨(i 0).val / 512, by omega⟩, rfl⟩
  refine ⟨t, flush0_3 t, ?_⟩
  have hi := idxs3 t
  show i ∈ ((View.whole main_v5_0).slice (win0_3.rect t)).set
  rw [View.set_slice_whole, Rect.mem_set_unit]
  intro a
  match a with
  | ⟨0, _⟩ => show win0_3.index t 0 * 512 ≤ (i 0).val ∧ (i 0).val < win0_3.index t 0 * 512 + 512; rw [hi.1]; omega
  | ⟨1, _⟩ => show win0_3.index t 1 * 512 ≤ (i 1).val ∧ (i 1).val < win0_3.index t 1 * 512 + 512; rw [hi.2]; omega

/-- Where the blocks of the keys laid rows last lie. -/
theorem idxs4 : ∀ t : Fin cfg0.N, win0_4.index t 0 = t.val / 8 ∧ win0_4.index t 1 = 0 ∧ win0_4.index t 2 = t.val % 8 :=
  (by decide +kernel : ∀ t : Fin grid0.N, win0_4.index t 0 = t.val / 8 ∧ win0_4.index t 1 = 0 ∧ win0_4.index t 2 = t.val % 8)

/-- What point `t` writes back to the keys laid rows last is block `t` of them. -/
theorem flushed_eq4 (c : Dev nD) (t : Fin cfg0.N) : (dats m 0 c).flushed 4 t = (win0_4.blk t).view.read (Elt Ideal)
    (turned 512 (by decide) (m ((c : Thread nD τ).loc main_arg0)) (m ((c : Thread nD τ).loc main_arg1)) (m ((c : Thread nD τ).loc main_arg2)) : S4x512x4096.Idx → EReal) := by
  have hi := idxs4 t
  have ht := tlt t
  rw [Value.flushed4]
  unfold out0_4
  rw [View.canon_unit_zero hz3, View.ld_unit_zero hz, View.ld_unit_zero hz]
  funext j
  rw [View.read_apply]
  obtain ⟨n, r, rfl⟩ : ∃ (n r : Fin 512), j = ix3 0 n r := ⟨j 1, j 2, by funext a; match a with | ⟨0, _⟩ => exact Subsingleton.elim (α := Fin 1) _ _ | ⟨1, _⟩ => rfl | ⟨2, _⟩ => rfl⟩
  have e : (win0_4.blk t).view.emb (ix3 0 n r) = (ix3 ⟨t.val / 8, by omega⟩ n ⟨t.val % 8 * 512 + r.val, by omega⟩ : S4x512x4096.Idx) := by
    funext a
    apply Fin.ext
    match a with
    | ⟨0, _⟩ => show win0_4.index t 0 * 1 + 1 * 0 = t.val / 8; rw [hi.1]; omega
    | ⟨1, _⟩ => show win0_4.index t 1 * 512 + 1 * n.val = n.val; rw [hi.2.1]; omega
    | ⟨2, _⟩ => show win0_4.index t 2 * 512 + 1 * r.val = t.val % 8 * 512 + r.val; rw [hi.2.2]; omega
  rw [e]
  refine (pay1_apply _ r n).trans ((point512 m c t 512 _ r n).trans ?_)
  show val _ _ _ _ _ _ = val _ _ _ _ _ _
  congr 1 <;> apply Fin.ext <;> dsimp only [ix3] <;> omega

/-- The blocks of the keys laid rows last tile their array. -/
theorem cover4 (i : S4x512x4096.Idx) : ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 4096 := (i 2).isLt
  have hN : cfg0.N = 32 := N_0
  obtain ⟨t, ht⟩ : ∃ t : Fin cfg0.N, t.val = (i 0).val * 8 + (i 2).val / 512 := ⟨⟨(i 0).val * 8 + (i 2).val / 512, by omega⟩, rfl⟩
  refine ⟨t, flush0_4 t, ?_⟩
  have hi := idxs4 t
  show i ∈ ((View.whole main_v5_1).slice (win0_4.rect t)).set
  rw [View.set_slice_whole, Rect.mem_set_unit]
  intro a
  match a with
  | ⟨0, _⟩ => show win0_4.index t 0 * 1 ≤ (i 0).val ∧ (i 0).val < win0_4.index t 0 * 1 + 1; rw [hi.1]; omega
  | ⟨1, _⟩ => show win0_4.index t 1 * 512 ≤ (i 1).val ∧ (i 1).val < win0_4.index t 1 * 512 + 512; rw [hi.2.1]; omega
  | ⟨2, _⟩ => show win0_4.index t 2 * 512 ≤ (i 2).val ∧ (i 2).val < win0_4.index t 2 * 512 + 512; rw [hi.2.2]; omega

/-- Where the blocks of the values laid rows last lie. -/
theorem idxs5 : ∀ t : Fin cfg0.N, win0_5.index t 0 = t.val / 8 ∧ win0_5.index t 1 = 0 ∧ win0_5.index t 2 = t.val % 8 :=
  (by decide +kernel : ∀ t : Fin grid0.N, win0_5.index t 0 = t.val / 8 ∧ win0_5.index t 1 = 0 ∧ win0_5.index t 2 = t.val % 8)

/-- What point `t` writes back to the values laid rows last is block `t` of them. -/
theorem flushed_eq5 (c : Dev nD) (t : Fin cfg0.N) : (dats m 0 c).flushed 5 t = (win0_5.blk t).view.read (Elt Ideal)
    (turned 1024 (by decide) (m ((c : Thread nD τ).loc main_arg0)) (m ((c : Thread nD τ).loc main_arg1)) (m ((c : Thread nD τ).loc main_arg2)) : S4x512x4096.Idx → EReal) := by
  have hi := idxs5 t
  have ht := tlt t
  rw [Value.flushed5]
  unfold out0_5 k0_pay13
  rw [View.canon_unit_zero hz3, View.ld_unit_zero hz, View.ld_unit_zero hz]
  funext j
  rw [View.read_apply]
  obtain ⟨n, r, rfl⟩ : ∃ (n r : Fin 512), j = ix3 0 n r := ⟨j 1, j 2, by funext a; match a with | ⟨0, _⟩ => exact Subsingleton.elim (α := Fin 1) _ _ | ⟨1, _⟩ => rfl | ⟨2, _⟩ => rfl⟩
  have e : (win0_5.blk t).view.emb (ix3 0 n r) = (ix3 ⟨t.val / 8, by omega⟩ n ⟨t.val % 8 * 512 + r.val, by omega⟩ : S4x512x4096.Idx) := by
    funext a
    apply Fin.ext
    match a with
    | ⟨0, _⟩ => show win0_5.index t 0 * 1 + 1 * 0 = t.val / 8; rw [hi.1]; omega
    | ⟨1, _⟩ => show win0_5.index t 1 * 512 + 1 * n.val = n.val; rw [hi.2.1]; omega
    | ⟨2, _⟩ => show win0_5.index t 2 * 512 + 1 * r.val = t.val % 8 * 512 + r.val; rw [hi.2.2]; omega
  rw [e]
  refine (pay1_apply _ r n).trans ((point512 m c t 1024 _ r n).trans ?_)
  show val _ _ _ _ _ _ = val _ _ _ _ _ _
  congr 1 <;> apply Fin.ext <;> dsimp only [ix3] <;> omega

/-- The blocks of the values laid rows last tile their array. -/
theorem cover5 (i : S4x512x4096.Idx) : ∃ t : Fin cfg0.N, (cfg0.win 5).flush t = true ∧ i ∈ ((cfg0.win 5).blk t).view.set := by
  have h0 : (i 0).val < 4 := (i 0).isLt
  have h1 : (i 1).val < 512 := (i 1).isLt
  have h2 : (i 2).val < 4096 := (i 2).isLt
  have hN : cfg0.N = 32 := N_0
  obtain ⟨t, ht⟩ : ∃ t : Fin cfg0.N, t.val = (i 0).val * 8 + (i 2).val / 512 := ⟨⟨(i 0).val * 8 + (i 2).val / 512, by omega⟩, rfl⟩
  refine ⟨t, flush0_5 t, ?_⟩
  have hi := idxs5 t
  show i ∈ ((View.whole main_v5_2).slice (win0_5.rect t)).set
  rw [View.set_slice_whole, Rect.mem_set_unit]
  intro a
  match a with
  | ⟨0, _⟩ => show win0_5.index t 0 * 1 ≤ (i 0).val ∧ (i 0).val < win0_5.index t 0 * 1 + 1; rw [hi.1]; omega
  | ⟨1, _⟩ => show win0_5.index t 1 * 512 ≤ (i 1).val ∧ (i 1).val < win0_5.index t 1 * 512 + 512; rw [hi.2.1]; omega
  | ⟨2, _⟩ => show win0_5.index t 2 * 512 ≤ (i 2).val ∧ (i 2).val < win0_5.index t 2 * 512 + 512; rw [hi.2.2]; omega

/-- Where the blocks of the keys lie. -/
theorem idxs6 : ∀ t : Fin cfg0.N, win0_6.index t 0 = t.val ∧ win0_6.index t 1 = 0 :=
  (by decide +kernel : ∀ t : Fin grid0.N, win0_6.index t 0 = t.val ∧ win0_6.index t 1 = 0)

/-- What point `t` writes back to the keys is block `t` of them. -/
theorem flushed_eq6 (c : Dev nD) (t : Fin cfg0.N) : (dats m 0 c).flushed 6 t = (win0_6.blk t).view.read (Elt Ideal)
    (flat 512 (by decide) (m ((c : Thread nD τ).loc main_arg0)) (m ((c : Thread nD τ).loc main_arg1)) (m ((c : Thread nD τ).loc main_arg2)) : S16384x512.Idx → EReal) := by
  have hi := idxs6 t
  have ht := tlt t
  rw [Value.flushed6]
  unfold out0_6
  rw [View.canon_unit_zero hz, View.ld_unit_zero hz, View.ld_unit_zero hz]
  funext j
  rw [View.read_apply]
  obtain ⟨r, n, rfl⟩ : ∃ (r : Fin 512) (n : Fin 512), j = ix2 r n := ⟨j 0, j 1, by funext a; match a with | ⟨0, _⟩ => rfl | ⟨1, _⟩ => rfl⟩
  have e : (win0_6.blk t).view.emb (ix2 r n) = (ix2 ⟨t.val * 512 + r.val, by omega⟩ n : S16384x512.Idx) := by
    funext a
    apply Fin.ext
    match a with
    | ⟨0, _⟩ => show win0_6.index t 0 * 512 + 1 * r.val = t.val * 512 + r.val; rw [hi.1]; omega
    | ⟨1, _⟩ => show win0_6.index t 1 * 512 + 1 * n.val = n.val; rw [hi.2]; omega
  rw [e]
  exact point512 m c t 512 _ r n

/-- The blocks of the keys tile their array. -/
theorem cover6 (i : S16384x512.Idx) : ∃ t : Fin cfg0.N, (cfg0.win 6).flush t = true ∧ i ∈ ((cfg0.win 6).blk t).view.set := by
  have h0 : (i 0).val < 16384 := (i 0).isLt
  have h1 : (i 1).val < 512 := (i 1).isLt
  have hN : cfg0.N = 32 := N_0
  obtain ⟨t, ht⟩ : ∃ t : Fin cfg0.N, t.val = (i 0).val / 512 := ⟨⟨(i 0).val / 512, by omega⟩, rfl⟩
  refine ⟨t, flush0_6 t, ?_⟩
  have hi := idxs6 t
  show i ∈ ((View.whole main_v5_3).slice (win0_6.rect t)).set
  rw [View.set_slice_whole, Rect.mem_set_unit]
  intro a
  match a with
  | ⟨0, _⟩ => show win0_6.index t 0 * 512 ≤ (i 0).val ∧ (i 0).val < win0_6.index t 0 * 512 + 512; rw [hi.1]; omega
  | ⟨1, _⟩ => show win0_6.index t 1 * 512 ≤ (i 1).val ∧ (i 1).val < win0_6.index t 1 * 512 + 512; rw [hi.2]; omega

/-- Where the blocks of the values lie. -/
theorem idxs7 : ∀ t : Fin cfg0.N, win0_7.index t 0 = t.val ∧ win0_7.index t 1 = 0 :=
  (by decide +kernel : ∀ t : Fin grid0.N, win0_7.index t 0 = t.val ∧ win0_7.index t 1 = 0)

/-- What point `t` writes back to the values is block `t` of them. -/
theorem flushed_eq7 (c : Dev nD) (t : Fin cfg0.N) : (dats m 0 c).flushed 7 t = (win0_7.blk t).view.read (Elt Ideal)
    (flat 1024 (by decide) (m ((c : Thread nD τ).loc main_arg0)) (m ((c : Thread nD τ).loc main_arg1)) (m ((c : Thread nD τ).loc main_arg2)) : S16384x512.Idx → EReal) := by
  have hi := idxs7 t
  have ht := tlt t
  rw [Value.flushed7]
  unfold out0_7 k0_pay13
  rw [View.canon_unit_zero hz, View.ld_unit_zero hz, View.ld_unit_zero hz]
  funext j
  rw [View.read_apply]
  obtain ⟨r, n, rfl⟩ : ∃ (r : Fin 512) (n : Fin 512), j = ix2 r n := ⟨j 0, j 1, by funext a; match a with | ⟨0, _⟩ => rfl | ⟨1, _⟩ => rfl⟩
  have e : (win0_7.blk t).view.emb (ix2 r n) = (ix2 ⟨t.val * 512 + r.val, by omega⟩ n : S16384x512.Idx) := by
    funext a
    apply Fin.ext
    match a with
    | ⟨0, _⟩ => show win0_7.index t 0 * 512 + 1 * r.val = t.val * 512 + r.val; rw [hi.1]; omega
    | ⟨1, _⟩ => show win0_7.index t 1 * 512 + 1 * n.val = n.val; rw [hi.2]; omega
  rw [e]
  exact point512 m c t 1024 _ r n

/-- The blocks of the values tile their array. -/
theorem cover7 (i : S16384x512.Idx) : ∃ t : Fin cfg0.N, (cfg0.win 7).flush t = true ∧ i ∈ ((cfg0.win 7).blk t).view.set := by
  have h0 : (i 0).val < 16384 := (i 0).isLt
  have h1 : (i 1).val < 512 := (i 1).isLt
  have hN : cfg0.N = 32 := N_0
  obtain ⟨t, ht⟩ : ∃ t : Fin cfg0.N, t.val = (i 0).val / 512 := ⟨⟨(i 0).val / 512, by omega⟩, rfl⟩
  refine ⟨t, flush0_7 t, ?_⟩
  have hi := idxs7 t
  show i ∈ ((View.whole main_v5_4).slice (win0_7.rect t)).set
  rw [View.set_slice_whole, Rect.mem_set_unit]
  intro a
  match a with
  | ⟨0, _⟩ => show win0_7.index t 0 * 512 ≤ (i 0).val ∧ (i 0).val < win0_7.index t 0 * 512 + 512; rw [hi.1]; omega
  | ⟨1, _⟩ => show win0_7.index t 1 * 512 ≤ (i 1).val ∧ (i 1).val < win0_7.index t 1 * 512 + 512; rw [hi.2]; omega

/-- Where the blocks of the recurrence inputs lie. -/
theorem idxs8 : ∀ t : Fin cfg0.N, win0_8.index t 0 = t.val ∧ win0_8.index t 1 = 0 :=
  (by decide +kernel : ∀ t : Fin grid0.N, win0_8.index t 0 = t.val ∧ win0_8.index t 1 = 0)

/-- What point `t` writes back to the recurrence inputs is block `t` of them. -/
theorem flushed_eq8 (c : Dev nD) (t : Fin cfg0.N) : (dats m 0 c).flushed 8 t = (win0_8.blk t).view.read (Elt Ideal)
    (flat 1536 (by decide) (m ((c : Thread nD τ).loc main_arg0)) (m ((c : Thread nD τ).loc main_arg1)) (m ((c : Thread nD τ).loc main_arg2)) : S16384x512.Idx → EReal) := by
  have hi := idxs8 t
  have ht := tlt t
  rw [Value.flushed8]
  unfold out0_8 k0_pay12
  rw [View.canon_unit_zero hz, View.ld_unit_zero hz, View.ld_unit_zero hz]
  funext j
  rw [View.read_apply]
  obtain ⟨r, n, rfl⟩ : ∃ (r : Fin 512) (n : Fin 512), j = ix2 r n := ⟨j 0, j 1, by funext a; match a with | ⟨0, _⟩ => rfl | ⟨1, _⟩ => rfl⟩
  have e : (win0_8.blk t).view.emb (ix2 r n) = (ix2 ⟨t.val * 512 + r.val, by omega⟩ n : S16384x512.Idx) := by
    funext a
    apply Fin.ext
    match a with
    | ⟨0, _⟩ => show win0_8.index t 0 * 512 + 1 * r.val = t.val * 512 + r.val; rw [hi.1]; omega
    | ⟨1, _⟩ => show win0_8.index t 1 * 512 + 1 * n.val = n.val; rw [hi.2]; omega
  rw [e]
  exact point512 m c t 1536 _ r n

/-- The blocks of the recurrence inputs tile their array. -/
theorem cover8 (i : S16384x512.Idx) : ∃ t : Fin cfg0.N, (cfg0.win 8).flush t = true ∧ i ∈ ((cfg0.win 8).blk t).view.set := by
  have h0 : (i 0).val < 16384 := (i 0).isLt
  have h1 : (i 1).val < 512 := (i 1).isLt
  have hN : cfg0.N = 32 := N_0
  obtain ⟨t, ht⟩ : ∃ t : Fin cfg0.N, t.val = (i 0).val / 512 := ⟨⟨(i 0).val / 512, by omega⟩, rfl⟩
  refine ⟨t, flush0_8 t, ?_⟩
  have hi := idxs8 t
  show i ∈ ((View.whole main_v5_5).slice (win0_8.rect t)).set
  rw [View.set_slice_whole, Rect.mem_set_unit]
  intro a
  match a with
  | ⟨0, _⟩ => show win0_8.index t 0 * 512 ≤ (i 0).val ∧ (i 0).val < win0_8.index t 0 * 512 + 512; rw [hi.1]; omega
  | ⟨1, _⟩ => show win0_8.index t 1 * 512 ≤ (i 1).val ∧ (i 1).val < win0_8.index t 1 * 512 + 512; rw [hi.2]; omega

/-- Where the blocks of the first gate lie. -/
theorem idxs9 : ∀ t : Fin cfg0.N, win0_9.index t 0 = t.val ∧ win0_9.index t 1 = 0 :=
  (by decide +kernel : ∀ t : Fin grid0.N, win0_9.index t 0 = t.val ∧ win0_9.index t 1 = 0)

/-- What point `t` writes back to the first gate is block `t` of them. -/
theorem flushed_eq9 (c : Dev nD) (t : Fin cfg0.N) : (dats m 0 c).flushed 9 t = (win0_9.blk t).view.read (Elt Ideal)
    (gate (m ((c : Thread nD τ).loc main_arg0)) (m ((c : Thread nD τ).loc main_arg1)) (m ((c : Thread nD τ).loc main_arg2)) : S16384x1024.Idx → EReal) := by
  have hi := idxs9 t
  have ht := tlt t
  rw [Value.flushed9]
  unfold out0_9 k0_pay12
  rw [View.canon_unit_zero hz, View.ld_unit_zero hz, View.ld_unit_zero hz]
  funext j
  rw [View.read_apply]
  obtain ⟨r, n, rfl⟩ : ∃ (r : Fin 512) (n : Fin 1024), j = ix2 r n := ⟨j 0, j 1, by funext a; match a with | ⟨0, _⟩ => rfl | ⟨1, _⟩ => rfl⟩
  have e : (win0_9.blk t).view.emb (ix2 r n) = (ix2 ⟨t.val * 512 + r.val, by omega⟩ n : S16384x1024.Idx) := by
    funext a
    apply Fin.ext
    match a with
    | ⟨0, _⟩ => show win0_9.index t 0 * 512 + 1 * r.val = t.val * 512 + r.val; rw [hi.1]; omega
    | ⟨1, _⟩ => show win0_9.index t 1 * 1024 + 1 * n.val = n.val; rw [hi.2]; omega
  rw [e]
  exact (pay4_apply _ _ r n).trans (congrArg Ideal.logistic (point1024 m c t 2048 _ r n))

/-- The blocks of the first gate tile their array. -/
theorem cover9 (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  have hN : cfg0.N = 32 := N_0
  obtain ⟨t, ht⟩ : ∃ t : Fin cfg0.N, t.val = (i 0).val / 512 := ⟨⟨(i 0).val / 512, by omega⟩, rfl⟩
  refine ⟨t, flush0_9 t, ?_⟩
  have hi := idxs9 t
  show i ∈ ((View.whole main_v5_6).slice (win0_9.rect t)).set
  rw [View.set_slice_whole, Rect.mem_set_unit]
  intro a
  match a with
  | ⟨0, _⟩ => show win0_9.index t 0 * 512 ≤ (i 0).val ∧ (i 0).val < win0_9.index t 0 * 512 + 512; rw [hi.1]; omega
  | ⟨1, _⟩ => show win0_9.index t 1 * 1024 ≤ (i 1).val ∧ (i 1).val < win0_9.index t 1 * 1024 + 1024; rw [hi.2]; omega

/-- Where the blocks of the second gate lie. -/
theorem idxs10 : ∀ t : Fin cfg0.N, win0_10.index t 0 = t.val ∧ win0_10.index t 1 = 0 :=
  (by decide +kernel : ∀ t : Fin grid0.N, win0_10.index t 0 = t.val ∧ win0_10.index t 1 = 0)

/-- What point `t` writes back to the second gate is block `t` of them. -/
theorem flushed_eq10 (c : Dev nD) (t : Fin cfg0.N) : (dats m 0 c).flushed 10 t = (win0_10.blk t).view.read (Elt Ideal)
    (wide 3072 (by decide) (m ((c : Thread nD τ).loc main_arg0)) (m ((c : Thread nD τ).loc main_arg1)) (m ((c : Thread nD τ).loc main_arg2)) : S16384x1024.Idx → EReal) := by
  have hi := idxs10 t
  have ht := tlt t
  rw [Value.flushed10]
  unfold out0_10 k0_pay12
  rw [View.canon_unit_zero hz, View.ld_unit_zero hz, View.ld_unit_zero hz]
  funext j
  rw [View.read_apply]
  obtain ⟨r, n, rfl⟩ : ∃ (r : Fin 512) (n : Fin 1024), j = ix2 r n := ⟨j 0, j 1, by funext a; match a with | ⟨0, _⟩ => rfl | ⟨1, _⟩ => rfl⟩
  have e : (win0_10.blk t).view.emb (ix2 r n) = (ix2 ⟨t.val * 512 + r.val, by omega⟩ n : S16384x1024.Idx) := by
    funext a
    apply Fin.ext
    match a with
    | ⟨0, _⟩ => show win0_10.index t 0 * 512 + 1 * r.val = t.val * 512 + r.val; rw [hi.1]; omega
    | ⟨1, _⟩ => show win0_10.index t 1 * 1024 + 1 * n.val = n.val; rw [hi.2]; omega
  rw [e]
  exact point1024 m c t 3072 _ r n

/-- The blocks of the second gate tile their array. -/
theorem cover10 (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  have hN : cfg0.N = 32 := N_0
  obtain ⟨t, ht⟩ : ∃ t : Fin cfg0.N, t.val = (i 0).val / 512 := ⟨⟨(i 0).val / 512, by omega⟩, rfl⟩
  refine ⟨t, flush0_10 t, ?_⟩
  have hi := idxs10 t
  show i ∈ ((View.whole main_v5_7).slice (win0_10.rect t)).set
  rw [View.set_slice_whole, Rect.mem_set_unit]
  intro a
  match a with
  | ⟨0, _⟩ => show win0_10.index t 0 * 512 ≤ (i 0).val ∧ (i 0).val < win0_10.index t 0 * 512 + 512; rw [hi.1]; omega
  | ⟨1, _⟩ => show win0_10.index t 1 * 1024 ≤ (i 1).val ∧ (i 1).val < win0_10.index t 1 * 1024 + 1024; rw [hi.2]; omega

/-- The kernel's run: its eight arrays, the arguments unchanged. -/
theorem run : θ_run defs (onTc (τ := τ) (main (F := Ideal))) ⟨m, fun _ => 0, ρ⟩ fun r => ∀ c : Dev nD,
      r.2.mem ((c : Thread nD τ).loc main_v5_0) = (flat 0 (by decide) (m ((c : Thread nD τ).loc main_arg0)) (m ((c : Thread nD τ).loc main_arg1)) (m ((c : Thread nD τ).loc main_arg2)) : S16384x512.Idx → EReal)
      ∧ r.2.mem ((c : Thread nD τ).loc main_v5_1) = (turned 512 (by decide) (m ((c : Thread nD τ).loc main_arg0)) (m ((c : Thread nD τ).loc main_arg1)) (m ((c : Thread nD τ).loc main_arg2)) : S4x512x4096.Idx → EReal)
      ∧ r.2.mem ((c : Thread nD τ).loc main_v5_2) = (turned 1024 (by decide) (m ((c : Thread nD τ).loc main_arg0)) (m ((c : Thread nD τ).loc main_arg1)) (m ((c : Thread nD τ).loc main_arg2)) : S4x512x4096.Idx → EReal)
      ∧ r.2.mem ((c : Thread nD τ).loc main_v5_3) = (flat 512 (by decide) (m ((c : Thread nD τ).loc main_arg0)) (m ((c : Thread nD τ).loc main_arg1)) (m ((c : Thread nD τ).loc main_arg2)) : S16384x512.Idx → EReal)
      ∧ r.2.mem ((c : Thread nD τ).loc main_v5_4) = (flat 1024 (by decide) (m ((c : Thread nD τ).loc main_arg0)) (m ((c : Thread nD τ).loc main_arg1)) (m ((c : Thread nD τ).loc main_arg2)) : S16384x512.Idx → EReal)
      ∧ r.2.mem ((c : Thread nD τ).loc main_v5_5) = (flat 1536 (by decide) (m ((c : Thread nD τ).loc main_arg0)) (m ((c : Thread nD τ).loc main_arg1)) (m ((c : Thread nD τ).loc main_arg2)) : S16384x512.Idx → EReal)
      ∧ r.2.mem ((c : Thread nD τ).loc main_v5_6) = (gate (m ((c : Thread nD τ).loc main_arg0)) (m ((c : Thread nD τ).loc main_arg1)) (m ((c : Thread nD τ).loc main_arg2)) : S16384x1024.Idx → EReal)
      ∧ r.2.mem ((c : Thread nD τ).loc main_v5_7) = (wide 3072 (by decide) (m ((c : Thread nD τ).loc main_arg0)) (m ((c : Thread nD τ).loc main_arg1)) (m ((c : Thread nD τ).loc main_arg2)) : S16384x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq3 m c t) cover3),
      (h c).2.1.trans ((dats m 0 c).arrAt_eq_of_cover 4 _ (fun t _ => flushed_eq4 m c t) cover4),
      (h c).2.2.1.trans ((dats m 0 c).arrAt_eq_of_cover 5 _ (fun t _ => flushed_eq5 m c t) cover5),
      (h c).2.2.2.1.trans ((dats m 0 c).arrAt_eq_of_cover 6 _ (fun t _ => flushed_eq6 m c t) cover6),
      (h c).2.2.2.2.1.trans ((dats m 0 c).arrAt_eq_of_cover 7 _ (fun t _ => flushed_eq7 m c t) cover7),
      (h c).2.2.2.2.2.1.trans ((dats m 0 c).arrAt_eq_of_cover 8 _ (fun t _ => flushed_eq8 m c t) cover8),
      (h c).2.2.2.2.2.2.1.trans ((dats m 0 c).arrAt_eq_of_cover 9 _ (fun t _ => flushed_eq9 m c t) cover9),
      (h c).2.2.2.2.2.2.2.1.trans ((dats m 0 c).arrAt_eq_of_cover 10 _ (fun t _ => flushed_eq10 m c t) cover10),
      (h c).2.2.2.2.2.2.2.2⟩) (Value.run_blocks m ρ)

end Cert.InpIdeal.RefValue

/-! ## The reference -/

namespace Cert.InpRefIdeal.RefValue

open Cert.InpRefIdeal Cert.InpRefIdeal.Gen Cert.InpRefIdeal.Read
open Cert.InpIdeal.RefValue (val flat wide turned gate)

variable (x : S4x4096x1024.Idx → EReal) (g : S1x1024.Idx → EReal) (w : S1x1024x4096.Idx → EReal)

/-- The reference's one product, at an index. -/
theorem v15 (b : Fin 4) (s n : Fin 4096) : val_main_v15 (F := Ideal) x g w (ix3 b s n) = val x g w b s n := by
  pointwise [val_main_v15, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_v14, dot_S4x4096x1024_S1024x4096_S4x4096x4096_2_0_01_1_n_n]
  rfl

/-- The reference's queries. -/
theorem v24 : val_main_v24 (F := Ideal) x g w = flat 0 (by decide) x g w := by
  funext i
  obtain ⟨r, n, rfl⟩ : ∃ (r : Fin 16384) (n : Fin 512), i = ix2 r n := ⟨i 0, i 1, by funext a; match a with | ⟨0, _⟩ => rfl | ⟨1, _⟩ => rfl⟩
  rw [val_main_v24_apply, val_main_v16_apply]
  refine Eq.trans (congrArg _ ?_) (v15 x g w ⟨r.val / 4096, by omega⟩ ⟨r.val % 4096, by omega⟩ ⟨0 + n.val, by omega⟩)
  funext a
  apply Fin.ext
  match a with
  | ⟨0, _⟩ => show (r.val * 512 + n.val) / 2097152 = r.val / 4096; omega
  | ⟨1, _⟩ => show (r.val * 512 + n.val) / 512 % 4096 = r.val % 4096; omega
  | ⟨2, _⟩ => show (r.val * 512 + n.val) % 512 = 0 + n.val; omega

/-- The reference's keys. -/
theorem v26 : val_main_v26 (F := Ideal) x g w = flat 512 (by decide) x g w := by
  funext i
  obtain ⟨r, n, rfl⟩ : ∃ (r : Fin 16384) (n : Fin 512), i = ix2 r n := ⟨i 0, i 1, by funext a; match a with | ⟨0, _⟩ => rfl | ⟨1, _⟩ => rfl⟩
  show val_main_v25 (F := Ideal) x g w (ix2 r n) = _
  rw [val_main_v25_apply, val_main_v17_apply]
  refine Eq.trans (congrArg _ ?_) (v15 x g w ⟨r.val / 4096, by omega⟩ ⟨r.val % 4096, by omega⟩ ⟨512 + n.val, by omega⟩)
  funext a
  apply Fin.ext
  match a with
  | ⟨0, _⟩ => show (r.val * 512 + n.val) / 2097152 = r.val / 4096; omega
  | ⟨1, _⟩ => show (r.val * 512 + n.val) / 512 % 4096 = r.val % 4096; omega
  | ⟨2, _⟩ => show 512 + (r.val * 512 + n.val) % 512 = 512 + n.val; omega

/-- The reference's values. -/
theorem v28 : val_main_v28 (F := Ideal) x g w = flat 1024 (by decide) x g w := by
  funext i
  obtain ⟨r, n, rfl⟩ : ∃ (r : Fin 16384) (n : Fin 512), i = ix2 r n := ⟨i 0, i 1, by funext a; match a with | ⟨0, _⟩ => rfl | ⟨1, _⟩ => rfl⟩
  show val_main_v27 (F := Ideal) x g w (ix2 r n) = _
  rw [val_main_v27_apply, val_main_v18_apply]
  refine Eq.trans (congrArg _ ?_) (v15 x g w ⟨r.val / 4096, by omega⟩ ⟨r.val % 4096, by omega⟩ ⟨1024 + n.val, by omega⟩)
  funext a
  apply Fin.ext
  match a with
  | ⟨0, _⟩ => show (r.val * 512 + n.val) / 2097152 = r.val / 4096; omega
  | ⟨1, _⟩ => show (r.val * 512 + n.val) / 512 % 4096 = r.val % 4096; omega
  | ⟨2, _⟩ => show 1024 + (r.val * 512 + n.val) % 512 = 1024 + n.val; omega

/-- The reference's recurrence inputs. -/
theorem v29 : val_main_v29 (F := Ideal) x g w = flat 1536 (by decide) x g w := by
  funext i
  obtain ⟨r, n, rfl⟩ : ∃ (r : Fin 16384) (n : Fin 512), i = ix2 r n := ⟨i 0, i 1, by funext a; match a with | ⟨0, _⟩ => rfl | ⟨1, _⟩ => rfl⟩
  rw [val_main_v29_apply, val_main_v19_apply]
  refine Eq.trans (congrArg _ ?_) (v15 x g w ⟨r.val / 4096, by omega⟩ ⟨r.val % 4096, by omega⟩ ⟨1536 + n.val, by omega⟩)
  funext a
  apply Fin.ext
  match a with
  | ⟨0, _⟩ => show (r.val * 512 + n.val) / 2097152 = r.val / 4096; omega
  | ⟨1, _⟩ => show (r.val * 512 + n.val) / 512 % 4096 = r.val % 4096; omega
  | ⟨2, _⟩ => show 1536 + (r.val * 512 + n.val) % 512 = 1536 + n.val; omega

/-- The reference's second gate. -/
theorem v38 : val_main_v38 (F := Ideal) x g w = wide 3072 (by decide) x g w := by
  funext i
  obtain ⟨r, n, rfl⟩ : ∃ (r : Fin 16384) (n : Fin 1024), i = ix2 r n := ⟨i 0, i 1, by funext a; match a with | ⟨0, _⟩ => rfl | ⟨1, _⟩ => rfl⟩
  rw [val_main_v38_apply, val_main_v21_apply]
  refine Eq.trans (congrArg _ ?_) (v15 x g w ⟨r.val / 4096, by omega⟩ ⟨r.val % 4096, by omega⟩ ⟨3072 + n.val, by omega⟩)
  funext a
  apply Fin.ext
  match a with
  | ⟨0, _⟩ => show (r.val * 1024 + n.val) / 4194304 = r.val / 4096; omega
  | ⟨1, _⟩ => show (r.val * 1024 + n.val) / 1024 % 4096 = r.val % 4096; omega
  | ⟨2, _⟩ => show 3072 + (r.val * 1024 + n.val) % 1024 = 3072 + n.val; omega

/-- The reference's keys laid rows last. -/
theorem v22 : val_main_v22 (F := Ideal) x g w = turned 512 (by decide) x g w := by
  funext i
  obtain ⟨b, n, s, rfl⟩ : ∃ (b : Fin 4) (n : Fin 512) (s : Fin 4096), i = ix3 b n s := ⟨i 0, i 1, i 2, by funext a; match a with | ⟨0, _⟩ => rfl | ⟨1, _⟩ => rfl | ⟨2, _⟩ => rfl⟩
  rw [val_main_v22_apply, val_main_v17_apply]
  refine Eq.trans (congrArg _ ?_) (v15 x g w b s ⟨512 + n.val, by omega⟩)
  funext a
  apply Fin.ext
  match a with
  | ⟨0, _⟩ => rfl
  | ⟨1, _⟩ => rfl
  | ⟨2, _⟩ => rfl

/-- The reference's values laid rows last. -/
theorem v23 : val_main_v23 (F := Ideal) x g w = turned 1024 (by decide) x g w := by
  funext i
  obtain ⟨b, n, s, rfl⟩ : ∃ (b : Fin 4) (n : Fin 512) (s : Fin 4096), i = ix3 b n s := ⟨i 0, i 1, i 2, by funext a; match a with | ⟨0, _⟩ => rfl | ⟨1, _⟩ => rfl | ⟨2, _⟩ => rfl⟩
  rw [val_main_v23_apply, val_main_v18_apply]
  refine Eq.trans (congrArg _ ?_) (v15 x g w b s ⟨1024 + n.val, by omega⟩)
  funext a
  apply Fin.ext
  match a with
  | ⟨0, _⟩ => rfl
  | ⟨1, _⟩ => rfl
  | ⟨2, _⟩ => rfl

/-- The reference's first gate. -/
theorem v37 : val_main_v37 (F := Ideal) x g w = gate x g w := by
  funext i
  obtain ⟨r, n, rfl⟩ : ∃ (r : Fin 16384) (n : Fin 1024), i = ix2 r n := ⟨i 0, i 1, by funext a; match a with | ⟨0, _⟩ => rfl | ⟨1, _⟩ => rfl⟩
  show val_main_v36 (F := Ideal) x g w (ix2 r n) = _
  rw [val_main_v36_apply]
  have e : val_main_v20 (F := Ideal) x g w (idx_main_v36 (ix2 r n)) = wide 2048 (by decide) x g w (ix2 r n) := by
    rw [val_main_v20_apply]
    refine Eq.trans (congrArg _ ?_) (v15 x g w ⟨r.val / 4096, by omega⟩ ⟨r.val % 4096, by omega⟩ ⟨2048 + n.val, by omega⟩)
    funext a
    apply Fin.ext
    match a with
    | ⟨0, _⟩ => show (r.val * 1024 + n.val) / 4194304 = r.val / 4096; omega
    | ⟨1, _⟩ => show (r.val * 1024 + n.val) / 1024 % 4096 = r.val % 4096; omega
    | ⟨2, _⟩ => show 2048 + (r.val * 1024 + n.val) % 1024 = 2048 + n.val; omega
  unfold gate
  rw [val_main_v35_apply, val_main_v34_apply, val_main_v33_apply, val_main_v32_apply, val_main_v31_apply, val_main_v30_apply, e]
  show Ideal.div (Ideal.ofBits .f32 0x3F800000#32) (Ideal.ofBits .f32 0x3F800000#32 + Ideal.exp (-(wide 2048 (by decide) x g w (ix2 r n)))) = _
  rw [Ideal.ofBits_one_f32]
  rfl

/-- The two programs' results agree, whatever the arguments. -/
theorem algebraic : Cert.algebraic_InpIdeal_InpRefIdeal := by
  intro m g m' g' _ hin
  refine ⟨_, _, _, _, _, _, _, _, Cert.InpIdeal.RefValue.run m g, (θ_run _ _ _).mono (fun r h c => ?_) (Cert.InpRefIdeal.Value.run (F := Ideal) m' g')⟩
  obtain ⟨h0, h1, h2, h3, h4, h5, h6, h7, hr⟩ := h c
  obtain ⟨e0, e1, e2⟩ := hin c
  rw [← e0, ← e1, ← e2]
  exact ⟨h0.trans ((val_main_v24_eq (F := Ideal) _ _ _).trans (v24 _ _ _)), h1.trans ((val_main_v22_eq (F := Ideal) _ _ _).trans (v22 _ _ _)),
    h2.trans ((val_main_v23_eq (F := Ideal) _ _ _).trans (v23 _ _ _)), h3.trans ((val_main_v26_eq (F := Ideal) _ _ _).trans (v26 _ _ _)),
    h4.trans ((val_main_v28_eq (F := Ideal) _ _ _).trans (v28 _ _ _)), h5.trans ((val_main_v29_eq (F := Ideal) _ _ _).trans (v29 _ _ _)),
    h6.trans ((val_main_v37_eq (F := Ideal) _ _ _).trans (v37 _ _ _)), h7.trans ((val_main_v38_eq (F := Ideal) _ _ _).trans (v38 _ _ _)), hr⟩

end Cert.InpRefIdeal.RefValue

end
-- ==== Proof.Mkv.lean ====
/- The memory keys and values: the kernel's two arrays and the reference's two arrays are the same RMS-normalised
   rows times the two weight matrices. -/
module

public import proofs.«01_k».proof.Defs
public import proofs.«01_k».proof.Proof.Spec
public import proofs.«01_k».proof.Proof.Gen.MkvIdeal.Value
public import proofs.«01_k».proof.Proof.Gen.MkvRefIdeal.Run
public import proofs.«01_k».proof.Proof.Gen.MkvRefIdeal.Read

@[expose] public section

noncomputable section

open Idealize.ShloMosaic Idealize.ShloMosaic.TcCoe Idealize.SL.Sem
open Idealize.ShloMosaic.Pipeline (Dat)

/-! ## The kernel -/

namespace Cert.MkvIdeal.RefValue

open Cert.MkvIdeal Cert.MkvIdeal.Gen

/-- The first product of a block, at a row and a column. -/
theorem pay2_apply (v0 : Vec Ideal S256x1024 .f32) (v2 : Vec Ideal S1x1024 .f32) (v17 : Vec Ideal S1024x512 .bf16) (r : Fin 256) (c : Fin 512) :
    k0_pay2 v0 v2 v17 (ix2 r c) = Spec.proj (fun k => v0 (ix2 r k)) (fun k => v2 (ix2 0 k)) (fun k => v17 (ix2 k c)) := by
  unfold_payloads
  pointwise [dot_S256x1024_S1024x512_S256x512_1_0_0_1_n_n]
  rfl

/-- The second product of a block, at a row and a column. -/
theorem pay3_apply (v0 : Vec Ideal S256x1024 .f32) (v2 : Vec Ideal S1x1024 .f32) (v17 : Vec Ideal S1024x512 .bf16) (r : Fin 256) (c : Fin 512) :
    k0_pay3 v0 v2 v17 (ix2 r c) = Spec.proj (fun k => v0 (ix2 r k)) (fun k => v2 (ix2 0 k)) (fun k => v17 (ix2 k c)) := by
  unfold_payloads
  pointwise [dot_S256x1024_S1024x512_S256x512_1_0_0_1_n_n]
  rfl

/-- The batches' rows laid one after another. -/
theorem rows_apply (x : S4x256x1024.Idx → EReal) (h : S4x256x1024.ShapeCasts S1024x1024) (r k : Fin 1024) :
    shapeCast S1024x1024 x h (ix2 r k) = x (ix3 ⟨r.val / 256, by omega⟩ ⟨r.val % 256, by omega⟩ k) := by
  refine shapeCast_apply _ _ _ _ ?_
  rewrite [Shape.rowMajor_val_three, Shape.rowMajor_val_two]
  show (r.val / 256 * 256 + r.val % 256) * 1024 + k.val = r.val * 1024 + k.val
  omega

/-- A row flattened and laid as a row again. -/
theorem gain_apply (x : S1x1024.Idx → EReal) (h : S1x1024.ShapeCasts S1024) (h' : S1024.ShapeCasts S1x1024) (k : Fin 1024) :
    shapeCast S1x1024 (shapeCast S1024 x h) h' (ix2 0 k) = x (ix2 0 k) := by
  refine (shapeCast_apply _ _ _ (ix1 k) ?_).trans (shapeCast_apply _ _ _ _ ?_) <;>
  · rewrite [Shape.rowMajor_val_one, Shape.rowMajor_val_two]
    simp [ix1, ix2]

/-- The one layer's weight matrix. -/
theorem weight_apply (x : S1x1024x512.Idx → EReal) (h : S1x1024x512.ShapeCasts S1024x512) (k : Fin 1024) (n : Fin 512) :
    shapeCast S1024x512 x h (ix2 k n) = x (ix3 0 k n) := by
  refine shapeCast_apply _ _ _ _ ?_
  rewrite [Shape.rowMajor_val_three, Shape.rowMajor_val_two]
  show (0 * 1024 + k.val) * 512 + n.val = k.val * 512 + n.val
  omega

variable (m : (ℓ : Loc nD τ sig) → Buf (Elt Ideal) ℓ) (ρ : Dev nD → PrngReg)

/-- The rows the kernel reads are the memory rows of the argument, batch by batch. -/
theorem V0 (c : Dev nD) (r k : Fin 1024) : (V m c main_v0 : S1024x1024.Idx → EReal) (ix2 r k)
    = (m ((c : Thread nD τ).loc main_arg0) : S4x256x1024.Idx → EReal) (ix3 ⟨r.val / 256, by omega⟩ ⟨r.val % 256, by omega⟩ k) := by
  have h : V m c main_v0 = shapeCast _ (m ((c : Thread nD τ).loc main_arg0)) shapeCasts_S4x256x1024_S1024x1024 := by
    unfold V; after_results <;> rfl
  rw [h]
  exact rows_apply _ _ r k

/-- The gain row the kernel reads is the argument's. -/
theorem V2 (c : Dev nD) (k : Fin 1024) : (V m c main_v2 : S1x1024.Idx → EReal) (ix2 0 k)
    = (m ((c : Thread nD τ).loc main_arg1) : S1x1024.Idx → EReal) (ix2 0 k) := by
  have h : V m c main_v2 = shapeCast _ (shapeCast _ (m ((c : Thread nD τ).loc main_arg1)) shapeCasts_S1x1024_S1024) shapeCasts_S1024_S1x1024 := by
    unfold V; after_results <;> rfl
  rw [h]
  exact gain_apply _ _ _ k

/-- The first weight matrix the kernel reads is the argument's. -/
theorem V4 (c : Dev nD) (k : Fin 1024) (n : Fin 512) : (V m c main_v4 : S1024x512.Idx → EReal) (ix2 k n)
    = (m ((c : Thread nD τ).loc main_arg2) : S1x1024x512.Idx → EReal) (ix3 0 k n) := by
  have h : V m c main_v4 = (truncf (F := Ideal) .bf16 (shapeCast _ (m ((c : Thread nD τ).loc main_arg2)) shapeCasts_S1x1024x512_S1024x512) bitsLt_bf16_f32 : S1024x512.Idx → EReal) := by
    unfold V; after_results <;> rfl
  rw [h]
  exact weight_apply _ _ k n

/-- The second weight matrix the kernel reads is the argument's. -/
theorem V6 (c : Dev nD) (k : Fin 1024) (n : Fin 512) : (V m c main_v6 : S1024x512.Idx → EReal) (ix2 k n)
    = (m ((c : Thread nD τ).loc main_arg3) : S1x1024x512.Idx → EReal) (ix3 0 k n) := by
  have h : V m c main_v6 = (truncf (F := Ideal) .bf16 (shapeCast _ (m ((c : Thread nD τ).loc main_arg3)) shapeCasts_S1x1024x512_S1024x512) bitsLt_bf16_f32 : S1024x512.Idx → EReal) := by
    unfold V; after_results <;> rfl
  rw [h]
  exact weight_apply _ _ k n

/-- Where the windows' blocks lie: the rows' and the results' blocks walk down the rows, the others stay. -/
theorem idxs (t : Fin cfg0.N) : win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 := by
  rcases fin_N0 t with rfl | rfl | rfl | rfl <;> decide +kernel

theorem tlt (t : Fin cfg0.N) : t.val < 4 := lt_of_lt_of_eq t.isLt N_0

/-- Block `t` of the rows. -/
theorem blk0 (c : Dev nD) (t : Fin cfg0.N) (r : Fin 256) (k : Fin 1024) : (iblk m c 0 t : S256x1024.Idx → EReal) (ix2 r k)
    = (m ((c : Thread nD τ).loc main_arg0) : S4x256x1024.Idx → EReal)
        (ix3 ⟨(t.val * 256 + r.val) / 256, by have := tlt t; omega⟩ ⟨(t.val * 256 + r.val) % 256, by omega⟩ k) := by
  refine Eq.trans ?_ (V0 m c ⟨t.val * 256 + r.val, by have := tlt t; omega⟩ k)
  have hi := idxs t
  unfold iblk
  rw [View.read_apply]
  show V m c main_v0 _ = V m c main_v0 _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2.1]; omega

/-- Block `t` of the gain: the whole row. -/
theorem blk1 (c : Dev nD) (t : Fin cfg0.N) (k : Fin 1024) : (iblk m c 1 t : S1x1024.Idx → EReal) (ix2 0 k)
    = (m ((c : Thread nD τ).loc main_arg1) : S1x1024.Idx → EReal) (ix2 0 k) := by
  refine Eq.trans ?_ (V2 m c k)
  have hi := idxs t
  unfold iblk
  rw [View.read_apply]
  show V m c main_v2 _ = V m c main_v2 _
  congr 1
  funext a
  apply Fin.ext
  match a with
  | ⟨0, _⟩ => show win0_1.index t 0 * 1 + 1 * 0 = 0; rw [hi.2.2.1]
  | ⟨1, _⟩ => show win0_1.index t 1 * 1024 + 1 * k.val = k.val; rw [hi.2.2.2.1]; omega

/-- Block `t` of the first weights: all of them. -/
theorem blk2 (c : Dev nD) (t : Fin cfg0.N) (k : Fin 1024) (n : Fin 512) : (iblk m c 2 t : S1024x512.Idx → EReal) (ix2 k n)
    = (m ((c : Thread nD τ).loc main_arg2) : S1x1024x512.Idx → EReal) (ix3 0 k n) := by
  refine Eq.trans ?_ (V4 m c k n)
  have hi := idxs t
  unfold iblk
  rw [View.read_apply]
  show V m c main_v4 _ = V m c main_v4 _
  congr 1
  funext a
  apply Fin.ext
  match a with
  | ⟨0, _⟩ => show win0_2.index t 0 * 1024 + 1 * k.val = k.val; rw [hi.2.2.2.2.1]; omega
  | ⟨1, _⟩ => show win0_2.index t 1 * 512 + 1 * n.val = n.val; rw [hi.2.2.2.2.2.1]; omega

/-- Block `t` of the second weights: all of them. -/
theorem blk3 (c : Dev nD) (t : Fin cfg0.N) (k : Fin 1024) (n : Fin 512) : (iblk m c 3 t : S1024x512.Idx → EReal) (ix2 k n)
    = (m ((c : Thread nD τ).loc main_arg3) : S1x1024x512.Idx → EReal) (ix3 0 k n) := by
  refine Eq.trans ?_ (V6 m c k n)
  have hi := idxs t
  unfold iblk
  rw [View.read_apply]
  show V m c main_v6 _ = V m c main_v6 _
  congr 1
  funext a
  apply Fin.ext
  match a with
  | ⟨0, _⟩ => show win0_3.index t 0 * 1024 + 1 * k.val = k.val; rw [hi.2.2.2.2.2.2.1]; omega
  | ⟨1, _⟩ => show win0_3.index t 1 * 512 + 1 * n.val = n.val; rw [hi.2.2.2.2.2.2.2.1]; omega

/-- The normalised memory rows times a weight matrix, as one array of all the rows. -/
def spec (x : S4x256x1024.Idx → EReal) (g : S1x1024.Idx → EReal) (w : S1x1024x512.Idx → EReal) (i : S1024x512.Idx) : EReal :=
  Spec.proj (fun k => x (ix3 ⟨(i 0).val / 256, by have h : (i 0).val < 1024 := (i 0).isLt; show (i 0).val / 256 < 4; omega⟩ ⟨(i 0).val % 256, Nat.mod_lt _ (by decide)⟩ k))
    (fun k => g (ix2 0 k)) (fun k => w (ix3 0 k (i 1)))

theorem hz : (![0, 0] : Fin 2 → Nat) = fun _ => 0 := funext fun a => by fin_cases a <;> rfl

/-- What point `t` writes back to the keys is block `t` of the keys. -/
theorem flushed_eq4 (c : Dev nD) (t : Fin cfg0.N) : (dats m 0 c).flushed 4 t = (win0_4.blk t).view.read (Elt Ideal)
    (spec (m ((c : Thread nD τ).loc main_arg0)) (m ((c : Thread nD τ).loc main_arg1)) (m ((c : Thread nD τ).loc main_arg2)) : S1024x512.Idx → EReal) := by
  have hi := idxs t
  rw [Value.flushed4]
  unfold out0_4
  rw [View.canon_unit_zero hz, View.ld_unit_zero hz, View.ld_unit_zero hz, View.ld_unit_zero hz]
  funext j
  rw [View.read_apply]
  obtain ⟨r, n, rfl⟩ : ∃ (r : Fin 256) (n : Fin 512), j = ix2 r n := ⟨j 0, j 1, by funext a; match a with | ⟨0, _⟩ => rfl | ⟨1, _⟩ => rfl⟩
  refine (pay2_apply _ _ _ r n).trans ?_
  simp only [blk0, blk1, blk2]
  have e : (win0_4.blk t).view.emb (ix2 r n) = (ix2 ⟨t.val * 256 + r.val, by have := tlt t; omega⟩ n : S1024x512.Idx) := by
    funext a
    apply Fin.ext
    match a with
    | ⟨0, _⟩ => show win0_4.index t 0 * 256 + 1 * r.val = t.val * 256 + r.val; rw [hi.2.2.2.2.2.2.2.2.1]; omega
    | ⟨1, _⟩ => show win0_4.index t 1 * 512 + 1 * n.val = n.val; rw [hi.2.2.2.2.2.2.2.2.2.1]; omega
  rw [e]
  rfl

/-- What point `t` writes back to the values is block `t` of the values. -/
theorem flushed_eq5 (c : Dev nD) (t : Fin cfg0.N) : (dats m 0 c).flushed 5 t = (win0_5.blk t).view.read (Elt Ideal)
    (spec (m ((c : Thread nD τ).loc main_arg0)) (m ((c : Thread nD τ).loc main_arg1)) (m ((c : Thread nD τ).loc main_arg3)) : S1024x512.Idx → EReal) := by
  have hi := idxs t
  rw [Value.flushed5]
  unfold out0_5
  rw [View.canon_unit_zero hz, View.ld_unit_zero hz, View.ld_unit_zero hz, View.ld_unit_zero hz]
  funext j
  rw [View.read_apply]
  obtain ⟨r, n, rfl⟩ : ∃ (r : Fin 256) (n : Fin 512), j = ix2 r n := ⟨j 0, j 1, by funext a; match a with | ⟨0, _⟩ => rfl | ⟨1, _⟩ => rfl⟩
  refine (pay3_apply _ _ _ r n).trans ?_
  simp only [blk0, blk1, blk3]
  have e : (win0_5.blk t).view.emb (ix2 r n) = (ix2 ⟨t.val * 256 + r.val, by have := tlt t; omega⟩ n : S1024x512.Idx) := by
    funext a
    apply Fin.ext
    match a with
    | ⟨0, _⟩ => show win0_5.index t 0 * 256 + 1 * r.val = t.val * 256 + r.val; rw [hi.2.2.2.2.2.2.2.2.2.2.1]; omega
    | ⟨1, _⟩ => show win0_5.index t 1 * 512 + 1 * n.val = n.val; rw [hi.2.2.2.2.2.2.2.2.2.2.2]; omega
  rw [e]
  rfl

/-- The keys' blocks tile their array. -/
theorem cover4 (i : S1024x512.Idx) : ∃ t : Fin cfg0.N, (cfg0.win 4).flush t = true ∧ i ∈ ((cfg0.win 4).blk t).view.set := by
  have h0 : (i 0).val < 1024 := (i 0).isLt
  have h1 : (i 1).val < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_4 t, ?_⟩
  have hi := idxs t
  show i ∈ ((View.whole main_v7_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [hi.2.2.2.2.2.2.2.2.1]; omega
  | ⟨1, _⟩ => show win0_4.index t 1 * 512 ≤ (i 1).val ∧ (i 1).val < win0_4.index t 1 * 512 + 512; rw [hi.2.2.2.2.2.2.2.2.2.1]; omega

/-- The values' blocks tile their array. -/
theorem cover5 (i : S1024x512.Idx) : ∃ t : Fin cfg0.N, (cfg0.win 5).flush t = true ∧ i ∈ ((cfg0.win 5).blk t).view.set := by
  have h0 : (i 0).val < 1024 := (i 0).isLt
  have h1 : (i 1).val < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_5 t, ?_⟩
  have hi := idxs t
  show i ∈ ((View.whole main_v7_1).slice (win0_5.rect t)).set
  rw [View.set_slice_whole, Rect.mem_set_unit]
  intro a
  match a with
  | ⟨0, _⟩ => show win0_5.index t 0 * 256 ≤ (i 0).val ∧ (i 0).val < win0_5.index t 0 * 256 + 256; rw [hi.2.2.2.2.2.2.2.2.2.2.1]; omega
  | ⟨1, _⟩ => show win0_5.index t 1 * 512 ≤ (i 1).val ∧ (i 1).val < win0_5.index t 1 * 512 + 512; rw [hi.2.2.2.2.2.2.2.2.2.2.2]; omega

/-- The kernel's run: its two arrays hold the normalised rows times the two weight matrices, the arguments unchanged. -/
theorem run : θ_run defs (onTc (τ := τ) (main (F := Ideal))) ⟨m, fun _ => 0, ρ⟩ fun r => ∀ c : Dev nD,
      r.2.mem ((c : Thread nD τ).loc main_v7_0) = (spec (m ((c : Thread nD τ).loc main_arg0)) (m ((c : Thread nD τ).loc main_arg1)) (m ((c : Thread nD τ).loc main_arg2)) : S1024x512.Idx → EReal)
      ∧ r.2.mem ((c : Thread nD τ).loc main_v7_1) = (spec (m ((c : Thread nD τ).loc main_arg0)) (m ((c : Thread nD τ).loc main_arg1)) (m ((c : Thread nD τ).loc main_arg3)) : S1024x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed_eq4 m c t) cover4),
      (h c).2.1.trans ((dats m 0 c).arrAt_eq_of_cover 5 _ (fun t _ => flushed_eq5 m c t) cover5), (h c).2.2⟩) (Value.run_blocks m ρ)

end Cert.MkvIdeal.RefValue

/-! ## The reference -/

namespace Cert.MkvRefIdeal.RefValue

open Cert.MkvRefIdeal Cert.MkvRefIdeal.Gen Cert.MkvRefIdeal.Read

/-- The reference's keys, at an index. -/
theorem v16 (x : S4x256x1024.Idx → EReal) (g : S1x1024.Idx → EReal) (w : S1x1024x512.Idx → EReal) :
    val_main_v16 (F := Ideal) x g w = Cert.MkvIdeal.RefValue.spec x g w := by
  funext i
  obtain ⟨r, n, rfl⟩ : ∃ (r : Fin 1024) (n : Fin 512), i = ix2 r n := ⟨i 0, i 1, by funext a; match a with | ⟨0, _⟩ => rfl | ⟨1, _⟩ => rfl⟩
  rw [val_main_v16_apply]
  have e : idx_main_v16 (ix2 r n) = ix3 ⟨r.val / 256, by omega⟩ ⟨r.val % 256, by omega⟩ n := by
    funext a
    apply Fin.ext
    match a with
    | ⟨0, _⟩ => show (r.val * 512 + n.val) / 131072 = r.val / 256; omega
    | ⟨1, _⟩ => show (r.val * 512 + n.val) / 512 % 256 = r.val % 256; omega
    | ⟨2, _⟩ => show (r.val * 512 + n.val) % 512 = n.val; omega
  rw [e]
  pointwise [val_main_v15, val_main_v13, val_main_v14, val_main_v12, val_main_v11, val_main_v10, val_main_v9, val_main_v8, val_main_v7, val_main_v6, val_main_v5, val_main_v4, val_main_v3, val_main_v2, val_main_v1, val_main_v0, val_main_cst, val_main_cst_0, val_main_cst_1, dot_S4x256x1024_S1024x512_S4x256x512_2_0_01_1_n_n]
  rfl

/-- The reference's values, at an index. -/
theorem v19 (x : S4x256x1024.Idx → EReal) (g : S1x1024.Idx → EReal) (w : S1x1024x512.Idx → EReal) :
    val_main_v19 (F := Ideal) x g w = Cert.MkvIdeal.RefValue.spec x g w := by
  funext i
  obtain ⟨r, n, rfl⟩ : ∃ (r : Fin 1024) (n : Fin 512), i = ix2 r n := ⟨i 0, i 1, by funext a; match a with | ⟨0, _⟩ => rfl | ⟨1, _⟩ => rfl⟩
  rw [val_main_v19_apply]
  have e : idx_main_v19 (ix2 r n) = ix3 ⟨r.val / 256, by omega⟩ ⟨r.val % 256, by omega⟩ n := by
    funext a
    apply Fin.ext
    match a with
    | ⟨0, _⟩ => show (r.val * 512 + n.val) / 131072 = r.val / 256; omega
    | ⟨1, _⟩ => show (r.val * 512 + n.val) / 512 % 256 = r.val % 256; omega
    | ⟨2, _⟩ => show (r.val * 512 + n.val) % 512 = n.val; omega
  rw [e]
  pointwise [val_main_v18, val_main_v13, val_main_v17, val_main_v12, val_main_v11, val_main_v10, val_main_v9, val_main_v8, val_main_v7, val_main_v6, val_main_v5, val_main_v4, val_main_v3, val_main_v2, val_main_v1, val_main_v0, val_main_cst, val_main_cst_0, val_main_cst_1, dot_S4x256x1024_S1024x512_S4x256x512_2_0_01_1_n_n]
  rfl

/-- The two programs' results agree, whatever the arguments. -/
theorem algebraic : Cert.algebraic_MkvIdeal_MkvRefIdeal := by
  intro m g m' g' _ hin
  refine ⟨_, _, Cert.MkvIdeal.RefValue.run m g, (θ_run _ _ _).mono (fun r h c => ?_) (Cert.MkvRefIdeal.Value.run (F := Ideal) m' g')⟩
  obtain ⟨h0, h1, h2⟩ := h c
  obtain ⟨e0, e1, e2, e3⟩ := hin c
  refine ⟨h0.trans ?_, h1.trans ?_, h2⟩
  · refine (val_main_v16_eq (F := Ideal) _ _ _).trans ?_
    rw [e0, e1, e2]
    exact v16 _ _ _
  · refine (val_main_v19_eq (F := Ideal) _ _ _).trans ?_
    rw [e0, e1, e3]
    exact v19 _ _ _

end Cert.MkvRefIdeal.RefValue

end
-- ==== Proof.MoeY.lean ====
/- One step of the expert sum on extended reals: the two experts of the step, each a gated two-layer product weighed by
   the token's combine weight, added to the accumulator. -/
module

public import proofs.«01_k».proof.Proof.Spec
public import proofs.«01_k».proof.Proof.MoeStep
public import Idealize.ShloMosaic.Lib.TwoAxisContraction

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- A hidden unit of an expert for one token: the gate product through its own logistic, times the up product, times the
    token's combine weight. -/
def hid (x wg wu : Fin 1024 → EReal) (g : EReal) : EReal :=
  (∑ k, x k * wg k) * Ideal.logistic (∑ k, x k * wg k) * (∑ k, x k * wu k) * g

/-- The hidden units of the expert numbered by the word `e`. -/
def hidV (e : BitVec 32) (x1 : Vec Ideal S1024x1024 .bf16) (x2 : Vec Ideal S1024x128 .f32) (w : Vec Ideal S1x1024x512 .bf16) : FVec Ideal S1024x256 .bf16 :=
  let p : FVec Ideal S1024x512 .f32 := matmul (φ₁ := .bf16) (φ₂ := .bf16) dot_S1024x1024_S1024x512_S1024x512_1_0_0_1_n_n none x1 (shapeCast S1024x512 w shapeCasts_S1x1024x512_S1024x512) (constant S1024x512 .f32 0x00000000#32)
  let g : FVec Ideal S1024x256 .f32 := extractStridedSlice S1024x256 ![0, 0] p slices_S1024x512_o0_0_S1024x256
  let u : FVec Ideal S1024x256 .f32 := extractStridedSlice S1024x256 ![0, 256] p slices_S1024x512_o0_256_S1024x256
  let c : FVec Ideal S1024 .f32 := multiReduction .add [1] S1024 (select (cmpi .eq expertNo (broadcast S1024x128 e)) (k0_pay25 x2) (broadcast S1024x128 (Scalar.ofBits .f32 0x00000000#32))) 0x00000000#32 reduces_S1024x128_S1024 (.inl rfl) rfl
  truncf .bf16 (mulf (mulf (mulf g (logistic g)) u) (broadcastTo S1024x256 (shapeCast S1024x1 c shapeCasts_S1024_S1024x1) broadcasts_S1024x1_S1024x256)) bitsLt_bf16_f32

/-- The first expert's hidden units are these. -/
theorem pay26_eq (a : BitVec 32) (x1 : Vec Ideal S1024x1024 .bf16) (x2 : Vec Ideal S1024x128 .f32) (w : Vec Ideal S1x1024x512 .bf16) :
    k0_pay26 a x1 x2 w = hidV (Scalar.addi (Scalar.muli a 2#32) 0#32) x1 x2 w := rfl

/-- The two experts' hidden units side by side against the stacked down weights, added to the accumulator. -/
def accV (h1 h2 : FVec Ideal S1024x256 .bf16) (x4 : Vec Ideal S2x256x1024 .bf16) (a : Vec Ideal S1024x1024 .f32) : FVec Ideal S1024x1024 .f32 :=
  shapeCast S1024x1024 (addf a (matmul (φ₁ := .bf16) (φ₂ := .bf16) dot_S1024x512_S512x1024_S1024x1024_1_0_0_1_n_n none
    (concatenate S1024x512 1 [⟨S1024x256, h1⟩, ⟨S1024x256, h2⟩] concatenates_S1024x256_S1024x256_S1024x512_d1)
    (shapeCast S512x1024 (shapeCast S2x256x1024 x4 shapeCasts_S2x256x1024_S2x256x1024) shapeCasts_S2x256x1024_S512x1024) (constant S1024x1024 .f32 0x00000000#32))) shapeCasts_S1024x1024_S1024x1024

/-- The second expert's are the same at the next expert, and the step adds both. -/
theorem pay27_eq (a : BitVec 32) (x1 : Vec Ideal S1024x1024 .bf16) (x2 : Vec Ideal S1024x128 .f32) (h : FVec Ideal S1024x256 .bf16) (w : Vec Ideal S1x1024x512 .bf16) (x4 : Vec Ideal S2x256x1024 .bf16) (acc : Vec Ideal S1024x1024 .f32) :
    k0_pay27 a x1 (k0_pay25 x2) expertNo h w x4 acc = accV h (hidV (Scalar.addi (Scalar.muli a 2#32) 1#32) x1 x2 w) x4 acc := rfl

/-- A block of one expert's weights as a matrix. -/
theorem cast_w (w : S1x1024x512.Idx → EReal) (h : S1x1024x512.ShapeCasts S1024x512) : shapeCast S1024x512 w h = fun i => w (ix3 0 (i 0) (i 1)) := by
  funext i
  refine shapeCast_apply _ _ _ _ ?_
  rewrite [Shape.rowMajor_val_three, Shape.rowMajor_val_two]
  show (0 * 1024 + (i 0).val) * 512 + (i 1).val = (i 0).val * 512 + (i 1).val
  omega

/-- The stacked down weights as a matrix. -/
theorem cast_w2 (w : S2x256x1024.Idx → EReal) (h : S2x256x1024.ShapeCasts S512x1024) :
    shapeCast S512x1024 w h = fun i => w (ix3 ⟨(i 0).val / 256, by have := (i 0).isLt; have : S512x1024.size 0 = 512 := rfl; omega⟩ ⟨(i 0).val % 256, by omega⟩ (i 1)) := by
  funext i
  refine shapeCast_apply _ _ _ _ ?_
  rewrite [Shape.rowMajor_val_three, Shape.rowMajor_val_two]
  show ((i 0).val / 256 * 256 + (i 0).val % 256) * 1024 + (i 1).val = (i 0).val * 1024 + (i 1).val
  omega

/-- Column sums weighed by the test of a lane pick that lane. -/
theorem pick (e : Fin 128) (v : BitVec 32) (hv : v = BitVec.ofNat 32 e.val) (x : Fin 128 → EReal) :
    (∑ l : Fin 128, if IntOp.cmpi .eq (BitVec.ofNat 32 l.val) v = 1#1 then x l else 0) = x e := by
  subst hv
  rw [Finset.sum_eq_single e]
  · rw [if_pos (by simp [IntOp.cmpi])]
  · intro l _ hl
    rw [if_neg]
    intro hc
    apply hl
    have hb : BitVec.ofNat 32 l.val = BitVec.ofNat 32 e.val := by
      by_contra hne
      have hf : (BitVec.ofNat 32 l.val == BitVec.ofNat 32 e.val) = false := beq_false_of_ne hne
      simp [IntOp.cmpi, hf] at hc
    have h2 := congrArg BitVec.toNat hb
    simp only [BitVec.toNat_ofNat] at h2
    have := l.isLt
    have := e.isLt
    apply Fin.ext
    omega
  · intro h; exact absurd (Finset.mem_univ e) h

/-- A hidden unit of the step. -/
theorem hidV_apply (e : Fin 128) (v : BitVec 32) (hv : v = BitVec.ofNat 32 e.val) (x1 : Vec Ideal S1024x1024 .bf16) (x2 : Vec Ideal S1024x128 .f32) (w : Vec Ideal S1x1024x512 .bf16) (r : Fin 1024) (f : Fin 256) :
    hidV v x1 x2 w (ix2 r f) = hid (fun k => x1 (ix2 r k)) (fun k => w (ix3 0 k ⟨f.val, by omega⟩)) (fun k => w (ix3 0 k ⟨256 + f.val, by omega⟩)) (x2 (ix2 r e)) := by
  unfold hidV expertNo k0_pay25
  rw [cast_w]
  dsimp only
  pointwise [dot_S1024x1024_S1024x512_S1024x512_1_0_0_1_n_n]
  rw [show (∑ x : Fin 128, Scalar.select (IntOp.cmpi CmpIPredicate.eq (BitVec.ofNat 32 x.val) v) (x2 (ix2 r x)) 0) = x2 (ix2 r e) from
    pick e v hv fun l => x2 (ix2 r l)]
  rfl

/-- What a step adds to the accumulator. -/
theorem accV_apply (h1 h2 : FVec Ideal S1024x256 .bf16) (x4 : Vec Ideal S2x256x1024 .bf16) (a : Vec Ideal S1024x1024 .f32) (r d : Fin 1024) :
    accV h1 h2 x4 a (ix2 r d) = a (ix2 r d) + (∑ f : Fin 256, h1 (ix2 r f) * x4 (ix3 0 f d) + ∑ f : Fin 256, h2 (ix2 r f) * x4 (ix3 1 f d)) := by
  unfold accV
  rw [shapeCast_self, cast_w2]
  generalize hH : concatenate S1024x512 1 [⟨S1024x256, h1⟩, ⟨S1024x256, h2⟩] concatenates_S1024x256_S1024x256_S1024x512_d1 = H
  pointwise [dot_S1024x512_S512x1024_S1024x1024_1_0_0_1_n_n]
  rw [show (∑ x : Fin 512, _ : EReal) = ∑ x : Fin (256 + 256), _ from rfl, Fin.sum_univ_add]
  subst hH
  congr 1
  congr 1
  · refine Finset.sum_congr rfl fun i _ => ?_
    congr 1
    · exact concatenate_pair_apply_left (t := S1024x512) (s₁ := S1024x256) (s₂ := S1024x256) 1 h1 h2 _ (ix2 r (Fin.castAdd 256 i)) rfl (ix2 r i)
        (fun b => by match b with | ⟨0, _⟩ => rfl | ⟨1, _⟩ => rfl)
    · congr 1
      funext b
      apply Fin.ext
      match b with
      | ⟨0, _⟩ => show (Fin.castAdd 256 i).val / 256 = 0; have := i.isLt; rw [Fin.val_castAdd]; omega
      | ⟨1, _⟩ => show (Fin.castAdd 256 i).val % 256 = i.val; have := i.isLt; rw [Fin.val_castAdd]; omega
      | ⟨2, _⟩ => rfl
  · refine Finset.sum_congr rfl fun i _ => ?_
    congr 1
    · exact concatenate_pair_apply_right (t := S1024x512) (s₁ := S1024x256) (s₂ := S1024x256) 1 h1 h2 _ (ix2 r (Fin.natAdd 256 i)) rfl rfl (ix2 r i)
        (fun b hb => by match b, hb with | ⟨0, _⟩, _ => rfl | ⟨1, _⟩, hb => exact absurd rfl hb)
        (by show i.val + 256 = (Fin.natAdd 256 i).val; rw [Fin.val_natAdd]; omega)
    · congr 1
      funext b
      apply Fin.ext
      match b with
      | ⟨0, _⟩ => show (Fin.natAdd 256 i).val / 256 = 1; have := i.isLt; rw [Fin.val_natAdd]; omega
      | ⟨1, _⟩ => show (Fin.natAdd 256 i).val % 256 = i.val; have := i.isLt; rw [Fin.val_natAdd]; omega
      | ⟨2, _⟩ => rfl

end Cert.MoeIdeal.Val

end
-- ==== Proof.MoeHost.lean ====
/- What the expert-and-key-sum call's expert windows hold, in terms of the arguments. -/
module

public import proofs.«01_k».proof.Proof.MoeY
public import proofs.«01_k».proof.Proof.MoeOuts
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- The one layer of the gate and up weights. -/
theorem cast_up (x : S1x16x1024x256.Idx → EReal) (h : S1x16x1024x256.ShapeCasts S16x1024x256) (e : Fin 16) (k : Fin 1024) (f : Fin 256) :
    shapeCast S16x1024x256 x h (ix3 e k f) = x (ix4 0 e k f) := by
  refine shapeCast_apply _ _ _ _ ?_
  rewrite [Shape.rowMajor_val_four, Shape.rowMajor_val_three]
  show ((0 * 16 + e.val) * 1024 + k.val) * 256 + f.val = (e.val * 1024 + k.val) * 256 + f.val
  omega

/-- The one layer of the down weights. -/
theorem cast_down (x : S1x16x256x1024.Idx → EReal) (h : S1x16x256x1024.ShapeCasts S16x256x1024) (e : Fin 16) (f : Fin 256) (d : Fin 1024) :
    shapeCast S16x256x1024 x h (ix3 e f d) = x (ix4 0 e f d) := by
  refine shapeCast_apply _ _ _ _ ?_
  rewrite [Shape.rowMajor_val_four, Shape.rowMajor_val_three]
  show ((0 * 16 + e.val) * 256 + f.val) * 1024 + d.val = (e.val * 256 + f.val) * 1024 + d.val
  omega

/-- The gain as a row. -/
theorem cast_gain (x : S1024.Idx → EReal) (h : S1024.ShapeCasts S1x1024) (k : Fin 1024) : shapeCast S1x1024 x h (ix2 0 k) = x (ix1 k) := by
  refine shapeCast_apply _ _ _ _ ?_
  rewrite [Shape.rowMajor_val_one, Shape.rowMajor_val_two]
  show k.val = 0 * 1024 + k.val
  omega

variable (m : (ℓ : Loc nD τ sig) → Buf (Elt Ideal) ℓ)

/-- The joined weights are the gate and the up weights side by side. -/
theorem V3 (c : Dev nD) : (V m c main_v3 : S16x1024x512.Idx → EReal) = concatenate S16x1024x512 2
    [⟨S16x1024x256, shapeCast S16x1024x256 (m ((c : Thread nD τ).loc main_arg3) : S1x16x1024x256.Idx → EReal) shapeCasts_S1x16x1024x256_S16x1024x256⟩,
     ⟨S16x1024x256, shapeCast S16x1024x256 (m ((c : Thread nD τ).loc main_arg4) : S1x16x1024x256.Idx → EReal) shapeCasts_S1x16x1024x256_S16x1024x256⟩]
    concatenates_S16x1024x256_S16x1024x256_S16x1024x512_d2 := by
  unfold V hostOps0 hostOps0_1 hostOps0_2
  simp only [List.flatten_cons, List.flatten_nil, List.append_nil, List.cons_append, List.nil_append]
  after_results <;> rfl

/-- A gate column of them. -/
theorem V3l (c : Dev nD) (e : Fin 16) (k : Fin 1024) (f : Fin 256) : (V m c main_v3 : S16x1024x512.Idx → EReal) (ix3 e k ⟨f.val, by omega⟩)
    = (m ((c : Thread nD τ).loc main_arg3) : S1x16x1024x256.Idx → EReal) (ix4 0 e k f) := by
  rw [V3]
  refine (concatenate_pair_apply_left (t := S16x1024x512) (s₁ := S16x1024x256) (s₂ := S16x1024x256) 2 _ _ _ (ix3 e k ⟨f.val, by omega⟩) rfl (ix3 e k f)
    (fun b => by match b with | ⟨0, _⟩ => rfl | ⟨1, _⟩ => rfl | ⟨2, _⟩ => rfl)).trans ?_
  exact cast_up _ _ e k f

/-- An up column of them. -/
theorem V3r (c : Dev nD) (e : Fin 16) (k : Fin 1024) (f : Fin 256) : (V m c main_v3 : S16x1024x512.Idx → EReal) (ix3 e k ⟨256 + f.val, by omega⟩)
    = (m ((c : Thread nD τ).loc main_arg4) : S1x16x1024x256.Idx → EReal) (ix4 0 e k f) := by
  rw [V3]
  refine (concatenate_pair_apply_right (t := S16x1024x512) (s₁ := S16x1024x256) (s₂ := S16x1024x256) 2 _ _ _ (ix3 e k ⟨256 + f.val, by omega⟩) rfl rfl (ix3 e k f)
    (fun b hb => by match b, hb with | ⟨0, _⟩, _ => rfl | ⟨1, _⟩, _ => rfl | ⟨2, _⟩, hb => exact absurd rfl hb)
    (by show f.val + 256 = 256 + f.val; omega)).trans ?_
  exact cast_up _ _ e k f

/-- The down weights the kernel reads. -/
theorem V10 (c : Dev nD) (e : Fin 16) (f : Fin 256) (d : Fin 1024) : (V m c main_v10 : S16x256x1024.Idx → EReal) (ix3 e f d)
    = (m ((c : Thread nD τ).loc main_arg5) : S1x16x256x1024.Idx → EReal) (ix4 0 e f d) := by
  have h : V m c main_v10 = (truncf (F := Ideal) .bf16 (shapeCast S16x256x1024 (m ((c : Thread nD τ).loc main_arg5)) shapeCasts_S1x16x256x1024_S16x256x1024) bitsLt_bf16_f32 : S16x256x1024.Idx → EReal) := by
    unfold V hostOps0 hostOps0_1 hostOps0_2
    simp only [List.flatten_cons, List.flatten_nil, List.append_nil, List.cons_append, List.nil_append]
    after_results <;> rfl
  rw [h]
  exact cast_down _ _ e f d

/-- The gain the kernel reads. -/
theorem V11 (c : Dev nD) (k : Fin 1024) : (V m c main_v11 : S1x1024.Idx → EReal) (ix2 0 k)
    = (m ((c : Thread nD τ).loc main_arg6) : S1024.Idx → EReal) (ix1 k) := by
  have h : V m c main_v11 = shapeCast _ (m ((c : Thread nD τ).loc main_arg6)) shapeCasts_S1024_S1x1024 := by
    unfold V hostOps0 hostOps0_1 hostOps0_2
    simp only [List.flatten_cons, List.flatten_nil, List.append_nil, List.cons_append, List.nil_append]
    after_results <;> rfl
  rw [h]
  exact cast_gain _ _ k

/-- The combine weights the kernel reads: the arguments in the first sixteen lanes. -/
theorem V8 (c : Dev nD) (T : Fin 16384) (e : Fin 16) : (V m c main_v8 : S16384x128.Idx → EReal) (ix2 T ⟨e.val, by omega⟩)
    = (m ((c : Thread nD τ).loc main_arg2) : S16384x16.Idx → EReal) (ix2 T e) := by
  have h : V m c main_v8 = pad S16384x128 ![0, 0] ![0, 112] ![0, 0] (m ((c : Thread nD τ).loc main_arg2) : S16384x16.Idx → EReal) (fun _ => (FloatOps.sitofp (F := Ideal) .f32 (0#32 : BitVec 32)) : S_.Idx → EReal) pads_S16384x16_S16384x128_000_01120 h_S_ := by
    unfold V hostOps0 hostOps0_1 hostOps0_2
    simp only [List.flatten_cons, List.flatten_nil, List.append_nil, List.cons_append, List.nil_append]
    after_results <;> rfl
  rw [h]
  refine (pad_apply_of_inside _ _ _ _ _ _ _ _ (ix2 T e) ?_)
  intro b
  match b with
  | ⟨0, _⟩ => show T.val = 0 + T.val * (0 + 1); omega
  | ⟨1, _⟩ => show e.val = 0 + e.val * (0 + 1); omega

variable (hO : Ok m)

theorem N_M : (cfgM m hO).N = 128 := rfl
theorem tlt (t : Fin (cfgM m hO).N) : t.val < 128 := t.isLt

/-- Where the blocks of the token windows lie. -/
theorem idxT : ∀ t : Fin grid0.N, cc0_transform_0 (grid0.coords t) 0 = t.val / 8 ∧ cc0_transform_0 (grid0.coords t) 1 = 0
    ∧ cc0_transform_1 (grid0.coords t) 0 = t.val / 8 ∧ cc0_transform_1 (grid0.coords t) 1 = 0
    ∧ cc0_transform_2 (grid0.coords t) 0 = t.val / 8 ∧ cc0_transform_2 (grid0.coords t) 1 = 0
    ∧ cc0_transform_39 (grid0.coords t) 0 = t.val / 8 ∧ cc0_transform_39 (grid0.coords t) 1 = 0 := by decide +kernel

/-- Where the blocks of the weight windows lie. -/
theorem idxW : ∀ t : Fin grid0.N, cc0_transform_3 (grid0.coords t) 0 = t.val % 8 ∧ cc0_transform_3 (grid0.coords t) 1 = 0 ∧ cc0_transform_3 (grid0.coords t) 2 = 0
    ∧ cc0_transform_4 (grid0.coords t) 0 = t.val % 8 ∧ cc0_transform_4 (grid0.coords t) 1 = 0 ∧ cc0_transform_4 (grid0.coords t) 2 = 0
    ∧ cc0_transform_5 (grid0.coords t) 0 = 0 ∧ cc0_transform_5 (grid0.coords t) 1 = 0 := by decide +kernel

/-- The residual rows of a tile. -/
theorem blk0 (c : Dev nD) (t : Fin (cfgM m hO).N) (r : Fin 1024) (k : Fin 1024) : (iblk m hO c 0 t : S1024x1024.Idx → EReal) (ix2 r k)
    = (m ((c : Thread nD τ).loc main_arg0) : S16384x1024.Idx → EReal) (ix2 ⟨1024 * (t.val / 8) + r.val, by have := tlt m hO t; omega⟩ k) := by
  refine Eq.trans ?_ (congrFun (V_main_arg0 m c) (ix2 ⟨1024 * (t.val / 8) + r.val, by have := tlt m hO t; omega⟩ k))
  have hi := idxT t
  unfold iblk
  show V m c main_arg0 _ = V m c main_arg0 _
  congr 1
  funext a
  apply Fin.ext
  match a with
  | ⟨0, _⟩ => show cc0_transform_0 (grid0.coords t) 0 * 1024 + 1 * r.val = 1024 * (t.val / 8) + r.val; rw [hi.1]; omega
  | ⟨1, _⟩ => show cc0_transform_0 (grid0.coords t) 1 * 1024 + 1 * k.val = k.val; rw [hi.2.1]; omega

/-- The normed rows of a tile. -/
theorem blk1 (c : Dev nD) (t : Fin (cfgM m hO).N) (r : Fin 1024) (k : Fin 1024) : (iblk m hO c 1 t : S1024x1024.Idx → EReal) (ix2 r k)
    = (m ((c : Thread nD τ).loc main_arg1) : S16384x1024.Idx → EReal) (ix2 ⟨1024 * (t.val / 8) + r.val, by have := tlt m hO t; omega⟩ k) := by
  refine Eq.trans ?_ (congrFun (V_main_arg1 m c) (ix2 ⟨1024 * (t.val / 8) + r.val, by have := tlt m hO t; omega⟩ k))
  have hi := idxT t
  unfold iblk
  show V m c main_arg1 _ = V m c main_arg1 _
  congr 1
  funext a
  apply Fin.ext
  match a with
  | ⟨0, _⟩ => show cc0_transform_1 (grid0.coords t) 0 * 1024 + 1 * r.val = 1024 * (t.val / 8) + r.val; rw [hi.2.2.1]; omega
  | ⟨1, _⟩ => show cc0_transform_1 (grid0.coords t) 1 * 1024 + 1 * k.val = k.val; rw [hi.2.2.2.1]; omega

/-- The combine weights of a tile. -/
theorem blk2 (c : Dev nD) (t : Fin (cfgM m hO).N) (r : Fin 1024) (k : Fin 16) : (iblk m hO c 2 t : S1024x128.Idx → EReal) (ix2 r ⟨k.val, by omega⟩)
    = (m ((c : Thread nD τ).loc main_arg2) : S16384x16.Idx → EReal) (ix2 ⟨1024 * (t.val / 8) + r.val, by have := tlt m hO t; omega⟩ k) := by
  refine Eq.trans ?_ (V8 m c ⟨1024 * (t.val / 8) + r.val, by have := tlt m hO t; omega⟩ k)
  have hi := idxT t
  unfold iblk
  show V m c main_v8 _ = V m c main_v8 _
  congr 1
  funext a
  apply Fin.ext
  match a with
  | ⟨0, _⟩ => show cc0_transform_2 (grid0.coords t) 0 * 1024 + 1 * r.val = 1024 * (t.val / 8) + r.val; rw [hi.2.2.2.2.1]; omega
  | ⟨1, _⟩ => show cc0_transform_2 (grid0.coords t) 1 * 128 + 1 * k.val = k.val; rw [hi.2.2.2.2.2.1]; omega

/-- A gate column of the two experts of a step. -/
theorem blk3l (c : Dev nD) (t : Fin (cfgM m hO).N) (e : Fin 2) (k : Fin 1024) (f : Fin 256) : (iblk m hO c 3 t : S2x1024x512.Idx → EReal) (ix3 e k ⟨f.val, by omega⟩)
    = (m ((c : Thread nD τ).loc main_arg3) : S1x16x1024x256.Idx → EReal) (ix4 0 ⟨2 * (t.val % 8) + e.val, by omega⟩ k f) := by
  refine Eq.trans ?_ (V3l m c ⟨2 * (t.val % 8) + e.val, by omega⟩ k f)
  have hi := idxW t
  unfold iblk
  show V m c main_v3 _ = V m c main_v3 _
  congr 1
  funext a
  apply Fin.ext
  match a with
  | ⟨0, _⟩ => show cc0_transform_3 (grid0.coords t) 0 * 2 + 1 * e.val = 2 * (t.val % 8) + e.val; rw [hi.1]; omega
  | ⟨1, _⟩ => show cc0_transform_3 (grid0.coords t) 1 * 1024 + 1 * k.val = k.val; rw [hi.2.1]; omega
  | ⟨2, _⟩ => show cc0_transform_3 (grid0.coords t) 2 * 512 + 1 * f.val = f.val; rw [hi.2.2.1]; omega

/-- An up column of the two experts of a step. -/
theorem blk3r (c : Dev nD) (t : Fin (cfgM m hO).N) (e : Fin 2) (k : Fin 1024) (f : Fin 256) : (iblk m hO c 3 t : S2x1024x512.Idx → EReal) (ix3 e k ⟨256 + f.val, by omega⟩)
    = (m ((c : Thread nD τ).loc main_arg4) : S1x16x1024x256.Idx → EReal) (ix4 0 ⟨2 * (t.val % 8) + e.val, by omega⟩ k f) := by
  refine Eq.trans ?_ (V3r m c ⟨2 * (t.val % 8) + e.val, by omega⟩ k f)
  have hi := idxW t
  unfold iblk
  show V m c main_v3 _ = V m c main_v3 _
  congr 1
  funext a
  apply Fin.ext
  match a with
  | ⟨0, _⟩ => show cc0_transform_3 (grid0.coords t) 0 * 2 + 1 * e.val = 2 * (t.val % 8) + e.val; rw [hi.1]; omega
  | ⟨1, _⟩ => show cc0_transform_3 (grid0.coords t) 1 * 1024 + 1 * k.val = k.val; rw [hi.2.1]; omega
  | ⟨2, _⟩ => show cc0_transform_3 (grid0.coords t) 2 * 512 + 1 * (256 + f.val) = (256 + f.val); rw [hi.2.2.1]; omega

/-- The down weights of the two experts of a step. -/
theorem blk4 (c : Dev nD) (t : Fin (cfgM m hO).N) (e : Fin 2) (f : Fin 256) (d : Fin 1024) : (iblk m hO c 4 t : S2x256x1024.Idx → EReal) (ix3 e f d)
    = (m ((c : Thread nD τ).loc main_arg5) : S1x16x256x1024.Idx → EReal) (ix4 0 ⟨2 * (t.val % 8) + e.val, by omega⟩ f d) := by
  refine Eq.trans ?_ (V10 m c ⟨2 * (t.val % 8) + e.val, by omega⟩ f d)
  have hi := idxW t
  unfold iblk
  show V m c main_v10 _ = V m c main_v10 _
  congr 1
  funext a
  apply Fin.ext
  match a with
  | ⟨0, _⟩ => show cc0_transform_4 (grid0.coords t) 0 * 2 + 1 * e.val = 2 * (t.val % 8) + e.val; rw [hi.2.2.2.1]; omega
  | ⟨1, _⟩ => show cc0_transform_4 (grid0.coords t) 1 * 256 + 1 * f.val = f.val; rw [hi.2.2.2.2.1]; omega
  | ⟨2, _⟩ => show cc0_transform_4 (grid0.coords t) 2 * 1024 + 1 * d.val = d.val; rw [hi.2.2.2.2.2.1]; omega

/-- The gain, at every step. -/
theorem blk5 (c : Dev nD) (t : Fin (cfgM m hO).N) (k : Fin 1024) : (iblk m hO c 5 t : S1x1024.Idx → EReal) (ix2 0 k)
    = (m ((c : Thread nD τ).loc main_arg6) : S1024.Idx → EReal) (ix1 k) := by
  refine Eq.trans ?_ (V11 m c k)
  have hi := idxW t
  unfold iblk
  show V m c main_v11 _ = V m c main_v11 _
  congr 1
  funext a
  apply Fin.ext
  match a with
  | ⟨0, _⟩ => show cc0_transform_5 (grid0.coords t) 0 * 1 + 1 * 0 = 0; rw [hi.2.2.2.2.2.2.1]
  | ⟨1, _⟩ => show cc0_transform_5 (grid0.coords t) 1 * 1024 + 1 * k.val = k.val; rw [hi.2.2.2.2.2.2.2]; omega

end Cert.MoeIdeal.Val

end
-- ==== Proof.MoeYV.lean ====
/- The expert sum the call leaves: over each tile's eight steps the accumulator gathers the sixteen experts, and the
   last step norms the residual rows plus the accumulator. -/
module

public import proofs.«01_k».proof.Proof.MoeHost
public import proofs.«01_k».proof.Proof.MoeBody

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- What expert `e` gives token `T` at coordinate `d`. -/
def expert (x : S16384x1024.Idx → EReal) (g : S16384x16.Idx → EReal) (w1 w3 : S1x16x1024x256.Idx → EReal) (w2 : S1x16x256x1024.Idx → EReal)
    (T : Fin 16384) (e : Fin 16) (d : Fin 1024) : EReal :=
  ∑ f : Fin 256, hid (fun k => x (ix2 T k)) (fun k => w1 (ix4 0 e k f)) (fun k => w3 (ix4 0 e k f)) (g (ix2 T e)) * w2 (ix4 0 e f d)

/-- The layer's output for token `T`: the residual row plus all experts' contributions, normed. -/
def yVal (x2 x : S16384x1024.Idx → EReal) (g : S16384x16.Idx → EReal) (w1 w3 : S1x16x1024x256.Idx → EReal) (w2 : S1x16x256x1024.Idx → EReal) (gain : S1024.Idx → EReal) :
    S16384x1024.Idx → EReal :=
  fun i => Spec.rms (fun d => x2 (ix2 (i 0) d) + ∑ e : Fin 16, expert x g w1 w3 w2 (i 0) e d) (fun d => gain (ix1 d)) (i 1)

/-- One expert's block of the step's weights. -/
theorem ld_w (x3 : Vec Ideal S2x1024x512 .bf16) (o : Fin 2) (h : ∀ a : Fin 3, (![o.val, 0, 0] : Fin 3 → Nat) a + S1x1024x512.size a ≤ S2x1024x512.size a) (k : Fin 1024) (n : Fin 512) :
    View.ld x3 (Rect.unit (s := S2x1024x512) ![o.val, 0, 0] S1x1024x512.size h) (ix3 0 k n) = x3 (ix3 o k n) := by
  refine congrArg x3 ?_
  funext a
  apply Fin.ext
  match a with
  | ⟨0, _⟩ => show o.val + 1 * 0 = o.val; omega
  | ⟨1, _⟩ => show 0 + 1 * k.val = k.val; omega
  | ⟨2, _⟩ => show 0 + 1 * n.val = n.val; omega

/-- The numbers of the two experts of a step. -/
theorem expertNos : ∀ t : Fin grid0.N, Scalar.addi (Scalar.muli (BitVec.ofNat 32 (grid0.coords t 1).val) 2#32) 0#32 = BitVec.ofNat 32 (2 * (t.val % 8) + 0)
    ∧ Scalar.addi (Scalar.muli (BitVec.ofNat 32 (grid0.coords t 1).val) 2#32) 1#32 = BitVec.ofNat 32 (2 * (t.val % 8) + 1) := by decide +kernel

/-- The last step's norm. -/
theorem out_apply (x0 a : Vec Ideal S1024x1024 .f32) (g : Vec Ideal S1x1024 .f32) (r d : Fin 1024) :
    k0_pay1 x0 a g (ix2 r d) = Spec.rms (fun k => x0 (ix2 r k) + a (ix2 r k)) (fun k => g (ix2 0 k)) d := by
  unfold_payloads
  rw [shapeCast_self]
  pointwise
  rfl

/-- A tile starts from zeros. -/
theorem zero_apply (r d : Fin 1024) : k0_pay3 (F := Ideal) (ix2 r d) = 0 := by
  unfold_payloads
  rw [shapeCast_self]
  pointwise

/-- A step adds its two experts' products to the accumulator. -/
theorem accStep_apply (i : grid0.Coords) (x1 : Vec Ideal S1024x1024 .bf16) (x2 : Vec Ideal S1024x128 .f32) (x3 : Vec Ideal S2x1024x512 .bf16) (x4 : Vec Ideal S2x256x1024 .bf16) (a : Vec Ideal S1024x1024 .f32) (r d : Fin 1024) :
    accStep i x1 x2 x3 x4 a (ix2 r d) = a (ix2 r d)
      + (∑ f : Fin 256, hidV (Scalar.addi (Scalar.muli (BitVec.ofNat 32 (i 1).val) 2#32) 0#32) x1 x2 (View.ld x3 (Rect.unit (s := S2x1024x512) ![0, 0, 0] S1x1024x512.size inb_S2x1024x512_S1x1024x512_0_0_0)) (ix2 r f) * x4 (ix3 0 f d)
        + ∑ f : Fin 256, hidV (Scalar.addi (Scalar.muli (BitVec.ofNat 32 (i 1).val) 2#32) 1#32) x1 x2 (View.ld x3 (Rect.unit (s := S2x1024x512) ![1, 0, 0] S1x1024x512.size inb_S2x1024x512_S1x1024x512_1_0_0)) (ix2 r f) * x4 (ix3 1 f d)) := by
  unfold accStep
  rw [pay26_eq, pay27_eq, accV_apply]

variable (m : (ℓ : Loc nD τ sig) → Buf (Elt Ideal) ℓ) (hO : Ok m)

/-- Expert `e`'s contribution from the launch's arguments. -/
def ex (c : Dev nD) (T : Fin 16384) (e : Fin 16) (d : Fin 1024) : EReal :=
  expert (m ((c : Thread nD τ).loc main_arg1)) (m ((c : Thread nD τ).loc main_arg2)) (m ((c : Thread nD τ).loc main_arg3)) (m ((c : Thread nD τ).loc main_arg4)) (m ((c : Thread nD τ).loc main_arg5)) T e d

/-- The same at numbers taken into range. -/
def exN (c : Dev nD) (T e : ℕ) (d : Fin 1024) : EReal := ex m c ⟨T % 16384, by omega⟩ ⟨e % 16, by omega⟩ d

/-- The normed rows of a step's tile. -/
def B1 (c : Dev nD) (t : Fin (cfgM m hO).N) : Vec Ideal S1024x1024 .bf16 := iblk m hO c 1 t

/-- The combine weights of a step's tile. -/
def B2 (c : Dev nD) (t : Fin (cfgM m hO).N) : Vec Ideal S1024x128 .f32 := iblk m hO c 2 t

/-- The joined weights of a step's experts. -/
def B3 (c : Dev nD) (t : Fin (cfgM m hO).N) : Vec Ideal S2x1024x512 .bf16 := iblk m hO c 3 t

/-- The down weights of a step's experts. -/
def B4 (c : Dev nD) (t : Fin (cfgM m hO).N) : Vec Ideal S2x256x1024 .bf16 := iblk m hO c 4 t

/-- One expert of a step: its block's hidden units against its down weights are its contribution. -/
theorem one_apply (c : Dev nD) (t : Fin (cfgM m hO).N) (o : Fin 2) (v : BitVec 32) (hv : v = BitVec.ofNat 32 (2 * (t.val % 8) + o.val))
    (h : ∀ a : Fin 3, (![o.val, 0, 0] : Fin 3 → Nat) a + S1x1024x512.size a ≤ S2x1024x512.size a) (r d : Fin 1024) :
    ∑ f : Fin 256, hidV v (B1 m hO c t) (B2 m hO c t) (View.ld (B3 m hO c t) (Rect.unit (s := S2x1024x512) ![o.val, 0, 0] S1x1024x512.size h)) (ix2 r f)
        * B4 m hO c t (ix3 o f d)
      = exN m c (1024 * (t.val / 8) + r.val) (2 * (t.val % 8) + o.val) d := by
  have ht := tlt m hO t
  have hT : (⟨(1024 * (t.val / 8) + r.val) % 16384, by omega⟩ : Fin 16384) = ⟨1024 * (t.val / 8) + r.val, by omega⟩ := Fin.ext (Nat.mod_eq_of_lt (by omega))
  have he : (⟨(2 * (t.val % 8) + o.val) % 16, by omega⟩ : Fin 16) = ⟨2 * (t.val % 8) + o.val, by omega⟩ := Fin.ext (Nat.mod_eq_of_lt (by omega))
  unfold exN ex expert
  rw [hT, he]
  refine Finset.sum_congr rfl fun f _ => ?_
  rw [hidV_apply ⟨2 * (t.val % 8) + o.val, by omega⟩ v hv]
  refine congrArg₂ (· * ·) ?_ (blk4 m hO c t o f d)
  have e1 : ∀ k : Fin 1024, B1 m hO c t (ix2 r k) = _ := fun k => blk1 m hO c t r k
  have e2 : B2 m hO c t (ix2 r ⟨2 * (t.val % 8) + o.val, by omega⟩) = _ := blk2 m hO c t r ⟨2 * (t.val % 8) + o.val, by omega⟩
  have e3 : ∀ k : Fin 1024, View.ld (B3 m hO c t) (Rect.unit (s := S2x1024x512) ![o.val, 0, 0] S1x1024x512.size h) (ix3 0 k ⟨f.val, by omega⟩) = _ :=
    fun k => (ld_w _ o h k ⟨f.val, by omega⟩).trans (blk3l m hO c t o k f)
  have e4 : ∀ k : Fin 1024, View.ld (B3 m hO c t) (Rect.unit (s := S2x1024x512) ![o.val, 0, 0] S1x1024x512.size h) (ix3 0 k ⟨256 + f.val, by omega⟩) = _ :=
    fun k => (ld_w _ o h k ⟨256 + f.val, by omega⟩).trans (blk3r m hO c t o k f)
  simp only [e1, e2, e3, e4]

/-- A step adds its two experts' contributions. -/
theorem acc_apply (c : Dev nD) (t : Fin (cfgM m hO).N) (a : Vec Ideal S1024x1024 .f32) (r d : Fin 1024) :
    acAt m hO c t a (ix2 r d) = a (ix2 r d) + (exN m c (1024 * (t.val / 8) + r.val) (2 * (t.val % 8)) d + exN m c (1024 * (t.val / 8) + r.val) (2 * (t.val % 8) + 1) d) := by
  refine (accStep_apply (grid0.coords t) (B1 m hO c t) (B2 m hO c t) (B3 m hO c t) (B4 m hO c t) a r d).trans ?_
  have hN := expertNos t
  exact congrArg (a (ix2 r d) + ·) (congrArg₂ (· + ·) (one_apply m hO c t 0 _ hN.1 _ r d) (one_apply m hO c t 1 _ hN.2 _ r d))

/-- After step `n` the accumulator holds the contributions of the tile's experts so far. -/
theorem acc_eq (c : Dev nD) (r d : Fin 1024) : ∀ (n : ℕ) (hn : n < (cfgM m hO).N), (outsAt0 m hO c n hn).2.2 (ix2 r d)
    = ∑ s ∈ Finset.range (n % 8 + 1), (exN m c (1024 * (n / 8) + r.val) (2 * s) d + exN m c (1024 * (n / 8) + r.val) (2 * s + 1) d) := by
  intro n
  induction n with
  | zero =>
    intro hn
    rw [outsAt0_eq m hO c ⟨0, hn⟩]
    show acAt m hO c ⟨0, hn⟩ (acIn m hO c ⟨0, hn⟩) (ix2 r d) = _
    rw [acc_apply]
    unfold acIn
    rw [if_pos (show (⟨0, hn⟩ : Fin (cfgM m hO).N).val % 8 = 0 from rfl), zero_apply, zero_add, Finset.sum_range_one]
    rfl
  | succ n ih =>
    intro hn
    rw [outsAt0_eq m hO c ⟨n + 1, hn⟩]
    show acAt m hO c ⟨n + 1, hn⟩ (acIn m hO c ⟨n + 1, hn⟩) (ix2 r d) = _
    rw [acc_apply]
    unfold acIn
    by_cases h : (n + 1) % 8 = 0
    · rw [if_pos h, zero_apply, zero_add]
      show exN m c (1024 * ((n + 1) / 8) + r.val) (2 * ((n + 1) % 8)) d + exN m c (1024 * ((n + 1) / 8) + r.val) (2 * ((n + 1) % 8) + 1) d = _
      rw [h, Finset.sum_range_one]
    · rw [if_neg h]
      show (outsAt0 m hO c n _).2.2 (ix2 r d) + (exN m c (1024 * ((n + 1) / 8) + r.val) (2 * ((n + 1) % 8)) d + exN m c (1024 * ((n + 1) / 8) + r.val) (2 * ((n + 1) % 8) + 1) d) = _
      rw [ih, Finset.sum_range_succ _ ((n + 1) % 8), show n % 8 + 1 = (n + 1) % 8 by omega, show n / 8 = (n + 1) / 8 by omega]

/-- Terms by twos. -/
theorem sum_twos (g : ℕ → EReal) : ∀ n : ℕ, ∑ s ∈ Finset.range n, (g (2 * s) + g (2 * s + 1)) = ∑ e ∈ Finset.range (2 * n), g e := by
  intro n
  induction n with
  | zero => rfl
  | succ n ih => rw [Finset.sum_range_succ, ih, show 2 * (n + 1) = 2 * n + 1 + 1 by ring, Finset.sum_range_succ, Finset.sum_range_succ, add_assoc]

/-- After a tile's last step the accumulator holds all sixteen. -/
theorem acc_last (c : Dev nD) (t : Fin (cfgM m hO).N) (h : t.val % 8 = 7) (r d : Fin 1024) : (outsAt0 m hO c t.val t.isLt).2.2 (ix2 r d)
    = ∑ e : Fin 16, ex m c ⟨1024 * (t.val / 8) + r.val, by have := tlt m hO t; omega⟩ e d := by
  have ht := tlt m hO t
  have hT : (⟨(1024 * (t.val / 8) + r.val) % 16384, by omega⟩ : Fin 16384) = ⟨1024 * (t.val / 8) + r.val, by omega⟩ := Fin.ext (Nat.mod_eq_of_lt (by omega))
  rw [acc_eq, h, sum_twos (fun e => exN m c (1024 * (t.val / 8) + r.val) e d) 8, Finset.sum_range]
  refine Finset.sum_congr rfl fun e _ => ?_
  show exN m c (1024 * (t.val / 8) + r.val) e.val d = _
  unfold exN
  rw [hT, show (⟨e.val % 16, by omega⟩ : Fin 16) = e from Fin.ext (Nat.mod_eq_of_lt e.isLt)]

/-- The output tile of a last step. -/
theorem y_apply (c : Dev nD) (t : Fin (cfgM m hO).N) (h : t.val % 8 = 7) (r d : Fin 1024) : (outsAt0 m hO c t.val t.isLt).1 (ix2 r d)
    = yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (ix2 ⟨1024 * (t.val / 8) + r.val, by have := tlt m hO t; omega⟩ d) := by
  have ha : ∀ k : Fin 1024, acAt m hO c t (acIn m hO c t) (ix2 r k) = _ := fun k =>
    (congrFun (congrArg (fun z => z.2.2) (outsAt0_eq m hO c t)) (ix2 r k)).symm.trans (acc_last m hO c t h r k)
  rw [outsAt0_eq]
  show outAt m hO c t (acAt m hO c t (acIn m hO c t)) (ix2 r d) = _
  refine (out_apply (iblk m hO c 0 t) (acAt m hO c t (acIn m hO c t)) (iblk m hO c 5 t) r d).trans ?_
  have e0 : ∀ k : Fin 1024, (iblk m hO c 0 t : S1024x1024.Idx → EReal) (ix2 r k) = _ := fun k => blk0 m hO c t r k
  have e5 : ∀ k : Fin 1024, (iblk m hO c 5 t : S1x1024.Idx → EReal) (ix2 0 k) = _ := fun k => blk5 m hO c t k
  simp only [ha, e0, e5]
  rfl

/-- What a last step writes back is its tile of the output. -/
theorem flushed39 (c : Dev nD) (t : Fin (cfgM m hO).N) (h : ((cfgM m hO).win 39).flush t = true) : (dats m hO 0 c).flushed 39 t = (((cfgM m hO).win 39).blk t).view.read (Elt Ideal)
    (yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S16384x1024.Idx → EReal) := by
  have h7 : t.val % 8 = 7 := (flush0_39 (adm m hO) t).1 h
  have hi := idxT t
  have ht := tlt m hO t
  show ((cfgM m hO).win 39).cut (grid0.coords t) ((dats m hO 0 c).after 39 t) = _
  rw [after0_39]
  refine funext fun (j : S1024x1024.Idx) => ?_
  obtain ⟨r, d, rfl⟩ : ∃ (r d : Fin 1024), j = (ix2 r d : S1024x1024.Idx) := ⟨j 0, j 1, by funext a; match a with | ⟨0, _⟩ => rfl | ⟨1, _⟩ => rfl⟩
  refine (y_apply m hO c t h7 r d).trans ?_
  show yVal _ _ _ _ _ _ _ _ = yVal _ _ _ _ _ _ _ _
  congr 1
  funext a
  apply Fin.ext
  match a with
  | ⟨0, _⟩ => show 1024 * (t.val / 8) + r.val = cc0_transform_39 (grid0.coords t) 0 * 1024 + 1 * r.val; rw [hi.2.2.2.2.2.2.1]; omega
  | ⟨1, _⟩ => show d.val = cc0_transform_39 (grid0.coords t) 1 * 1024 + 1 * d.val; rw [hi.2.2.2.2.2.2.2]; omega

/-- The tiles of the output tile it. -/
theorem cover39 (i : S16384x1024.Idx) : ∃ t : Fin (cfgM m hO).N, ((cfgM m hO).win 39).flush t = true ∧ i ∈ (((cfgM m hO).win 39).blk t).view.set := by
  have h0 : (i 0).val < 16384 := (i 0).isLt
  have h1 : (i 1).val < 1024 := (i 1).isLt
  obtain ⟨t, ht⟩ : ∃ t : Fin (cfgM m hO).N, t.val = 8 * ((i 0).val / 1024) + 7 := ⟨⟨8 * ((i 0).val / 1024) + 7, by show _ < 128; omega⟩, rfl⟩
  refine ⟨t, (flush0_39 (adm m hO) t).2 (by omega), ?_⟩
  have hi := idxT t
  refine (Finset.ext_iff.1 (View.set_slice_whole main_v12_0 (((cfgM m hO).win 39).rect t)) i).2 ?_
  refine Rect.mem_set_unit.2 ?_
  intro a
  match a with
  | ⟨0, _⟩ => show cc0_transform_39 (grid0.coords t) 0 * 1024 ≤ (i 0).val ∧ (i 0).val < cc0_transform_39 (grid0.coords t) 0 * 1024 + 1024; rw [hi.2.2.2.2.2.2.1]; omega
  | ⟨1, _⟩ => show cc0_transform_39 (grid0.coords t) 1 * 1024 ≤ (i 1).val ∧ (i 1).val < cc0_transform_39 (grid0.coords t) 1 * 1024 + 1024; rw [hi.2.2.2.2.2.2.2]; omega

/-- The output array at the end. -/
theorem y_array (c : Dev nD) : (dats m hO 0 c).arrAt 39 (cfgM m hO).N
    = (yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S16384x1024.Idx → EReal) :=
  (dats m hO 0 c).arrAt_eq_of_cover 39 _ (fun t h => flushed39 m hO c t h) (cover39 m hO)

end Cert.MoeIdeal.Val

end
-- ==== Proof.MoeSc.lean ====
/- What one step does to the block scores: sixteen lanes are put in, one for each block of two pages. -/
module

public import proofs.«01_k».proof.Proof.MoeHost
public import proofs.«01_k».proof.Proof.MoeBody

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- The block scores of two pages, one number a head and a lane. -/
def lanes (w : FVec Ideal S512x128 .f32) (a b : Vec Ideal S1x8x64x128 .f32) : FVec Ideal S8x128 .f32 := k0_pay9 w a b

/-- A column of eight numbers put into lane `q * 16 + j`. -/
def putCol (q j : BitVec 32) (c : FVec Ideal S8x1 .f32) (s : FVec Ideal S8x128 .f32) : FVec Ideal S8x128 .f32 :=
  select (cmpi .eq laneNo (broadcast S8x128 (Scalar.addi (Scalar.muli q 16#32) j)))
    (broadcastTo S8x128 (shapeCast S8x1 c shapeCasts_S8x1_S8x1) broadcasts_S8x1_S8x128) s

/-- The lanes of two pages summed, as a column. -/
def col (v : FVec Ideal S8x128 .f32) : FVec Ideal S8x1 .f32 :=
  shapeCast S8x1 (multiReduction .add [1] S8 v 0x00000000#32 reduces_S8x128_S8 (.inl rfl) rfl) shapeCasts_S8_S8x1

/-- The scores after the first `n` blocks of a step. -/
def puts (q : BitVec 32) (w : FVec Ideal S512x128 .f32) (pg : ℕ → Vec Ideal S1x8x64x128 .f32) (s : FVec Ideal S8x128 .f32) : ℕ → FVec Ideal S8x128 .f32
  | 0 => s
  | n + 1 => putCol q (BitVec.ofNat 32 n) (col (lanes w (pg (2 * n)) (pg (2 * n + 1)))) (puts q w pg s n)

/-- A step puts in its sixteen blocks. -/
theorem scoreStep_eq (i : grid0.Coords) (x6 : Vec Ideal S1x512x128 .f32) (pg : ℕ → Vec Ideal S1x8x64x128 .f32) (s : Vec Ideal S1x8x128 .f32) :
    scoreStep i x6 (pg 0) (pg 1) (pg 2) (pg 3) (pg 4) (pg 5) (pg 6) (pg 7) (pg 8) (pg 9) (pg 10) (pg 11) (pg 12) (pg 13) (pg 14) (pg 15) (pg 16) (pg 17) (pg 18) (pg 19) (pg 20) (pg 21) (pg 22) (pg 23) (pg 24) (pg 25) (pg 26) (pg 27) (pg 28) (pg 29) (pg 30) (pg 31) s
      = shapeCast S1x8x128 (puts (quarter i) (k0_pay5 x6) pg (k0_pay4 s) 16) shapeCasts_S8x128_S1x8x128 := by
  unfold scoreStep
  simp only [puts]
  rfl

/-- One block's score of a head. -/
theorem col_apply (w : FVec Ideal S512x128 .f32) (a b : Vec Ideal S1x8x64x128 .f32) (h : Fin 8) :
    col (lanes w a b) (ix2 h 0) = ∑ l : Fin 128, ∑ y : Fin 8, ∑ x : Fin 8,
      (a (ix4 0 h ⟨8 * x.val + y.val, by omega⟩ l) + b (ix4 0 h ⟨8 * x.val + y.val, by omega⟩ l)) * w (ix2 ⟨64 * h.val + 8 * x.val + y.val, by omega⟩ l) := by
  unfold col lanes
  unfold_payloads
  pointwise
  refine Finset.sum_congr rfl fun l _ => Finset.sum_congr rfl fun y _ => Finset.sum_congr rfl fun x _ => ?_
  have e1 : (⟨(h.val * 64 + x.val * 8 + y.val) % 64, by omega⟩ : Fin 64) = ⟨8 * x.val + y.val, by omega⟩ := Fin.ext (by show (h.val * 64 + x.val * 8 + y.val) % 64 = 8 * x.val + y.val; omega)
  have e2 : (⟨h.val * 64 + x.val * 8 + y.val, by omega⟩ : Fin 512) = ⟨64 * h.val + 8 * x.val + y.val, by omega⟩ := Fin.ext (by show h.val * 64 + x.val * 8 + y.val = 64 * h.val + 8 * x.val + y.val; omega)
  rw [e1, e2]

/-- A column put in shows in its lane only. -/
theorem putCol_apply (q j : BitVec 32) (k : ℕ) (hk : k < 128) (hq : Scalar.addi (Scalar.muli q 16#32) j = BitVec.ofNat 32 k) (c : FVec Ideal S8x1 .f32) (s : FVec Ideal S8x128 .f32) (h : Fin 8) (l : Fin 128) :
    putCol q j c s (ix2 h l) = if l.val = k then c (ix2 h 0) else s (ix2 h l) := by
  unfold putCol laneNo
  rw [hq]
  pointwise
  have hl := l.isLt
  by_cases h1 : l.val = k
  · subst h1
    simp [IntOp.cmpi, Scalar.select]
  · have h2 : ¬ (BitVec.ofNat 32 l.val = BitVec.ofNat 32 k) := by
      intro e
      have := congrArg BitVec.toNat e
      simp only [BitVec.toNat_ofNat] at this
      omega
    rw [if_neg h1, WordCmp.cmpi_eq_eq, decide_eq_false h2]
    rfl

/-- The lane a block of a step goes to. -/
theorem laneWord : ∀ (t : Fin grid0.N) (n : Fin 16), Scalar.addi (Scalar.muli (quarter (grid0.coords t)) 16#32) (BitVec.ofNat 32 n.val) = BitVec.ofNat 32 (16 * (t.val % 4) + n.val) := by decide +kernel

/-- The scores after the first blocks of a step. -/
theorem puts_apply (t : Fin grid0.N) (w : FVec Ideal S512x128 .f32) (pg : ℕ → Vec Ideal S1x8x64x128 .f32) (s : FVec Ideal S8x128 .f32) (h : Fin 8) (l : Fin 128) :
    ∀ n : ℕ, n ≤ 16 → puts (quarter (grid0.coords t)) w pg s n (ix2 h l)
      = if 16 * (t.val % 4) ≤ l.val ∧ l.val < 16 * (t.val % 4) + n then
          col (lanes w (pg (2 * (l.val - 16 * (t.val % 4)))) (pg (2 * (l.val - 16 * (t.val % 4)) + 1))) (ix2 h 0) else s (ix2 h l) := by
  intro n
  induction n with
  | zero => intro _; rw [if_neg (by omega)]; rfl
  | succ n ih =>
    intro hn
    have := putCol_apply (quarter (grid0.coords t)) (BitVec.ofNat 32 n) (16 * (t.val % 4) + n) (by omega) (laneWord t ⟨n, by omega⟩)
      (col (lanes w (pg (2 * n)) (pg (2 * n + 1)))) (puts (quarter (grid0.coords t)) w pg s n) h l
    refine this.trans ?_
    rw [ih (by omega)]
    by_cases h1 : l.val = 16 * (t.val % 4) + n
    · rw [if_pos h1, if_pos (by omega), show l.val - 16 * (t.val % 4) = n by omega]
    · rw [if_neg h1]
      by_cases h2 : 16 * (t.val % 4) ≤ l.val ∧ l.val < 16 * (t.val % 4) + n
      · rw [if_pos h2, if_pos (by omega)]
      · rw [if_neg h2, if_neg (by omega)]

/-- The scores a step leaves, lane by lane. -/
theorem scoreStep_apply (t : Fin grid0.N) (x6 : Vec Ideal S1x512x128 .f32) (pg : ℕ → Vec Ideal S1x8x64x128 .f32) (s : Vec Ideal S1x8x128 .f32) (h : Fin 8) (l : Fin 128) :
    scoreStep (grid0.coords t) x6 (pg 0) (pg 1) (pg 2) (pg 3) (pg 4) (pg 5) (pg 6) (pg 7) (pg 8) (pg 9) (pg 10) (pg 11) (pg 12) (pg 13) (pg 14) (pg 15) (pg 16) (pg 17) (pg 18) (pg 19) (pg 20) (pg 21) (pg 22) (pg 23) (pg 24) (pg 25) (pg 26) (pg 27) (pg 28) (pg 29) (pg 30) (pg 31) s (ix3 0 h l)
      = if 16 * (t.val % 4) ≤ l.val ∧ l.val < 16 * (t.val % 4) + 16 then
          ∑ a : Fin 128, ∑ y : Fin 8, ∑ x : Fin 8,
            (pg (2 * (l.val - 16 * (t.val % 4))) (ix4 0 h ⟨8 * x.val + y.val, by omega⟩ a) + pg (2 * (l.val - 16 * (t.val % 4)) + 1) (ix4 0 h ⟨8 * x.val + y.val, by omega⟩ a)) * x6 (ix3 0 ⟨64 * h.val + 8 * x.val + y.val, by omega⟩ a)
        else s (ix3 0 h l) := by
  rw [scoreStep_eq]
  have e1 : shapeCast S1x8x128 (puts (quarter (grid0.coords t)) (k0_pay5 x6) pg (k0_pay4 s) 16) shapeCasts_S8x128_S1x8x128 (ix3 0 h l) = puts (quarter (grid0.coords t)) (k0_pay5 x6) pg (k0_pay4 s) 16 (ix2 h l) := by
    refine shapeCast_apply _ _ _ _ ?_
    rewrite [Shape.rowMajor_val_two, Shape.rowMajor_val_three]
    show h.val * 128 + l.val = (0 * 8 + h.val) * 128 + l.val
    omega
  rw [e1, puts_apply t _ _ _ h l 16 (le_refl _)]
  by_cases h1 : 16 * (t.val % 4) ≤ l.val ∧ l.val < 16 * (t.val % 4) + 16
  · rw [if_pos h1, if_pos h1, col_apply]
    refine Finset.sum_congr rfl fun a _ => Finset.sum_congr rfl fun y _ => Finset.sum_congr rfl fun x _ => ?_
    congr 1
    unfold k0_pay5
    refine shapeCast_apply _ _ _ _ ?_
    rewrite [Shape.rowMajor_val_three, Shape.rowMajor_val_two]
    show (0 * 512 + (64 * h.val + 8 * x.val + y.val)) * 128 + a.val = (64 * h.val + 8 * x.val + y.val) * 128 + a.val
    omega
  · rw [if_neg h1, if_neg h1]
    unfold k0_pay4
    refine shapeCast_apply _ _ _ _ ?_
    rewrite [Shape.rowMajor_val_three, Shape.rowMajor_val_two]
    show (0 * 8 + h.val) * 128 + l.val = h.val * 128 + l.val
    omega

/-- A batch row's scores start from zeros. -/
theorem zeroSc_apply (h : Fin 8) (l : Fin 128) : k0_pay2 (F := Ideal) (ix3 0 h l) = 0 := by
  unfold_payloads
  pointwise

end Cert.MoeIdeal.Val

end
-- ==== Proof.MoePg.lean ====
/- The blocks a step reads for the scores. -/
module

public import proofs.«01_k».proof.Proof.MoeSc
public import proofs.«01_k».proof.Proof.MoeOk

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- The page a batch row's table names at a column. -/
def page (pt : S32x128.Idx → BitVec 32) (b : Fin 32) (k : Fin 128) : Fin 5120 := ⟨(pt (ix2 b k)).toNat % 5120, Nat.mod_lt _ (by decide)⟩

/-- The score of one block of two pages for a batch row and a head: the query row times the block's key sum. -/
def blkScore (ck : S1x5120x128x8x64.Idx → EReal) (pt : S32x128.Idx → BitVec 32) (q : S32x512.Idx → EReal) (b : Fin 32) (h : Fin 8) (n : Fin 64) : EReal :=
  ∑ l : Fin 128, ∑ y : Fin 8, ∑ x : Fin 8,
    (ck (ix5 0 (page pt b ⟨2 * n.val, by omega⟩) l h ⟨8 * x.val + y.val, by omega⟩) + ck (ix5 0 (page pt b ⟨2 * n.val + 1, by omega⟩) l h ⟨8 * x.val + y.val, by omega⟩))
      * q (ix2 b ⟨64 * h.val + 8 * x.val + y.val, by omega⟩)

/-- The scores of all blocks, in the first sixty-four lanes of a row. -/
def sVal (ck : S1x5120x128x8x64.Idx → EReal) (pt : S32x128.Idx → BitVec 32) (q : S32x512.Idx → EReal) : S32x8x128.Idx → EReal :=
  fun i => if h : (i 2).val < 64 then blkScore ck pt q (i 0) (i 1) ⟨(i 2).val, h⟩ else 0

/-- The one layer of the key cache. -/
theorem cast_keys (x : S1x5120x128x8x64.Idx → EReal) (h : S1x5120x128x8x64.ShapeCasts S5120x128x8x64) (P : Fin 5120) (l : Fin 128) (e : Fin 8) (d : Fin 64) :
    shapeCast S5120x128x8x64 x h (ix4 P l e d) = x (ix5 0 P l e d) := by
  refine shapeCast_apply _ _ _ _ ?_
  rewrite [Shape.rowMajor_val_five, Shape.rowMajor_val_four]
  show (((0 * 5120 + P.val) * 128 + l.val) * 8 + e.val) * 64 + d.val = ((P.val * 128 + l.val) * 8 + e.val) * 64 + d.val
  omega

variable (m : (ℓ : Loc nD τ sig) → Buf (Elt Ideal) ℓ)

/-- The pages as the kernel reads them: the keys' lanes last. -/
theorem V5 (c : Dev nD) (P : Fin 5120) (h : Fin 8) (d : Fin 64) (l : Fin 128) : (V m c main_v5 : S5120x8x64x128.Idx → EReal) (ix4 P h d l)
    = (m ((c : Thread nD τ).loc main_arg7) : S1x5120x128x8x64.Idx → EReal) (ix5 0 P l h d) := by
  have e : V m c main_v5 = transpose S5120x8x64x128 [0, 2, 3, 1] (shapeCast S5120x128x8x64 (m ((c : Thread nD τ).loc main_arg7) : S1x5120x128x8x64.Idx → EReal) shapeCasts_S1x5120x128x8x64_S5120x128x8x64) transposes_S5120x128x8x64_S5120x8x64x128_0_2_3_1 := by
    unfold V hostOps0 hostOps0_1 hostOps0_2
    simp only [List.flatten_cons, List.flatten_nil, List.append_nil, List.cons_append, List.nil_append]
    after_results <;> rfl
  rw [e]
  refine (transpose_apply [0, 2, 3, 1] _ _ (ix4 P h d l) (ix4 P l h d) (fun b => match b with | ⟨0, _⟩ => rfl | ⟨1, _⟩ => rfl | ⟨2, _⟩ => rfl | ⟨3, _⟩ => rfl)).trans ?_
  exact cast_keys _ _ P l h d

/-- The query row as the kernel reads it: the same number in every lane. -/
theorem V7 (c : Dev nD) (b : Fin 32) (k : Fin 512) (l : Fin 128) : (V m c main_v7 : S32x512x128.Idx → EReal) (ix3 b k l)
    = (m ((c : Thread nD τ).loc main_arg9) : S32x512.Idx → EReal) (ix2 b k) := by
  have e : V m c main_v7 = broadcastInDim S32x512x128 ![0, 1, 2] bcast_S32x512x1_S32x512x128_0_1_2 (broadcastInDim S32x512x1 ![0, 1] bcast_S32x512_S32x512x1_0_1 (m ((c : Thread nD τ).loc main_arg9) : S32x512.Idx → EReal)) := by
    unfold V hostOps0 hostOps0_1 hostOps0_2
    simp only [List.flatten_cons, List.flatten_nil, List.append_nil, List.cons_append, List.nil_append]
    after_results <;> rfl
  rw [e]
  refine (broadcastInDim_apply _ bcast_S32x512x1_S32x512x128_0_1_2 _ (ix3 b k l) (ix3 b k 0) (fun a => match a with
    | ⟨0, _⟩ => by show b.val = if (32 : Nat) = 1 then 0 else b.val; rw [if_neg (by decide)]
    | ⟨1, _⟩ => by show k.val = if (512 : Nat) = 1 then 0 else k.val; rw [if_neg (by decide)]
    | ⟨2, _⟩ => by show 0 = if (1 : Nat) = 1 then 0 else l.val; rw [if_pos rfl])).trans ?_
  exact broadcastInDim_apply _ bcast_S32x512_S32x512x1_0_1 _ (ix3 b k 0) (ix2 b k) (fun a => match a with
    | ⟨0, _⟩ => by show b.val = if (32 : Nat) = 1 then 0 else b.val; rw [if_neg (by decide)]
    | ⟨1, _⟩ => by show k.val = if (512 : Nat) = 1 then 0 else k.val; rw [if_neg (by decide)])

/-- Where a step's table entries lie. -/
theorem offW : ∀ (t : Fin grid0.N) (r : Fin 32), k0_off1 (grid0.coords t) (BitVec.ofNat 32 r.val) 0 = t.val / 4 ∧ k0_off1 (grid0.coords t) (BitVec.ofNat 32 r.val) 1 = 32 * (t.val % 4) + r.val := by decide +kernel

/-- Where the query and score blocks lie. -/
theorem idxQ : ∀ t : Fin grid0.N, cc0_transform_6 (grid0.coords t) 0 = t.val / 4 ∧ cc0_transform_6 (grid0.coords t) 1 = 0 ∧ cc0_transform_6 (grid0.coords t) 2 = 0
    ∧ cc0_transform_40 (grid0.coords t) 0 = t.val / 4 ∧ cc0_transform_40 (grid0.coords t) 1 = 0 ∧ cc0_transform_40 (grid0.coords t) 2 = 0 := by decide +kernel

/-- The word of the table a step's page operand reads. -/
theorem word_eq (t : Fin grid0.N) (r : Fin 32) : word (tbl m) (grid0.coords t) r
    = (m ((((0 : Dev nD)).tc : Thread nD τ).loc main_arg8) : S32x128.Idx → BitVec 32) (ix2 ⟨t.val / 4, by have : t.val < 128 := t.isLt; omega⟩ ⟨32 * (t.val % 4) + r.val, by omega⟩) := by
  have ho := offW t r
  refine Eq.trans ?_ (congrFun (V_main_arg8 m 0) _)
  show tbl m 0 _ = _
  unfold tbl
  show (V m (0 : Dev nD) main_arg8 : S32x128.Idx → BitVec 32) _ = _
  refine congrArg (V m (0 : Dev nD) main_arg8 : S32x128.Idx → BitVec 32) ?_
  funext a
  apply Fin.ext
  match a with
  | ⟨0, _⟩ => show k0_off1 (grid0.coords t) (BitVec.ofNat 32 r.val) 0 + 1 * 0 = t.val / 4; rw [ho.1]; omega
  | ⟨1, _⟩ => show k0_off1 (grid0.coords t) (BitVec.ofNat 32 r.val) 1 + 1 * 0 = 32 * (t.val % 4) + r.val; rw [ho.2]; omega

/-- A word the table gives a step, as the page it names. -/
theorem page_eq (t : Fin grid0.N) (r : Fin 32) (k : Fin 128) (hk : k.val = 32 * (t.val % 4) + r.val) (hw : ∀ i r, (word (tbl m) i r).toNat < 5120) :
    (word (tbl m) (grid0.coords t) r).toNat = (page (m ((((0 : Dev nD)).tc : Thread nD τ).loc main_arg8)) ⟨t.val / 4, by have : t.val < 128 := t.isLt; omega⟩ k).val := by
  have hb : 32 * (t.val % 4) + r.val < 128 := by have := r.isLt; omega
  have e : k = ⟨32 * (t.val % 4) + r.val, hb⟩ := Fin.ext hk
  rw [e]
  have h := hw (grid0.coords t) r
  rw [word_eq] at h ⊢
  exact (Nat.mod_eq_of_lt h).symm

variable (hO : Ok m)

/-- The query block of a step. -/
theorem blk6 (c : Dev nD) (t : Fin (cfgM m hO).N) (k : Fin 512) (l : Fin 128) : (iblk m hO c 6 t : S1x512x128.Idx → EReal) (ix3 0 k l)
    = (m ((c : Thread nD τ).loc main_arg9) : S32x512.Idx → EReal) (ix2 ⟨t.val / 4, by have := tlt m hO t; omega⟩ k) := by
  refine Eq.trans ?_ (V7 m c ⟨t.val / 4, by have := tlt m hO t; omega⟩ k l)
  have hi := idxQ t
  unfold iblk
  show V m c main_v7 _ = V m c main_v7 _
  congr 1
  funext a
  apply Fin.ext
  match a with
  | ⟨0, _⟩ => show cc0_transform_6 (grid0.coords t) 0 * 1 + 1 * 0 = t.val / 4; rw [hi.1]; omega
  | ⟨1, _⟩ => show cc0_transform_6 (grid0.coords t) 1 * 512 + 1 * k.val = k.val; rw [hi.2.1]; omega
  | ⟨2, _⟩ => show cc0_transform_6 (grid0.coords t) 2 * 128 + 1 * l.val = l.val; rw [hi.2.2.1]; omega

/-- The page a step's operand `r` reads, keys of one lane last. -/
def pgV (c : Dev nD) (t : Fin grid0.N) (r : ℕ) : Vec Ideal S1x8x64x128 .f32 := fun j =>
  (V m c main_v5 : S5120x8x64x128.Idx → EReal) (ix4 ⟨(word (tbl m) (grid0.coords t) ⟨r % 32, Nat.mod_lt _ (by decide)⟩).toNat % 5120, Nat.mod_lt _ (by decide)⟩ (j 1) (j 2) (j 3))

end Cert.MoeIdeal.Val

end
-- ==== Proof.MoePgA.lean ====
/- The pages a step reads, off the page table. -/
module

public import proofs.«01_k».proof.Proof.MoePg

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

variable (m : (ℓ : Loc nD τ sig) → Buf (Elt Ideal) ℓ) (hO : Ok m)

/-- Page 0 of a step. -/
theorem pg0 (c : Dev nD) (t : Fin (cfgM m hO).N) (hw : ∀ i r, (word (tbl m) i r).toNat < 5120) : (iblk m hO c 7 t : S1x8x64x128.Idx → EReal) = pgV m c t 0 := by
  refine funext fun (j : S1x8x64x128.Idx) => ?_
  have h0 : (j 0).val < 1 := (j 0).isLt
  have hq : (word (tbl m) (grid0.coords t) 0).toNat % 5120 = (word (tbl m) (grid0.coords t) 0).toNat := Nat.mod_eq_of_lt (hw _ _)
  unfold iblk pgV
  show V m c main_v5 _ = V m c main_v5 _
  congr 1
  funext a
  apply Fin.ext
  match a with
  | ⟨0, _⟩ => show (word (tbl m) (grid0.coords t) 0).toNat * 1 + 1 * (j 0).val = (word (tbl m) (grid0.coords t) 0).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 1 of a step. -/
theorem pg1 (c : Dev nD) (t : Fin (cfgM m hO).N) (hw : ∀ i r, (word (tbl m) i r).toNat < 5120) : (iblk m hO c 8 t : S1x8x64x128.Idx → EReal) = pgV m c t 1 := by
  refine funext fun (j : S1x8x64x128.Idx) => ?_
  have h0 : (j 0).val < 1 := (j 0).isLt
  have hq : (word (tbl m) (grid0.coords t) 1).toNat % 5120 = (word (tbl m) (grid0.coords t) 1).toNat := Nat.mod_eq_of_lt (hw _ _)
  unfold iblk pgV
  show V m c main_v5 _ = V m c main_v5 _
  congr 1
  funext a
  apply Fin.ext
  match a with
  | ⟨0, _⟩ => show (word (tbl m) (grid0.coords t) 1).toNat * 1 + 1 * (j 0).val = (word (tbl m) (grid0.coords t) 1).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 2 of a step. -/
theorem pg2 (c : Dev nD) (t : Fin (cfgM m hO).N) (hw : ∀ i r, (word (tbl m) i r).toNat < 5120) : (iblk m hO c 9 t : S1x8x64x128.Idx → EReal) = pgV m c t 2 := by
  refine funext fun (j : S1x8x64x128.Idx) => ?_
  have h0 : (j 0).val < 1 := (j 0).isLt
  have hq : (word (tbl m) (grid0.coords t) 2).toNat % 5120 = (word (tbl m) (grid0.coords t) 2).toNat := Nat.mod_eq_of_lt (hw _ _)
  unfold iblk pgV
  show V m c main_v5 _ = V m c main_v5 _
  congr 1
  funext a
  apply Fin.ext
  match a with
  | ⟨0, _⟩ => show (word (tbl m) (grid0.coords t) 2).toNat * 1 + 1 * (j 0).val = (word (tbl m) (grid0.coords t) 2).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 3 of a step. -/
theorem pg3 (c : Dev nD) (t : Fin (cfgM m hO).N) (hw : ∀ i r, (word (tbl m) i r).toNat < 5120) : (iblk m hO c 10 t : S1x8x64x128.Idx → EReal) = pgV m c t 3 := by
  refine funext fun (j : S1x8x64x128.Idx) => ?_
  have h0 : (j 0).val < 1 := (j 0).isLt
  have hq : (word (tbl m) (grid0.coords t) 3).toNat % 5120 = (word (tbl m) (grid0.coords t) 3).toNat := Nat.mod_eq_of_lt (hw _ _)
  unfold iblk pgV
  show V m c main_v5 _ = V m c main_v5 _
  congr 1
  funext a
  apply Fin.ext
  match a with
  | ⟨0, _⟩ => show (word (tbl m) (grid0.coords t) 3).toNat * 1 + 1 * (j 0).val = (word (tbl m) (grid0.coords t) 3).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 4 of a step. -/
theorem pg4 (c : Dev nD) (t : Fin (cfgM m hO).N) (hw : ∀ i r, (word (tbl m) i r).toNat < 5120) : (iblk m hO c 11 t : S1x8x64x128.Idx → EReal) = pgV m c t 4 := by
  refine funext fun (j : S1x8x64x128.Idx) => ?_
  have h0 : (j 0).val < 1 := (j 0).isLt
  have hq : (word (tbl m) (grid0.coords t) 4).toNat % 5120 = (word (tbl m) (grid0.coords t) 4).toNat := Nat.mod_eq_of_lt (hw _ _)
  unfold iblk pgV
  show V m c main_v5 _ = V m c main_v5 _
  congr 1
  funext a
  apply Fin.ext
  match a with
  | ⟨0, _⟩ => show (word (tbl m) (grid0.coords t) 4).toNat * 1 + 1 * (j 0).val = (word (tbl m) (grid0.coords t) 4).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 5 of a step. -/
theorem pg5 (c : Dev nD) (t : Fin (cfgM m hO).N) (hw : ∀ i r, (word (tbl m) i r).toNat < 5120) : (iblk m hO c 12 t : S1x8x64x128.Idx → EReal) = pgV m c t 5 := by
  refine funext fun (j : S1x8x64x128.Idx) => ?_
  have h0 : (j 0).val < 1 := (j 0).isLt
  have hq : (word (tbl m) (grid0.coords t) 5).toNat % 5120 = (word (tbl m) (grid0.coords t) 5).toNat := Nat.mod_eq_of_lt (hw _ _)
  unfold iblk pgV
  show V m c main_v5 _ = V m c main_v5 _
  congr 1
  funext a
  apply Fin.ext
  match a with
  | ⟨0, _⟩ => show (word (tbl m) (grid0.coords t) 5).toNat * 1 + 1 * (j 0).val = (word (tbl m) (grid0.coords t) 5).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 6 of a step. -/
theorem pg6 (c : Dev nD) (t : Fin (cfgM m hO).N) (hw : ∀ i r, (word (tbl m) i r).toNat < 5120) : (iblk m hO c 13 t : S1x8x64x128.Idx → EReal) = pgV m c t 6 := by
  refine funext fun (j : S1x8x64x128.Idx) => ?_
  have h0 : (j 0).val < 1 := (j 0).isLt
  have hq : (word (tbl m) (grid0.coords t) 6).toNat % 5120 = (word (tbl m) (grid0.coords t) 6).toNat := Nat.mod_eq_of_lt (hw _ _)
  unfold iblk pgV
  show V m c main_v5 _ = V m c main_v5 _
  congr 1
  funext a
  apply Fin.ext
  match a with
  | ⟨0, _⟩ => show (word (tbl m) (grid0.coords t) 6).toNat * 1 + 1 * (j 0).val = (word (tbl m) (grid0.coords t) 6).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 7 of a step. -/
theorem pg7 (c : Dev nD) (t : Fin (cfgM m hO).N) (hw : ∀ i r, (word (tbl m) i r).toNat < 5120) : (iblk m hO c 14 t : S1x8x64x128.Idx → EReal) = pgV m c t 7 := by
  refine funext fun (j : S1x8x64x128.Idx) => ?_
  have h0 : (j 0).val < 1 := (j 0).isLt
  have hq : (word (tbl m) (grid0.coords t) 7).toNat % 5120 = (word (tbl m) (grid0.coords t) 7).toNat := Nat.mod_eq_of_lt (hw _ _)
  unfold iblk pgV
  show V m c main_v5 _ = V m c main_v5 _
  congr 1
  funext a
  apply Fin.ext
  match a with
  | ⟨0, _⟩ => show (word (tbl m) (grid0.coords t) 7).toNat * 1 + 1 * (j 0).val = (word (tbl m) (grid0.coords t) 7).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

end Cert.MoeIdeal.Val

end
-- ==== Proof.MoePgB.lean ====
/- The pages a step reads, off the page table. -/
module

public import proofs.«01_k».proof.Proof.MoePg

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

variable (m : (ℓ : Loc nD τ sig) → Buf (Elt Ideal) ℓ) (hO : Ok m)

/-- Page 8 of a step. -/
theorem pg8 (c : Dev nD) (t : Fin (cfgM m hO).N) (hw : ∀ i r, (word (tbl m) i r).toNat < 5120) : (iblk m hO c 15 t : S1x8x64x128.Idx → EReal) = pgV m c t 8 := by
  refine funext fun (j : S1x8x64x128.Idx) => ?_
  have h0 : (j 0).val < 1 := (j 0).isLt
  have hq : (word (tbl m) (grid0.coords t) 8).toNat % 5120 = (word (tbl m) (grid0.coords t) 8).toNat := Nat.mod_eq_of_lt (hw _ _)
  unfold iblk pgV
  show V m c main_v5 _ = V m c main_v5 _
  congr 1
  funext a
  apply Fin.ext
  match a with
  | ⟨0, _⟩ => show (word (tbl m) (grid0.coords t) 8).toNat * 1 + 1 * (j 0).val = (word (tbl m) (grid0.coords t) 8).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 9 of a step. -/
theorem pg9 (c : Dev nD) (t : Fin (cfgM m hO).N) (hw : ∀ i r, (word (tbl m) i r).toNat < 5120) : (iblk m hO c 16 t : S1x8x64x128.Idx → EReal) = pgV m c t 9 := by
  refine funext fun (j : S1x8x64x128.Idx) => ?_
  have h0 : (j 0).val < 1 := (j 0).isLt
  have hq : (word (tbl m) (grid0.coords t) 9).toNat % 5120 = (word (tbl m) (grid0.coords t) 9).toNat := Nat.mod_eq_of_lt (hw _ _)
  unfold iblk pgV
  show V m c main_v5 _ = V m c main_v5 _
  congr 1
  funext a
  apply Fin.ext
  match a with
  | ⟨0, _⟩ => show (word (tbl m) (grid0.coords t) 9).toNat * 1 + 1 * (j 0).val = (word (tbl m) (grid0.coords t) 9).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 10 of a step. -/
theorem pg10 (c : Dev nD) (t : Fin (cfgM m hO).N) (hw : ∀ i r, (word (tbl m) i r).toNat < 5120) : (iblk m hO c 17 t : S1x8x64x128.Idx → EReal) = pgV m c t 10 := by
  refine funext fun (j : S1x8x64x128.Idx) => ?_
  have h0 : (j 0).val < 1 := (j 0).isLt
  have hq : (word (tbl m) (grid0.coords t) 10).toNat % 5120 = (word (tbl m) (grid0.coords t) 10).toNat := Nat.mod_eq_of_lt (hw _ _)
  unfold iblk pgV
  show V m c main_v5 _ = V m c main_v5 _
  congr 1
  funext a
  apply Fin.ext
  match a with
  | ⟨0, _⟩ => show (word (tbl m) (grid0.coords t) 10).toNat * 1 + 1 * (j 0).val = (word (tbl m) (grid0.coords t) 10).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 11 of a step. -/
theorem pg11 (c : Dev nD) (t : Fin (cfgM m hO).N) (hw : ∀ i r, (word (tbl m) i r).toNat < 5120) : (iblk m hO c 18 t : S1x8x64x128.Idx → EReal) = pgV m c t 11 := by
  refine funext fun (j : S1x8x64x128.Idx) => ?_
  have h0 : (j 0).val < 1 := (j 0).isLt
  have hq : (word (tbl m) (grid0.coords t) 11).toNat % 5120 = (word (tbl m) (grid0.coords t) 11).toNat := Nat.mod_eq_of_lt (hw _ _)
  unfold iblk pgV
  show V m c main_v5 _ = V m c main_v5 _
  congr 1
  funext a
  apply Fin.ext
  match a with
  | ⟨0, _⟩ => show (word (tbl m) (grid0.coords t) 11).toNat * 1 + 1 * (j 0).val = (word (tbl m) (grid0.coords t) 11).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 12 of a step. -/
theorem pg12 (c : Dev nD) (t : Fin (cfgM m hO).N) (hw : ∀ i r, (word (tbl m) i r).toNat < 5120) : (iblk m hO c 19 t : S1x8x64x128.Idx → EReal) = pgV m c t 12 := by
  refine funext fun (j : S1x8x64x128.Idx) => ?_
  have h0 : (j 0).val < 1 := (j 0).isLt
  have hq : (word (tbl m) (grid0.coords t) 12).toNat % 5120 = (word (tbl m) (grid0.coords t) 12).toNat := Nat.mod_eq_of_lt (hw _ _)
  unfold iblk pgV
  show V m c main_v5 _ = V m c main_v5 _
  congr 1
  funext a
  apply Fin.ext
  match a with
  | ⟨0, _⟩ => show (word (tbl m) (grid0.coords t) 12).toNat * 1 + 1 * (j 0).val = (word (tbl m) (grid0.coords t) 12).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 13 of a step. -/
theorem pg13 (c : Dev nD) (t : Fin (cfgM m hO).N) (hw : ∀ i r, (word (tbl m) i r).toNat < 5120) : (iblk m hO c 20 t : S1x8x64x128.Idx → EReal) = pgV m c t 13 := by
  refine funext fun (j : S1x8x64x128.Idx) => ?_
  have h0 : (j 0).val < 1 := (j 0).isLt
  have hq : (word (tbl m) (grid0.coords t) 13).toNat % 5120 = (word (tbl m) (grid0.coords t) 13).toNat := Nat.mod_eq_of_lt (hw _ _)
  unfold iblk pgV
  show V m c main_v5 _ = V m c main_v5 _
  congr 1
  funext a
  apply Fin.ext
  match a with
  | ⟨0, _⟩ => show (word (tbl m) (grid0.coords t) 13).toNat * 1 + 1 * (j 0).val = (word (tbl m) (grid0.coords t) 13).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 14 of a step. -/
theorem pg14 (c : Dev nD) (t : Fin (cfgM m hO).N) (hw : ∀ i r, (word (tbl m) i r).toNat < 5120) : (iblk m hO c 21 t : S1x8x64x128.Idx → EReal) = pgV m c t 14 := by
  refine funext fun (j : S1x8x64x128.Idx) => ?_
  have h0 : (j 0).val < 1 := (j 0).isLt
  have hq : (word (tbl m) (grid0.coords t) 14).toNat % 5120 = (word (tbl m) (grid0.coords t) 14).toNat := Nat.mod_eq_of_lt (hw _ _)
  unfold iblk pgV
  show V m c main_v5 _ = V m c main_v5 _
  congr 1
  funext a
  apply Fin.ext
  match a with
  | ⟨0, _⟩ => show (word (tbl m) (grid0.coords t) 14).toNat * 1 + 1 * (j 0).val = (word (tbl m) (grid0.coords t) 14).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 15 of a step. -/
theorem pg15 (c : Dev nD) (t : Fin (cfgM m hO).N) (hw : ∀ i r, (word (tbl m) i r).toNat < 5120) : (iblk m hO c 22 t : S1x8x64x128.Idx → EReal) = pgV m c t 15 := by
  refine funext fun (j : S1x8x64x128.Idx) => ?_
  have h0 : (j 0).val < 1 := (j 0).isLt
  have hq : (word (tbl m) (grid0.coords t) 15).toNat % 5120 = (word (tbl m) (grid0.coords t) 15).toNat := Nat.mod_eq_of_lt (hw _ _)
  unfold iblk pgV
  show V m c main_v5 _ = V m c main_v5 _
  congr 1
  funext a
  apply Fin.ext
  match a with
  | ⟨0, _⟩ => show (word (tbl m) (grid0.coords t) 15).toNat * 1 + 1 * (j 0).val = (word (tbl m) (grid0.coords t) 15).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

end Cert.MoeIdeal.Val

end
-- ==== Proof.MoePgC.lean ====
/- The pages a step reads, off the page table. -/
module

public import proofs.«01_k».proof.Proof.MoePg

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

variable (m : (ℓ : Loc nD τ sig) → Buf (Elt Ideal) ℓ) (hO : Ok m)

/-- Page 16 of a step. -/
theorem pg16 (c : Dev nD) (t : Fin (cfgM m hO).N) (hw : ∀ i r, (word (tbl m) i r).toNat < 5120) : (iblk m hO c 23 t : S1x8x64x128.Idx → EReal) = pgV m c t 16 := by
  refine funext fun (j : S1x8x64x128.Idx) => ?_
  have h0 : (j 0).val < 1 := (j 0).isLt
  have hq : (word (tbl m) (grid0.coords t) 16).toNat % 5120 = (word (tbl m) (grid0.coords t) 16).toNat := Nat.mod_eq_of_lt (hw _ _)
  unfold iblk pgV
  show V m c main_v5 _ = V m c main_v5 _
  congr 1
  funext a
  apply Fin.ext
  match a with
  | ⟨0, _⟩ => show (word (tbl m) (grid0.coords t) 16).toNat * 1 + 1 * (j 0).val = (word (tbl m) (grid0.coords t) 16).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 17 of a step. -/
theorem pg17 (c : Dev nD) (t : Fin (cfgM m hO).N) (hw : ∀ i r, (word (tbl m) i r).toNat < 5120) : (iblk m hO c 24 t : S1x8x64x128.Idx → EReal) = pgV m c t 17 := by
  refine funext fun (j : S1x8x64x128.Idx) => ?_
  have h0 : (j 0).val < 1 := (j 0).isLt
  have hq : (word (tbl m) (grid0.coords t) 17).toNat % 5120 = (word (tbl m) (grid0.coords t) 17).toNat := Nat.mod_eq_of_lt (hw _ _)
  unfold iblk pgV
  show V m c main_v5 _ = V m c main_v5 _
  congr 1
  funext a
  apply Fin.ext
  match a with
  | ⟨0, _⟩ => show (word (tbl m) (grid0.coords t) 17).toNat * 1 + 1 * (j 0).val = (word (tbl m) (grid0.coords t) 17).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 18 of a step. -/
theorem pg18 (c : Dev nD) (t : Fin (cfgM m hO).N) (hw : ∀ i r, (word (tbl m) i r).toNat < 5120) : (iblk m hO c 25 t : S1x8x64x128.Idx → EReal) = pgV m c t 18 := by
  refine funext fun (j : S1x8x64x128.Idx) => ?_
  have h0 : (j 0).val < 1 := (j 0).isLt
  have hq : (word (tbl m) (grid0.coords t) 18).toNat % 5120 = (word (tbl m) (grid0.coords t) 18).toNat := Nat.mod_eq_of_lt (hw _ _)
  unfold iblk pgV
  show V m c main_v5 _ = V m c main_v5 _
  congr 1
  funext a
  apply Fin.ext
  match a with
  | ⟨0, _⟩ => show (word (tbl m) (grid0.coords t) 18).toNat * 1 + 1 * (j 0).val = (word (tbl m) (grid0.coords t) 18).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 19 of a step. -/
theorem pg19 (c : Dev nD) (t : Fin (cfgM m hO).N) (hw : ∀ i r, (word (tbl m) i r).toNat < 5120) : (iblk m hO c 26 t : S1x8x64x128.Idx → EReal) = pgV m c t 19 := by
  refine funext fun (j : S1x8x64x128.Idx) => ?_
  have h0 : (j 0).val < 1 := (j 0).isLt
  have hq : (word (tbl m) (grid0.coords t) 19).toNat % 5120 = (word (tbl m) (grid0.coords t) 19).toNat := Nat.mod_eq_of_lt (hw _ _)
  unfold iblk pgV
  show V m c main_v5 _ = V m c main_v5 _
  congr 1
  funext a
  apply Fin.ext
  match a with
  | ⟨0, _⟩ => show (word (tbl m) (grid0.coords t) 19).toNat * 1 + 1 * (j 0).val = (word (tbl m) (grid0.coords t) 19).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 20 of a step. -/
theorem pg20 (c : Dev nD) (t : Fin (cfgM m hO).N) (hw : ∀ i r, (word (tbl m) i r).toNat < 5120) : (iblk m hO c 27 t : S1x8x64x128.Idx → EReal) = pgV m c t 20 := by
  refine funext fun (j : S1x8x64x128.Idx) => ?_
  have h0 : (j 0).val < 1 := (j 0).isLt
  have hq : (word (tbl m) (grid0.coords t) 20).toNat % 5120 = (word (tbl m) (grid0.coords t) 20).toNat := Nat.mod_eq_of_lt (hw _ _)
  unfold iblk pgV
  show V m c main_v5 _ = V m c main_v5 _
  congr 1
  funext a
  apply Fin.ext
  match a with
  | ⟨0, _⟩ => show (word (tbl m) (grid0.coords t) 20).toNat * 1 + 1 * (j 0).val = (word (tbl m) (grid0.coords t) 20).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 21 of a step. -/
theorem pg21 (c : Dev nD) (t : Fin (cfgM m hO).N) (hw : ∀ i r, (word (tbl m) i r).toNat < 5120) : (iblk m hO c 28 t : S1x8x64x128.Idx → EReal) = pgV m c t 21 := by
  refine funext fun (j : S1x8x64x128.Idx) => ?_
  have h0 : (j 0).val < 1 := (j 0).isLt
  have hq : (word (tbl m) (grid0.coords t) 21).toNat % 5120 = (word (tbl m) (grid0.coords t) 21).toNat := Nat.mod_eq_of_lt (hw _ _)
  unfold iblk pgV
  show V m c main_v5 _ = V m c main_v5 _
  congr 1
  funext a
  apply Fin.ext
  match a with
  | ⟨0, _⟩ => show (word (tbl m) (grid0.coords t) 21).toNat * 1 + 1 * (j 0).val = (word (tbl m) (grid0.coords t) 21).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 22 of a step. -/
theorem pg22 (c : Dev nD) (t : Fin (cfgM m hO).N) (hw : ∀ i r, (word (tbl m) i r).toNat < 5120) : (iblk m hO c 29 t : S1x8x64x128.Idx → EReal) = pgV m c t 22 := by
  refine funext fun (j : S1x8x64x128.Idx) => ?_
  have h0 : (j 0).val < 1 := (j 0).isLt
  have hq : (word (tbl m) (grid0.coords t) 22).toNat % 5120 = (word (tbl m) (grid0.coords t) 22).toNat := Nat.mod_eq_of_lt (hw _ _)
  unfold iblk pgV
  show V m c main_v5 _ = V m c main_v5 _
  congr 1
  funext a
  apply Fin.ext
  match a with
  | ⟨0, _⟩ => show (word (tbl m) (grid0.coords t) 22).toNat * 1 + 1 * (j 0).val = (word (tbl m) (grid0.coords t) 22).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 23 of a step. -/
theorem pg23 (c : Dev nD) (t : Fin (cfgM m hO).N) (hw : ∀ i r, (word (tbl m) i r).toNat < 5120) : (iblk m hO c 30 t : S1x8x64x128.Idx → EReal) = pgV m c t 23 := by
  refine funext fun (j : S1x8x64x128.Idx) => ?_
  have h0 : (j 0).val < 1 := (j 0).isLt
  have hq : (word (tbl m) (grid0.coords t) 23).toNat % 5120 = (word (tbl m) (grid0.coords t) 23).toNat := Nat.mod_eq_of_lt (hw _ _)
  unfold iblk pgV
  show V m c main_v5 _ = V m c main_v5 _
  congr 1
  funext a
  apply Fin.ext
  match a with
  | ⟨0, _⟩ => show (word (tbl m) (grid0.coords t) 23).toNat * 1 + 1 * (j 0).val = (word (tbl m) (grid0.coords t) 23).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

end Cert.MoeIdeal.Val

end
-- ==== Proof.MoePgD.lean ====
/- The pages a step reads, off the page table. -/
module

public import proofs.«01_k».proof.Proof.MoePg

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

variable (m : (ℓ : Loc nD τ sig) → Buf (Elt Ideal) ℓ) (hO : Ok m)

/-- Page 24 of a step. -/
theorem pg24 (c : Dev nD) (t : Fin (cfgM m hO).N) (hw : ∀ i r, (word (tbl m) i r).toNat < 5120) : (iblk m hO c 31 t : S1x8x64x128.Idx → EReal) = pgV m c t 24 := by
  refine funext fun (j : S1x8x64x128.Idx) => ?_
  have h0 : (j 0).val < 1 := (j 0).isLt
  have hq : (word (tbl m) (grid0.coords t) 24).toNat % 5120 = (word (tbl m) (grid0.coords t) 24).toNat := Nat.mod_eq_of_lt (hw _ _)
  unfold iblk pgV
  show V m c main_v5 _ = V m c main_v5 _
  congr 1
  funext a
  apply Fin.ext
  match a with
  | ⟨0, _⟩ => show (word (tbl m) (grid0.coords t) 24).toNat * 1 + 1 * (j 0).val = (word (tbl m) (grid0.coords t) 24).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 25 of a step. -/
theorem pg25 (c : Dev nD) (t : Fin (cfgM m hO).N) (hw : ∀ i r, (word (tbl m) i r).toNat < 5120) : (iblk m hO c 32 t : S1x8x64x128.Idx → EReal) = pgV m c t 25 := by
  refine funext fun (j : S1x8x64x128.Idx) => ?_
  have h0 : (j 0).val < 1 := (j 0).isLt
  have hq : (word (tbl m) (grid0.coords t) 25).toNat % 5120 = (word (tbl m) (grid0.coords t) 25).toNat := Nat.mod_eq_of_lt (hw _ _)
  unfold iblk pgV
  show V m c main_v5 _ = V m c main_v5 _
  congr 1
  funext a
  apply Fin.ext
  match a with
  | ⟨0, _⟩ => show (word (tbl m) (grid0.coords t) 25).toNat * 1 + 1 * (j 0).val = (word (tbl m) (grid0.coords t) 25).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 26 of a step. -/
theorem pg26 (c : Dev nD) (t : Fin (cfgM m hO).N) (hw : ∀ i r, (word (tbl m) i r).toNat < 5120) : (iblk m hO c 33 t : S1x8x64x128.Idx → EReal) = pgV m c t 26 := by
  refine funext fun (j : S1x8x64x128.Idx) => ?_
  have h0 : (j 0).val < 1 := (j 0).isLt
  have hq : (word (tbl m) (grid0.coords t) 26).toNat % 5120 = (word (tbl m) (grid0.coords t) 26).toNat := Nat.mod_eq_of_lt (hw _ _)
  unfold iblk pgV
  show V m c main_v5 _ = V m c main_v5 _
  congr 1
  funext a
  apply Fin.ext
  match a with
  | ⟨0, _⟩ => show (word (tbl m) (grid0.coords t) 26).toNat * 1 + 1 * (j 0).val = (word (tbl m) (grid0.coords t) 26).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 27 of a step. -/
theorem pg27 (c : Dev nD) (t : Fin (cfgM m hO).N) (hw : ∀ i r, (word (tbl m) i r).toNat < 5120) : (iblk m hO c 34 t : S1x8x64x128.Idx → EReal) = pgV m c t 27 := by
  refine funext fun (j : S1x8x64x128.Idx) => ?_
  have h0 : (j 0).val < 1 := (j 0).isLt
  have hq : (word (tbl m) (grid0.coords t) 27).toNat % 5120 = (word (tbl m) (grid0.coords t) 27).toNat := Nat.mod_eq_of_lt (hw _ _)
  unfold iblk pgV
  show V m c main_v5 _ = V m c main_v5 _
  congr 1
  funext a
  apply Fin.ext
  match a with
  | ⟨0, _⟩ => show (word (tbl m) (grid0.coords t) 27).toNat * 1 + 1 * (j 0).val = (word (tbl m) (grid0.coords t) 27).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 28 of a step. -/
theorem pg28 (c : Dev nD) (t : Fin (cfgM m hO).N) (hw : ∀ i r, (word (tbl m) i r).toNat < 5120) : (iblk m hO c 35 t : S1x8x64x128.Idx → EReal) = pgV m c t 28 := by
  refine funext fun (j : S1x8x64x128.Idx) => ?_
  have h0 : (j 0).val < 1 := (j 0).isLt
  have hq : (word (tbl m) (grid0.coords t) 28).toNat % 5120 = (word (tbl m) (grid0.coords t) 28).toNat := Nat.mod_eq_of_lt (hw _ _)
  unfold iblk pgV
  show V m c main_v5 _ = V m c main_v5 _
  congr 1
  funext a
  apply Fin.ext
  match a with
  | ⟨0, _⟩ => show (word (tbl m) (grid0.coords t) 28).toNat * 1 + 1 * (j 0).val = (word (tbl m) (grid0.coords t) 28).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 29 of a step. -/
theorem pg29 (c : Dev nD) (t : Fin (cfgM m hO).N) (hw : ∀ i r, (word (tbl m) i r).toNat < 5120) : (iblk m hO c 36 t : S1x8x64x128.Idx → EReal) = pgV m c t 29 := by
  refine funext fun (j : S1x8x64x128.Idx) => ?_
  have h0 : (j 0).val < 1 := (j 0).isLt
  have hq : (word (tbl m) (grid0.coords t) 29).toNat % 5120 = (word (tbl m) (grid0.coords t) 29).toNat := Nat.mod_eq_of_lt (hw _ _)
  unfold iblk pgV
  show V m c main_v5 _ = V m c main_v5 _
  congr 1
  funext a
  apply Fin.ext
  match a with
  | ⟨0, _⟩ => show (word (tbl m) (grid0.coords t) 29).toNat * 1 + 1 * (j 0).val = (word (tbl m) (grid0.coords t) 29).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 30 of a step. -/
theorem pg30 (c : Dev nD) (t : Fin (cfgM m hO).N) (hw : ∀ i r, (word (tbl m) i r).toNat < 5120) : (iblk m hO c 37 t : S1x8x64x128.Idx → EReal) = pgV m c t 30 := by
  refine funext fun (j : S1x8x64x128.Idx) => ?_
  have h0 : (j 0).val < 1 := (j 0).isLt
  have hq : (word (tbl m) (grid0.coords t) 30).toNat % 5120 = (word (tbl m) (grid0.coords t) 30).toNat := Nat.mod_eq_of_lt (hw _ _)
  unfold iblk pgV
  show V m c main_v5 _ = V m c main_v5 _
  congr 1
  funext a
  apply Fin.ext
  match a with
  | ⟨0, _⟩ => show (word (tbl m) (grid0.coords t) 30).toNat * 1 + 1 * (j 0).val = (word (tbl m) (grid0.coords t) 30).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

/-- Page 31 of a step. -/
theorem pg31 (c : Dev nD) (t : Fin (cfgM m hO).N) (hw : ∀ i r, (word (tbl m) i r).toNat < 5120) : (iblk m hO c 38 t : S1x8x64x128.Idx → EReal) = pgV m c t 31 := by
  refine funext fun (j : S1x8x64x128.Idx) => ?_
  have h0 : (j 0).val < 1 := (j 0).isLt
  have hq : (word (tbl m) (grid0.coords t) 31).toNat % 5120 = (word (tbl m) (grid0.coords t) 31).toNat := Nat.mod_eq_of_lt (hw _ _)
  unfold iblk pgV
  show V m c main_v5 _ = V m c main_v5 _
  congr 1
  funext a
  apply Fin.ext
  match a with
  | ⟨0, _⟩ => show (word (tbl m) (grid0.coords t) 31).toNat * 1 + 1 * (j 0).val = (word (tbl m) (grid0.coords t) 31).toNat % 5120; omega
  | ⟨1, _⟩ => show 0 * 8 + 1 * (j 1).val = (j 1).val; omega
  | ⟨2, _⟩ => show 0 * 64 + 1 * (j 2).val = (j 2).val; omega
  | ⟨3, _⟩ => show 0 * 128 + 1 * (j 3).val = (j 3).val; omega

end Cert.MoeIdeal.Val

end
-- ==== Proof.MoeScV.lean ====
/- The scores the call leaves: each batch row gathers its blocks over four steps. -/
module

public import proofs.«01_k».proof.Proof.MoePgA
public import proofs.«01_k».proof.Proof.MoePgB
public import proofs.«01_k».proof.Proof.MoePgC
public import proofs.«01_k».proof.Proof.MoePgD

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-- A step's scores depend on its pages only. -/
theorem scoreStep_congr (i : grid0.Coords) (x6 : Vec Ideal S1x512x128 .f32) (s : Vec Ideal S1x8x128 .f32) (a0 a1 a2 a3 a4 a5 a6 a7 a8 a9 a10 a11 a12 a13 a14 a15 a16 a17 a18 a19 a20 a21 a22 a23 a24 a25 a26 a27 a28 a29 a30 a31 b0 b1 b2 b3 b4 b5 b6 b7 b8 b9 b10 b11 b12 b13 b14 b15 b16 b17 b18 b19 b20 b21 b22 b23 b24 b25 b26 b27 b28 b29 b30 b31 : Vec Ideal S1x8x64x128 .f32)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) (h27 : a27 = b27) (h28 : a28 = b28) (h29 : a29 = b29) (h30 : a30 = b30) (h31 : a31 = b31) :
    scoreStep i x6 a0 a1 a2 a3 a4 a5 a6 a7 a8 a9 a10 a11 a12 a13 a14 a15 a16 a17 a18 a19 a20 a21 a22 a23 a24 a25 a26 a27 a28 a29 a30 a31 s = scoreStep i x6 b0 b1 b2 b3 b4 b5 b6 b7 b8 b9 b10 b11 b12 b13 b14 b15 b16 b17 b18 b19 b20 b21 b22 b23 b24 b25 b26 b27 b28 b29 b30 b31 s := by
  subst h0; subst h1; subst h2; subst h3; subst h4; subst h5; subst h6; subst h7; subst h8; subst h9; subst h10; subst h11; subst h12; subst h13; subst h14; subst h15; subst h16; subst h17; subst h18; subst h19; subst h20; subst h21; subst h22; subst h23; subst h24; subst h25; subst h26; subst h27; subst h28; subst h29; subst h30; subst h31
  rfl

variable (m : (ℓ : Loc nD τ sig) → Buf (Elt Ideal) ℓ) (hO : Ok m)

/-- A step's scores, with its pages off the table. -/
theorem scAt_eq (c : Dev nD) (t : Fin (cfgM m hO).N) (hw : ∀ i r, (word (tbl m) i r).toNat < 5120) (s : Vec Ideal S1x8x128 .f32) :
    scAt m hO c t s = scoreStep (grid0.coords t) (iblk m hO c 6 t) (pgV m c t 0) (pgV m c t 1) (pgV m c t 2) (pgV m c t 3) (pgV m c t 4) (pgV m c t 5) (pgV m c t 6) (pgV m c t 7) (pgV m c t 8) (pgV m c t 9) (pgV m c t 10) (pgV m c t 11) (pgV m c t 12) (pgV m c t 13) (pgV m c t 14) (pgV m c t 15) (pgV m c t 16) (pgV m c t 17) (pgV m c t 18) (pgV m c t 19) (pgV m c t 20) (pgV m c t 21) (pgV m c t 22) (pgV m c t 23) (pgV m c t 24) (pgV m c t 25) (pgV m c t 26) (pgV m c t 27) (pgV m c t 28) (pgV m c t 29) (pgV m c t 30) (pgV m c t 31) s := by
  unfold scAt
  exact scoreStep_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (pg0 m hO c t hw) (pg1 m hO c t hw) (pg2 m hO c t hw) (pg3 m hO c t hw) (pg4 m hO c t hw) (pg5 m hO c t hw) (pg6 m hO c t hw) (pg7 m hO c t hw) (pg8 m hO c t hw) (pg9 m hO c t hw) (pg10 m hO c t hw) (pg11 m hO c t hw) (pg12 m hO c t hw) (pg13 m hO c t hw) (pg14 m hO c t hw) (pg15 m hO c t hw) (pg16 m hO c t hw) (pg17 m hO c t hw) (pg18 m hO c t hw) (pg19 m hO c t hw) (pg20 m hO c t hw) (pg21 m hO c t hw) (pg22 m hO c t hw) (pg23 m hO c t hw) (pg24 m hO c t hw) (pg25 m hO c t hw) (pg26 m hO c t hw) (pg27 m hO c t hw) (pg28 m hO c t hw) (pg29 m hO c t hw) (pg30 m hO c t hw) (pg31 m hO c t hw)

/-- A key of a page a step reads. -/
theorem pgV_apply (c : Dev nD) (t : Fin grid0.N) (r : ℕ) (hr : r < 32) (k : Fin 128) (hk : k.val = 32 * (t.val % 4) + r) (hw : ∀ i r, (word (tbl m) i r).toNat < 5120) (h : Fin 8) (d : Fin 64) (l : Fin 128) :
    pgV m c t r (ix4 0 h d l) = (m ((c : Thread nD τ).loc main_arg7) : S1x5120x128x8x64.Idx → EReal)
      (ix5 0 (page (m ((((0 : Dev nD)).tc : Thread nD τ).loc main_arg8)) ⟨t.val / 4, by have : t.val < 128 := t.isLt; omega⟩ k) l h d) := by
  have hp := page_eq m t ⟨r % 32, Nat.mod_lt _ (by decide)⟩ k (by show k.val = 32 * (t.val % 4) + r % 32; omega) hw
  refine (V5 m c _ h d l).trans ?_
  refine congrArg (fun P => (m ((c : Thread nD τ).loc main_arg7) : S1x5120x128x8x64.Idx → EReal) (ix5 0 P l h d)) (Fin.ext ?_)
  show (word (tbl m) (grid0.coords t) ⟨r % 32, _⟩).toNat % 5120 = _
  rw [Nat.mod_eq_of_lt (hw _ _)]
  exact hp

/-- The score of block `n` of batch row `b` and head `h` on a device. -/
def scN (c : Dev nD) (b : ℕ) (h : Fin 8) (n : ℕ) : EReal :=
  blkScore (m ((c : Thread nD τ).loc main_arg7)) (m ((((0 : Dev nD)).tc : Thread nD τ).loc main_arg8)) (m ((c : Thread nD τ).loc main_arg9)) ⟨b % 32, Nat.mod_lt _ (by decide)⟩ h ⟨n % 64, Nat.mod_lt _ (by decide)⟩

/-- What a step does to the scores: sixteen lanes become the scores of its blocks. -/
theorem sc_step (c : Dev nD) (t : Fin (cfgM m hO).N) (hw : ∀ i r, (word (tbl m) i r).toNat < 5120) (s : Vec Ideal S1x8x128 .f32) (h : Fin 8) (l : Fin 128) :
    scAt m hO c t s (ix3 0 h l) = if 16 * (t.val % 4) ≤ l.val ∧ l.val < 16 * (t.val % 4) + 16 then scN m c (t.val / 4) h l.val else s (ix3 0 h l) := by
  have ht := tlt m hO t
  rw [scAt_eq m hO c t hw s]
  refine (scoreStep_apply t (iblk m hO c 6 t) (pgV m c t) s h l).trans ?_
  by_cases h1 : 16 * (t.val % 4) ≤ l.val ∧ l.val < 16 * (t.val % 4) + 16
  · rw [if_pos h1, if_pos h1]
    unfold scN blkScore
    have eb : (⟨t.val / 4 % 32, Nat.mod_lt _ (by decide)⟩ : Fin 32) = ⟨t.val / 4, by omega⟩ := Fin.ext (by show t.val / 4 % 32 = t.val / 4; omega)
    rw [eb]
    refine Finset.sum_congr rfl fun a _ => Finset.sum_congr rfl fun y _ => Finset.sum_congr rfl fun x _ => ?_
    refine congr (congrArg HMul.hMul (congr (congrArg HAdd.hAdd ?_) ?_)) ?_
    · exact pgV_apply m c t _ (by omega) _ (by show 2 * (l.val % 64) = _; omega) hw h _ a
    · exact pgV_apply m c t _ (by omega) _ (by show 2 * (l.val % 64) + 1 = _; omega) hw h _ a
    · exact blk6 m hO c t _ a
  · rw [if_neg h1, if_neg h1]

/-- The scores after each step: the blocks of the steps so far, zeros elsewhere. -/
theorem sc_eq (c : Dev nD) (hw : ∀ i r, (word (tbl m) i r).toNat < 5120) (h : Fin 8) (l : Fin 128) : ∀ (n : ℕ) (hn : n < (cfgM m hO).N), (outsAt0 m hO c n hn).2.1 (ix3 0 h l)
    = if l.val < 16 * (n % 4) + 16 then scN m c (n / 4) h l.val else 0 := by
  intro n
  induction n with
  | zero =>
    intro hn
    rw [outsAt0_eq m hO c ⟨0, hn⟩]
    show scAt m hO c ⟨0, hn⟩ (scIn m hO c ⟨0, hn⟩) (ix3 0 h l) = _
    rw [sc_step m hO c _ hw]
    unfold scIn
    rw [if_pos (show (⟨0, hn⟩ : Fin (cfgM m hO).N).val % 4 = 0 from rfl), zeroSc_apply]
    by_cases h1 : l.val < 16
    · rw [if_pos ⟨Nat.zero_le _, h1⟩, if_pos h1]
    · rw [if_neg (fun e => h1 e.2), if_neg h1]
  | succ n ih =>
    intro hn
    rw [outsAt0_eq m hO c ⟨n + 1, hn⟩]
    show scAt m hO c ⟨n + 1, hn⟩ (scIn m hO c ⟨n + 1, hn⟩) (ix3 0 h l) = _
    rw [sc_step m hO c _ hw]
    unfold scIn
    show (if 16 * ((n + 1) % 4) ≤ l.val ∧ l.val < 16 * ((n + 1) % 4) + 16 then scN m c ((n + 1) / 4) h l.val else ((if (n + 1) % 4 = 0 then k0_pay2 (F := Ideal) else (outsAt0 m hO c n (Nat.lt_of_succ_lt hn)).2.1 : Vec Ideal S1x8x128 .f32) (ix3 0 h l) : EReal)) = _
    by_cases h0 : (n + 1) % 4 = 0
    · rw [if_pos h0, zeroSc_apply, h0]
      by_cases h1 : l.val < 16
      · rw [if_pos ⟨Nat.zero_le _, h1⟩, if_pos h1]
      · rw [if_neg (fun e => h1 e.2), if_neg h1]
    · rw [if_neg h0, ih]
      rw [show n / 4 = (n + 1) / 4 by omega]
      by_cases h1 : 16 * ((n + 1) % 4) ≤ l.val ∧ l.val < 16 * ((n + 1) % 4) + 16
      · rw [if_pos h1, if_pos h1.2]
      · rw [if_neg h1]
        by_cases h2 : l.val < 16 * (n % 4) + 16
        · rw [if_pos h2, if_pos (by omega)]
        · rw [if_neg h2, if_neg (by omega)]

/-- The score array the call leaves, from the launch arrays. -/
abbrev scArr (c : Dev nD) : S32x8x128.Idx → EReal := sVal (m ((c : Thread nD τ).loc main_arg7)) (m ((((0 : Dev nD)).tc : Thread nD τ).loc main_arg8)) (m ((c : Thread nD τ).loc main_arg9))

/-- A score block written at a row's last step. -/
theorem flushed40 (c : Dev nD) (hw : ∀ i r, (word (tbl m) i r).toNat < 5120) (t : Fin (cfgM m hO).N) (h : ((cfgM m hO).win 40).flush t = true) :
    (dats m hO 0 c).flushed 40 t = (((cfgM m hO).win 40).blk t).view.read (Elt Ideal) (scArr m c) := by
  have h3 : t.val % 4 = 3 := (flush0_40 (adm m hO) t).1 h
  have hi := idxQ t
  have ht := tlt m hO t
  show ((cfgM m hO).win 40).cut (grid0.coords t) ((dats m hO 0 c).after 40 t) = _
  rw [after0_40]
  refine funext fun (j : S1x8x128.Idx) => ?_
  obtain ⟨e, l, rfl⟩ : ∃ (e : Fin 8) (l : Fin 128), j = (ix3 0 e l : S1x8x128.Idx) := ⟨j 1, j 2, by
    funext a
    match a with
    | ⟨0, _⟩ => exact Fin.ext (by have : (j 0).val < 1 := (j 0).isLt; show (j 0).val = 0; omega)
    | ⟨1, _⟩ => rfl
    | ⟨2, _⟩ => rfl⟩
  refine (sc_eq m hO c hw e l t.val t.isLt).trans ?_
  have hx : ∀ I : S32x8x128.Idx, (I 0).val = t.val / 4 → (I 1).val = e.val → (I 2).val = l.val →
      (if l.val < 16 * (t.val % 4) + 16 then scN m c (t.val / 4) e l.val else 0) = scArr m c I := by
    intro I i0 i1 i2
    unfold scArr sVal scN
    rw [h3]
    by_cases hl : l.val < 64
    · rw [if_pos hl, dif_pos (i2 ▸ hl)]
      have e0 : (⟨t.val / 4 % 32, Nat.mod_lt _ (by decide)⟩ : Fin 32) = I 0 := Fin.ext (by show t.val / 4 % 32 = (I 0).val; omega)
      have e1 : e = I 1 := Fin.ext i1.symm
      have e2 : (⟨l.val % 64, Nat.mod_lt _ (by decide)⟩ : Fin 64) = ⟨(I 2).val, i2 ▸ hl⟩ := Fin.ext (by show l.val % 64 = (I 2).val; omega)
      rw [e0, e1, e2]
    · rw [if_neg hl, dif_neg (fun q => hl (i2 ▸ q))]
  show _ = scArr m c _
  refine hx _ ?_ ?_ ?_
  · show cc0_transform_40 (grid0.coords t) 0 * 1 + 1 * 0 = t.val / 4; rw [hi.2.2.2.1]; omega
  · show cc0_transform_40 (grid0.coords t) 1 * 8 + 1 * e.val = e.val; rw [hi.2.2.2.2.1]; omega
  · show cc0_transform_40 (grid0.coords t) 2 * 128 + 1 * l.val = l.val; rw [hi.2.2.2.2.2]; omega

/-- The score blocks tile the score array. -/
theorem cover40 (i : S32x8x128.Idx) : ∃ t : Fin (cfgM m hO).N, ((cfgM m hO).win 40).flush t = true ∧ i ∈ (((cfgM m hO).win 40).blk t).view.set := by
  have h0 : (i 0).val < 32 := (i 0).isLt
  have h1 : (i 1).val < 8 := (i 1).isLt
  have h2 : (i 2).val < 128 := (i 2).isLt
  obtain ⟨t, ht⟩ : ∃ t : Fin (cfgM m hO).N, t.val = 4 * (i 0).val + 3 := ⟨⟨4 * (i 0).val + 3, by show _ < 128; omega⟩, rfl⟩
  refine ⟨t, (flush0_40 (adm m hO) t).2 (by omega), ?_⟩
  have hi := idxQ t
  refine (Finset.ext_iff.1 (View.set_slice_whole main_v12_1 (((cfgM m hO).win 40).rect t)) i).2 ?_
  refine Rect.mem_set_unit.2 ?_
  intro a
  match a with
  | ⟨0, _⟩ => show cc0_transform_40 (grid0.coords t) 0 * 1 ≤ (i 0).val ∧ (i 0).val < cc0_transform_40 (grid0.coords t) 0 * 1 + 1; rw [hi.2.2.2.1]; omega
  | ⟨1, _⟩ => show cc0_transform_40 (grid0.coords t) 1 * 8 ≤ (i 1).val ∧ (i 1).val < cc0_transform_40 (grid0.coords t) 1 * 8 + 8; rw [hi.2.2.2.2.1]; omega
  | ⟨2, _⟩ => show cc0_transform_40 (grid0.coords t) 2 * 128 ≤ (i 2).val ∧ (i 2).val < cc0_transform_40 (grid0.coords t) 2 * 128 + 128; rw [hi.2.2.2.2.2]; omega

/-- The score array at the end. -/
theorem sc_array (c : Dev nD) (hw : ∀ i r, (word (tbl m) i r).toNat < 5120) : (dats m hO 0 c).arrAt 40 (cfgM m hO).N = scArr m c :=
  (dats m hO 0 c).arrAt_eq_of_cover 40 _ (fun t h => flushed40 m hO c hw t h) (cover40 m hO)

end Cert.MoeIdeal.Val

end
-- ==== Proof.MoeRefY.lean ====
/- The reference's expert sum is the same mathematics: the two-axis contraction over experts and hidden units is a sum
   of the experts' contributions. -/
module

public import proofs.«01_k».proof.Proof.MoeYV
public import proofs.«01_k».proof.Proof.Gen.MoeRefIdeal.Run
public import proofs.«01_k».proof.Proof.Gen.MoeRefIdeal.Read
public import Idealize.ShloMosaic.Lib.TwoAxisContraction
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.MoeRefIdeal.RefValue

open Cert.MoeRefIdeal Cert.MoeRefIdeal.Gen Cert.MoeRefIdeal.Read
open Cert.MoeIdeal.Val (hid expert yVal)

variable (x0 : S16384x1024.Idx → EReal) (x1 : S16384x1024.Idx → EReal) (x2 : S16384x16.Idx → EReal) (x3 x4 : S1x16x1024x256.Idx → EReal) (x5 : S1x16x256x1024.Idx → EReal) (x6 : S1024.Idx → EReal)

/-- A coordinate of the contraction's left index. -/
theorem lhs11_0 (i : S16384x1024.Idx) (q : dot_S16384x16x256_S16x256x1024_S16384x1024_12_01_0_2_n_n.contr.Idx) : (dot_S16384x16x256_S16x256x1024_S16384x1024_12_01_0_2_n_n.lhsIdx i q 0).val = (i 0).val := by
  unfold DotDims.lhsIdx
  rw [dif_neg (show ¬(0 : Fin S16384x16x256.rank) ∈ dot_S16384x16x256_S16x256x1024_S16384x1024_12_01_0_2_n_n.lhsBatch by decide), dif_pos (show (0 : Fin S16384x16x256.rank) ∈ dot_S16384x16x256_S16x256x1024_S16384x1024_12_01_0_2_n_n.lhsNonContracting by decide)]
  rfl

/-- The expert of the left index. -/
theorem lhs11_1 (i : S16384x1024.Idx) (q : dot_S16384x16x256_S16x256x1024_S16384x1024_12_01_0_2_n_n.contr.Idx) : (dot_S16384x16x256_S16x256x1024_S16384x1024_12_01_0_2_n_n.lhsIdx i q 1).val = (q ⟨0, by decide⟩).val := by
  unfold DotDims.lhsIdx
  rw [dif_neg (show ¬(1 : Fin S16384x16x256.rank) ∈ dot_S16384x16x256_S16x256x1024_S16384x1024_12_01_0_2_n_n.lhsBatch by decide), dif_neg (show ¬(1 : Fin S16384x16x256.rank) ∈ dot_S16384x16x256_S16x256x1024_S16384x1024_12_01_0_2_n_n.lhsNonContracting by decide)]
  rfl

/-- The hidden unit of the left index. -/
theorem lhs11_2 (i : S16384x1024.Idx) (q : dot_S16384x16x256_S16x256x1024_S16384x1024_12_01_0_2_n_n.contr.Idx) : (dot_S16384x16x256_S16x256x1024_S16384x1024_12_01_0_2_n_n.lhsIdx i q 2).val = (q ⟨1, by decide⟩).val := by
  unfold DotDims.lhsIdx
  rw [dif_neg (show ¬(2 : Fin S16384x16x256.rank) ∈ dot_S16384x16x256_S16x256x1024_S16384x1024_12_01_0_2_n_n.lhsBatch by decide), dif_neg (show ¬(2 : Fin S16384x16x256.rank) ∈ dot_S16384x16x256_S16x256x1024_S16384x1024_12_01_0_2_n_n.lhsNonContracting by decide)]
  rfl

/-- The expert of the right index. -/
theorem rhs11_0 (i : S16384x1024.Idx) (q : dot_S16384x16x256_S16x256x1024_S16384x1024_12_01_0_2_n_n.contr.Idx) : (dot_S16384x16x256_S16x256x1024_S16384x1024_12_01_0_2_n_n.rhsIdx i q 0).val = (q ⟨0, by decide⟩).val := by
  unfold DotDims.rhsIdx
  rw [dif_neg (show ¬(0 : Fin S16x256x1024.rank) ∈ dot_S16384x16x256_S16x256x1024_S16384x1024_12_01_0_2_n_n.rhsBatch by decide), dif_neg (show ¬(0 : Fin S16x256x1024.rank) ∈ dot_S16384x16x256_S16x256x1024_S16384x1024_12_01_0_2_n_n.rhsNonContracting by decide)]
  rfl

/-- The hidden unit of the right index. -/
theorem rhs11_1 (i : S16384x1024.Idx) (q : dot_S16384x16x256_S16x256x1024_S16384x1024_12_01_0_2_n_n.contr.Idx) : (dot_S16384x16x256_S16x256x1024_S16384x1024_12_01_0_2_n_n.rhsIdx i q 1).val = (q ⟨1, by decide⟩).val := by
  unfold DotDims.rhsIdx
  rw [dif_neg (show ¬(1 : Fin S16x256x1024.rank) ∈ dot_S16384x16x256_S16x256x1024_S16384x1024_12_01_0_2_n_n.rhsBatch by decide), dif_neg (show ¬(1 : Fin S16x256x1024.rank) ∈ dot_S16384x16x256_S16x256x1024_S16384x1024_12_01_0_2_n_n.rhsNonContracting by decide)]
  rfl

/-- The output coordinate of the right index. -/
theorem rhs11_2 (i : S16384x1024.Idx) (q : dot_S16384x16x256_S16x256x1024_S16384x1024_12_01_0_2_n_n.contr.Idx) : (dot_S16384x16x256_S16x256x1024_S16384x1024_12_01_0_2_n_n.rhsIdx i q 2).val = (i 1).val := by
  unfold DotDims.rhsIdx
  rw [dif_neg (show ¬(2 : Fin S16x256x1024.rank) ∈ dot_S16384x16x256_S16x256x1024_S16384x1024_12_01_0_2_n_n.rhsBatch by decide), dif_pos (show (2 : Fin S16x256x1024.rank) ∈ dot_S16384x16x256_S16x256x1024_S16384x1024_12_01_0_2_n_n.rhsNonContracting by decide)]
  rfl

/-- The contraction over experts and hidden units is the iterated sum. -/
theorem v11_sum (T : Fin 16384) (d : Fin 1024) : val_main_v11 (F := Ideal) x1 x2 x3 x4 x5 (ix2 T d)
    = ∑ e : Fin 16, ∑ f : Fin 256, val_main_v9 (F := Ideal) x1 x2 x3 x4 (ix3 T e f) * val_main_v10 (F := Ideal) x5 (ix3 e f d) := by
  unfold val_main_v11
  generalize val_main_v9 (F := Ideal) x1 x2 x3 x4 = y0
  generalize val_main_v10 (F := Ideal) x5 = y1
  simp only [Host.dotGeneral]
  rw [Ideal.dotGeneral_apply, ValueIdx.sum_contr2 dot_S16384x16x256_S16x256x1024_S16384x1024_12_01_0_2_n_n 16 256 rfl rfl rfl]
  refine Finset.sum_congr rfl fun e _ => Finset.sum_congr rfl fun f _ => ?_
  have h0 := ValueIdx.contrEquiv2_symm_val0 dot_S16384x16x256_S16x256x1024_S16384x1024_12_01_0_2_n_n 16 256 rfl rfl rfl (e, f)
  have h1 := ValueIdx.contrEquiv2_symm_val1 dot_S16384x16x256_S16x256x1024_S16384x1024_12_01_0_2_n_n 16 256 rfl rfl rfl (e, f)
  refine congrArg₂ (· * ·) (congrArg y0 (funext fun a => Fin.ext ?_)) (congrArg y1 (funext fun a => Fin.ext ?_))
  · match a with
    | ⟨0, _⟩ => exact lhs11_0 _ _
    | ⟨1, _⟩ => exact (lhs11_1 _ _).trans h0
    | ⟨2, _⟩ => exact (lhs11_2 _ _).trans h1
  · match a with
    | ⟨0, _⟩ => exact (rhs11_0 _ _).trans h0
    | ⟨1, _⟩ => exact (rhs11_1 _ _).trans h1
    | ⟨2, _⟩ => exact rhs11_2 _ _

/-- The gate product. -/
theorem v2_at (T : Fin 16384) (e : Fin 16) (f : Fin 256) : val_main_v2 (F := Ideal) x1 x3 (ix3 T e f) = ∑ k : Fin 1024, x1 (ix2 T k) * x3 (ix4 0 e k f) := by
  rw [val_main_v2_apply]
  refine Finset.sum_congr rfl fun k _ => ?_
  rw [val_main_v1_apply]
  refine congrArg₂ (· * ·) (congrArg x1 (funext fun a => by match a with | ⟨0, _⟩ => rfl | ⟨1, _⟩ => rfl)) (congrArg x3 (funext fun a => Fin.ext ?_))
  have he := e.isLt
  have hf := f.isLt
  have hk := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The up product. -/
theorem v5_at (T : Fin 16384) (e : Fin 16) (f : Fin 256) : val_main_v5 (F := Ideal) x1 x4 (ix3 T e f) = ∑ k : Fin 1024, x1 (ix2 T k) * x4 (ix4 0 e k f) := by
  rw [val_main_v5_apply]
  refine Finset.sum_congr rfl fun k _ => ?_
  rw [val_main_v4_apply]
  refine congrArg₂ (· * ·) (congrArg x1 (funext fun a => by match a with | ⟨0, _⟩ => rfl | ⟨1, _⟩ => rfl)) (congrArg x4 (funext fun a => Fin.ext ?_))
  have he := e.isLt
  have hf := f.isLt
  have hk := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The down weights. -/
theorem v10_at (e : Fin 16) (f : Fin 256) (d : Fin 1024) : val_main_v10 (F := Ideal) x5 (ix3 e f d) = x5 (ix4 0 e f d) := by
  rw [val_main_v10_apply]
  refine congrArg x5 (funext fun a => Fin.ext ?_)
  have he := e.isLt
  have hf := f.isLt
  have hd := d.isLt
  match a with
  | ⟨0, _⟩ => rfl
  | ⟨1, _⟩ => show ((e.val * 256 + f.val) * 1024 + d.val) / 262144 % 16 = e.val; omega
  | ⟨2, _⟩ => show ((e.val * 256 + f.val) * 1024 + d.val) / 1024 % 256 = f.val; omega
  | ⟨3, _⟩ => show ((e.val * 256 + f.val) * 1024 + d.val) % 1024 = d.val; omega

/-- A hidden unit. -/
theorem v9_at (T : Fin 16384) (e : Fin 16) (f : Fin 256) : val_main_v9 (F := Ideal) x1 x2 x3 x4 (ix3 T e f)
    = hid (fun k => x1 (ix2 T k)) (fun k => x3 (ix4 0 e k f)) (fun k => x4 (ix4 0 e k f)) (x2 (ix2 T e)) := by
  rw [val_main_v9_apply, val_main_v6_apply, val_main_v3_apply, val_main_v8_apply, val_main_v7_apply, v5_at]
  rw [val_main_call0_v5_apply, val_main_call0_v3_apply, val_main_call0_v1_apply, val_main_call0_v0_apply, val_main_call0_v2_apply, val_main_call0_v4_apply, val_main_call0_cst_apply, val_main_call0_cst_0_apply, v2_at]
  have h1 : (FloatOps.ofBits (F := Ideal) FTy.f32 1065353216#32 : EReal) = 1 := Ideal.ofBits_one_f32
  have hi : idx_main_v7 (idx_main_v8 (ix3 T e f)) = ix2 T e := by
    funext a
    match a with
    | ⟨0, _⟩ => rfl
    | ⟨1, _⟩ => rfl
  rw [h1, hi]
  unfold hid
  rfl

/-- The expert sum. -/
theorem v11_at (T : Fin 16384) (d : Fin 1024) : val_main_v11 (F := Ideal) x1 x2 x3 x4 x5 (ix2 T d) = ∑ e : Fin 16, expert x1 x2 x3 x4 x5 T e d := by
  rw [v11_sum]
  refine Finset.sum_congr rfl fun e _ => Finset.sum_congr rfl fun f _ => ?_
  rw [v9_at, v10_at]

/-- The reference's output. -/
theorem v25 : val_main_v25 (F := Ideal) x0 x1 x2 x3 x4 x5 x6 = yVal x0 x1 x2 x3 x4 x5 x6 := by
  funext i
  obtain ⟨T, d, rfl⟩ : ∃ (T : Fin 16384) (d : Fin 1024), i = ix2 T d := ⟨i 0, i 1, by funext a; match a with | ⟨0, _⟩ => rfl | ⟨1, _⟩ => rfl⟩
  pointwise [val_main_v25, val_main_v24, val_main_v23, val_main_v22, val_main_v21, val_main_v20, val_main_v19, val_main_v18, val_main_v17, val_main_v16, val_main_v15, val_main_v14, val_main_v13, val_main_v12, val_main_cst, val_main_cst_0, val_main_cst_1]
  unfold yVal
  simp only [v11_at]
  rfl

end Cert.MoeRefIdeal.RefValue

end
-- ==== Proof.MoeRefSc.lean ====
/- The reference's block scores, at an index, and their equality with the kernel's on finite keys and queries. -/
module

public import Idealize.ShloMosaic.Lib.IdealHost
public import Idealize.ShloMosaic.Lib.WordCmp
public import Idealize.ShloMosaic.Lib.KernelVsHost
public import proofs.«01_k».proof.Proof.MoePg
public import proofs.«01_k».proof.Proof.Gen.MoeRefIdeal.Read

@[expose] public section

set_option maxRecDepth 16384

noncomputable section

open Idealize.ShloMosaic Idealize.ShloMosaic.TcCoe Idealize.SL.Sem

namespace Cert.MoeRefIdeal.RefValue

open Cert.MoeRefIdeal Cert.MoeRefIdeal.Gen Cert.MoeRefIdeal.Read
open Cert.MoeIdeal.Val (page blkScore sVal)

/-- The gather of whole pages at an index: the page the table's entry names. -/
theorem gather_keys (x : S5120x128x8x64.Idx → EReal) (idx : IVec S32x128x1 32) (b : Fin 32) (k s : Fin 128) (h : Fin 8) (d : Fin 64) :
    Host.gather gather_S5120x128x8x64_S32x128x1_S32x128x128x8x64_234_0_n_n_0_2_1128864 x idx (ix5 b k s h d)
      = x (ix4 ⟨min (idx (ix3 b k 0)).toInt.toNat 5119, by omega⟩ s h d) := by
  unfold Host.gather
  congr 1
  funext a
  refine Fin.ext ?_
  show GatherDims.start _ (ix5 b k s h d) idx a + GatherDims.batchCoord _ (ix5 b k s h d) a + GatherDims.offCoord _ (ix5 b k s h d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S5120x128x8x64.rank) ∈ gather_S5120x128x8x64_S32x128x1_S32x128x128x8x64_234_0_n_n_0_2_1128864.startIndexMap from List.mem_singleton.mpr rfl)]
    have hsi : gather_S5120x128x8x64_S32x128x1_S32x128x128x8x64_234_0_n_n_0_2_1128864.siIdx (ix5 b k s h d) ⟨List.idxOf (⟨0, by decide⟩ : Fin S5120x128x8x64.rank) gather_S5120x128x8x64_S32x128x1_S32x128x128x8x64_234_0_n_n_0_2_1128864.startIndexMap,
        List.idxOf_lt_length_iff.2 (List.mem_singleton.mpr rfl)⟩ = ix3 b k 0 := by
      funext e; refine Fin.ext ?_
      match e with
      | ⟨0, _⟩ => rfl
      | ⟨1, _⟩ => rfl
      | ⟨2, _⟩ => rfl
    rw [hsi]
    rfl
  | ⟨1, _⟩ =>
    unfold GatherDims.start
    rw [dif_neg (show ¬ (⟨1, by decide⟩ : Fin S5120x128x8x64.rank) ∈ gather_S5120x128x8x64_S32x128x1_S32x128x128x8x64_234_0_n_n_0_2_1128864.startIndexMap by decide)]
    show 0 + 0 + _ = s.val
    rw [Nat.zero_add]
    rfl
  | ⟨2, _⟩ =>
    unfold GatherDims.start
    rw [dif_neg (show ¬ (⟨2, by decide⟩ : Fin S5120x128x8x64.rank) ∈ gather_S5120x128x8x64_S32x128x1_S32x128x128x8x64_234_0_n_n_0_2_1128864.startIndexMap by decide)]
    show 0 + 0 + _ = h.val
    rw [Nat.zero_add]
    rfl
  | ⟨3, _⟩ =>
    unfold GatherDims.start
    rw [dif_neg (show ¬ (⟨3, by decide⟩ : Fin S5120x128x8x64.rank) ∈ gather_S5120x128x8x64_S32x128x1_S32x128x128x8x64_234_0_n_n_0_2_1128864.startIndexMap by decide)]
    show 0 + 0 + _ = d.val
    rw [Nat.zero_add]
    rfl

variable (x7 : S1x5120x128x8x64.Idx → EReal) (x8 : S32x128.Idx → BitVec 32) (x9 : S32x512.Idx → EReal)

/-- The table's word the gather reads: a word in range is kept as it is. -/
theorem word_at (hw : ∀ j, (x8 j).toNat < 5120) (b : Fin 32) (k : Fin 128) : val_main_v32 (F := Ideal) x8 (ix3 b k 0) = x8 (ix2 b k) := by
  have hi : idx_main_v32 (ix3 b k 0) = ix2 b k := by
    funext a
    match a with
    | ⟨0, _⟩ => rfl
    | ⟨1, _⟩ => rfl
  rw [val_main_v32_apply, hi, val_main_v31_apply, val_main_v28_apply, val_main_v27_apply, val_main_c_apply]
  have h := hw (ix2 b k)
  have h0 : ¬ ((x8 (ix2 b k)).toInt < (0#32 : BitVec 32).toInt) := by
    rw [BitVec.toInt_eq_toNat_of_lt (by omega)]
    simp
  rw [WordCmp.cmpi_slt_eq, decide_eq_false h0]
  rfl

/-- A key the reference sums: its block, place in the block, head and coordinate. -/
theorem key_at (hw : ∀ j, (x8 j).toNat < 5120) (b : Fin 32) (h : Fin 8) (n : Fin 64) (s : Fin 256) (d : Fin 64) :
    val_main_v36 (F := Ideal) x7 x8 (ix5 b h n s d) = x7 (ix5 0 (page x8 b ⟨2 * n.val + s.val / 128, by omega⟩) ⟨s.val % 128, Nat.mod_lt _ (by decide)⟩ h d) := by
  have hb := b.isLt
  have hh := h.isLt
  have hn := n.isLt
  have hs := s.isLt
  have hd := d.isLt
  have e36 : idx_main_v36 (ix5 b h n s d) = ix5 b n s h d := by
    funext a
    match a with
    | ⟨0, _⟩ => rfl
    | ⟨1, _⟩ => rfl
    | ⟨2, _⟩ => rfl
    | ⟨3, _⟩ => rfl
    | ⟨4, _⟩ => rfl
  have e35 : idx_main_v35 (ix5 b n s h d) = ix4 b ⟨256 * n.val + s.val, by omega⟩ h d := by
    funext a
    apply Fin.ext
    match a with
    | ⟨0, _⟩ => show ((((b.val * 64 + n.val) * 256 + s.val) * 8 + h.val) * 64 + d.val) / 8388608 = b.val; omega
    | ⟨1, _⟩ => show ((((b.val * 64 + n.val) * 256 + s.val) * 8 + h.val) * 64 + d.val) / 512 % 16384 = 256 * n.val + s.val; omega
    | ⟨2, _⟩ => show ((((b.val * 64 + n.val) * 256 + s.val) * 8 + h.val) * 64 + d.val) / 64 % 8 = h.val; omega
    | ⟨3, _⟩ => show ((((b.val * 64 + n.val) * 256 + s.val) * 8 + h.val) * 64 + d.val) % 64 = d.val; omega
  have e34 : idx_main_v34 (ix4 b ⟨256 * n.val + s.val, by omega⟩ h d) = ix5 b ⟨2 * n.val + s.val / 128, by omega⟩ ⟨s.val % 128, Nat.mod_lt _ (by decide)⟩ h d := by
    funext a
    apply Fin.ext
    match a with
    | ⟨0, _⟩ => show (((b.val * 16384 + (256 * n.val + s.val)) * 8 + h.val) * 64 + d.val) / 8388608 = b.val; omega
    | ⟨1, _⟩ => show (((b.val * 16384 + (256 * n.val + s.val)) * 8 + h.val) * 64 + d.val) / 65536 % 128 = 2 * n.val + s.val / 128; omega
    | ⟨2, _⟩ => show (((b.val * 16384 + (256 * n.val + s.val)) * 8 + h.val) * 64 + d.val) / 512 % 128 = s.val % 128; omega
    | ⟨3, _⟩ => show (((b.val * 16384 + (256 * n.val + s.val)) * 8 + h.val) * 64 + d.val) / 64 % 8 = h.val; omega
    | ⟨4, _⟩ => show (((b.val * 16384 + (256 * n.val + s.val)) * 8 + h.val) * 64 + d.val) % 64 = d.val; omega
  rw [val_main_v36_apply, e36, val_main_v35_apply, e35, val_main_v34_apply, e34]
  unfold val_main_v33
  rw [gather_keys, val_main_v26_apply]
  have hp := hw (ix2 b ⟨2 * n.val + s.val / 128, by omega⟩)
  refine congrArg x7 ?_
  have hv : min (val_main_v32 (F := Ideal) x8 (ix3 b ⟨2 * n.val + s.val / 128, by omega⟩ 0)).toInt.toNat 5119 = (page x8 b ⟨2 * n.val + s.val / 128, by omega⟩).val := by
    rw [word_at x8 hw]
    unfold page
    rw [BitVec.toInt_eq_toNat_of_lt (by omega), Int.toNat_natCast]
    show min _ 5119 = _ % 5120
    omega
  generalize (page x8 b ⟨2 * n.val + s.val / 128, by omega⟩) = P at hv ⊢
  have hP := P.isLt
  funext a
  apply Fin.ext
  match a with
  | ⟨0, _⟩ => rfl
  | ⟨1, _⟩ => show (((min (val_main_v32 (F := Ideal) x8 (ix3 b ⟨2 * n.val + s.val / 128, _⟩ 0)).toInt.toNat 5119 * 128 + s.val % 128) * 8 + h.val) * 64 + d.val) / 65536 % 5120 = P.val; rw [hv]; omega
  | ⟨2, _⟩ => show (((min (val_main_v32 (F := Ideal) x8 (ix3 b ⟨2 * n.val + s.val / 128, _⟩ 0)).toInt.toNat 5119 * 128 + s.val % 128) * 8 + h.val) * 64 + d.val) / 512 % 128 = s.val % 128; rw [hv]; omega
  | ⟨3, _⟩ => show (((min (val_main_v32 (F := Ideal) x8 (ix3 b ⟨2 * n.val + s.val / 128, _⟩ 0)).toInt.toNat 5119 * 128 + s.val % 128) * 8 + h.val) * 64 + d.val) / 64 % 8 = h.val; rw [hv]; omega
  | ⟨4, _⟩ => show (((min (val_main_v32 (F := Ideal) x8 (ix3 b ⟨2 * n.val + s.val / 128, _⟩ 0)).toInt.toNat 5119 * 128 + s.val % 128) * 8 + h.val) * 64 + d.val) % 64 = d.val; rw [hv]; omega

/-- The word of the block length. -/
theorem word256 : (FloatOps.ofBits (F := Ideal) FTy.f32 1132462080#32 : EReal) = ((256 : ℝ) : EReal) := by
  show Ideal.ofBits .f32 1132462080#32 = _
  simp [Ideal.ofBits, Ideal.ieee]
  rw [← EReal.coe_mul]
  congr 1
  norm_num

/-- The word of zero. -/
theorem word0 : (FloatOps.ofBits (F := Ideal) FTy.f32 0#32 : EReal) = 0 := Ideal.ofBits_zero_f32

/-- A block's score in the reference: the query row times the keys' mean, times the block length. -/
theorem score_at (hw : ∀ j, (x8 j).toNat < 5120) (b : Fin 32) (h : Fin 8) (n : Fin 64) :
    val_main_v43 (F := Ideal) x7 x8 x9 (ix3 b h n)
      = ((256 : ℝ) : EReal) * ∑ d : Fin 64, x9 (ix2 b ⟨64 * h.val + d.val, by omega⟩)
          * Ideal.div (∑ s : Fin 256, x7 (ix5 0 (page x8 b ⟨2 * n.val + s.val / 128, by omega⟩) ⟨s.val % 128, Nat.mod_lt _ (by decide)⟩ h d)) ((256 : ℝ) : EReal) := by
  rw [val_main_v43_apply, val_main_v42_apply, val_main_cst_5_apply, word256, val_main_v41_apply]
  show _ * _ = _ * _
  congr 1
  refine Finset.sum_congr rfl fun d _ => ?_
  have el : lidx_main_v41 (ix3 b h n) d = ix3 b h d := by
    funext a
    match a with
    | ⟨0, _⟩ => rfl
    | ⟨1, _⟩ => rfl
    | ⟨2, _⟩ => rfl
  have er : ridx_main_v41 (ix3 b h n) d = ix4 b h n d := by
    funext a
    match a with
    | ⟨0, _⟩ => rfl
    | ⟨1, _⟩ => rfl
    | ⟨2, _⟩ => rfl
    | ⟨3, _⟩ => rfl
  have e40 : idx_main_v40 (ix3 b h d) = ix2 b ⟨64 * h.val + d.val, by omega⟩ := by
    have hh := h.isLt
    have hd := d.isLt
    funext a
    apply Fin.ext
    match a with
    | ⟨0, _⟩ => show ((b.val * 8 + h.val) * 64 + d.val) / 512 = b.val; omega
    | ⟨1, _⟩ => show ((b.val * 8 + h.val) * 64 + d.val) % 512 = 64 * h.val + d.val; omega
  rw [el, er, val_main_v40_apply, e40, val_main_v39_apply, val_main_v38_apply, val_main_cst_4_apply, word256, val_main_v37_apply, val_main_cst_3_apply, word0, zero_add]
  show _ * Ideal.div _ _ = _ * Ideal.div _ _
  congr 2
  refine Finset.sum_congr rfl fun s _ => ?_
  have es : idx_main_v37 (ix4 b h n d) s = ix5 b h n s d := by
    funext a
    match a with
    | ⟨0, _⟩ => rfl
    | ⟨1, _⟩ => rfl
    | ⟨2, _⟩ => rfl
    | ⟨3, _⟩ => rfl
    | ⟨4, _⟩ => rfl
  rw [es, key_at x7 x8 hw]

/-- A sum over the coordinates of a head, taken by eights. -/
theorem sum_eights (g : Fin 64 → ℝ) : ∑ y : Fin 8, ∑ x : Fin 8, g ⟨8 * x.val + y.val, by omega⟩ = ∑ d : Fin 64, g d := by
  rw [Finset.sum_comm]
  have e := (finProdFinEquiv (m := 8) (n := 8)).sum_comp (fun d : Fin (8 * 8) => g d)
  refine Eq.trans ?_ e
  rw [Fintype.sum_prod_type]
  refine Finset.sum_congr rfl fun x _ => Finset.sum_congr rfl fun y _ => congrArg g (Fin.ext ?_)
  show 8 * x.val + y.val = y.val + 8 * x.val
  omega

/-- A sum over the keys of a block, taken page by page. -/
theorem sum_pages (g : Fin 256 → ℝ) : ∑ s : Fin 256, g s = ∑ l : Fin 128, (g ⟨l.val, by omega⟩ + g ⟨128 + l.val, by omega⟩) := by
  rw [Finset.sum_add_distrib]
  exact Fin.sum_univ_add (fun s : Fin (128 + 128) => g s)

/-- On real numbers, the query times the mean times the length is the sum of the query times the keys. -/
theorem mean_real (K : Fin 256 → Fin 64 → ℝ) (Q : Fin 64 → ℝ) : 256 * ∑ d : Fin 64, Q d * ((∑ s : Fin 256, K s d) * (1 / 256))
    = ∑ l : Fin 128, ∑ y : Fin 8, ∑ x : Fin 8, (K ⟨l.val, by omega⟩ ⟨8 * x.val + y.val, by omega⟩ + K ⟨128 + l.val, by omega⟩ ⟨8 * x.val + y.val, by omega⟩) * Q ⟨8 * x.val + y.val, by omega⟩ := by
  have h1 : ∀ l : Fin 128, ∑ y : Fin 8, ∑ x : Fin 8, (K ⟨l.val, by omega⟩ ⟨8 * x.val + y.val, by omega⟩ + K ⟨128 + l.val, by omega⟩ ⟨8 * x.val + y.val, by omega⟩) * Q ⟨8 * x.val + y.val, by omega⟩
      = ∑ d : Fin 64, (K ⟨l.val, by omega⟩ d + K ⟨128 + l.val, by omega⟩ d) * Q d :=
    fun l => sum_eights (fun d => (K ⟨l.val, by omega⟩ d + K ⟨128 + l.val, by omega⟩ d) * Q d)
  rw [Finset.sum_congr rfl fun l _ => h1 l, Finset.sum_comm, Finset.mul_sum]
  refine Finset.sum_congr rfl fun d _ => ?_
  rw [← Finset.sum_mul, ← sum_pages (fun s => K s d)]
  ring

/-- A sum of real numbers in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On finite keys and queries the reference's block score is the kernel's. -/
theorem score_eq (hw : ∀ j, (x8 j).toNat < 5120) (h7 : ∀ j, ∃ r : ℝ, x7 j = (r : EReal)) (h9 : ∀ j, ∃ r : ℝ, x9 j = (r : EReal)) (b : Fin 32) (h : Fin 8) (n : Fin 64) :
    val_main_v43 (F := Ideal) x7 x8 x9 (ix3 b h n) = blkScore x7 x8 x9 b h n := by
  obtain ⟨k7, e7⟩ := Classical.axiom_of_choice h7
  obtain ⟨k9, e9⟩ := Classical.axiom_of_choice h9
  rw [score_at x7 x8 x9 hw]
  unfold blkScore
  simp only [e7, e9, coe_sum, ← EReal.coe_add, ← EReal.coe_mul, Ideal.div_coe (show (256 : ℝ) ≠ 0 by norm_num)]
  refine congrArg (fun r : ℝ => (r : EReal)) ?_
  refine (mean_real (fun s d => k7 (ix5 0 (page x8 b ⟨2 * n.val + s.val / 128, by omega⟩) ⟨s.val % 128, Nat.mod_lt _ (by decide)⟩ h d)) (fun d => k9 (ix2 b ⟨64 * h.val + d.val, by omega⟩))).trans ?_
  refine Finset.sum_congr rfl fun l _ => Finset.sum_congr rfl fun y _ => Finset.sum_congr rfl fun x _ => ?_
  have hl := l.isLt
  have p1 : (⟨2 * n.val + l.val / 128, by omega⟩ : Fin 128) = ⟨2 * n.val, by omega⟩ := Fin.ext (by show 2 * n.val + l.val / 128 = 2 * n.val; omega)
  have p2 : (⟨2 * n.val + (128 + l.val) / 128, by omega⟩ : Fin 128) = ⟨2 * n.val + 1, by omega⟩ := Fin.ext (by show 2 * n.val + (128 + l.val) / 128 = 2 * n.val + 1; omega)
  have q1 : (⟨l.val % 128, Nat.mod_lt _ (by decide)⟩ : Fin 128) = l := Fin.ext (by show l.val % 128 = l.val; omega)
  have q2 : (⟨(128 + l.val) % 128, Nat.mod_lt _ (by decide)⟩ : Fin 128) = l := Fin.ext (by show (128 + l.val) % 128 = l.val; omega)
  have q3 : (⟨64 * h.val + (8 * x.val + y.val), by omega⟩ : Fin 512) = ⟨64 * h.val + 8 * x.val + y.val, by omega⟩ := Fin.ext (by show 64 * h.val + (8 * x.val + y.val) = 64 * h.val + 8 * x.val + y.val; omega)
  show (k7 (ix5 0 (page x8 b ⟨2 * n.val + l.val / 128, _⟩) ⟨l.val % 128, _⟩ h ⟨8 * x.val + y.val, _⟩) + k7 (ix5 0 (page x8 b ⟨2 * n.val + (128 + l.val) / 128, _⟩) ⟨(128 + l.val) % 128, _⟩ h ⟨8 * x.val + y.val, _⟩)) * k9 (ix2 b ⟨64 * h.val + (8 * x.val + y.val), _⟩) = _
  rw [p1, p2, q1, q2, q3]

/-- On finite keys and queries the reference's score array is the kernel's. -/
theorem v44 (hw : ∀ j, (x8 j).toNat < 5120) (h7 : ∀ j, ∃ r : ℝ, x7 j = (r : EReal)) (h9 : ∀ j, ∃ r : ℝ, x9 j = (r : EReal)) :
    val_main_v44 (F := Ideal) x7 x8 x9 = sVal x7 x8 x9 := by
  refine funext fun (i : S32x8x128.Idx) => ?_
  unfold val_main_v44 sVal
  by_cases hl : (i 2).val < 64
  · rw [dif_pos hl]
    refine (pad_apply_of_inside _ _ _ _ _ _ _ _ (ix3 (i 0) (i 1) ⟨(i 2).val, hl⟩) ?_).trans (score_eq x7 x8 x9 hw h7 h9 (i 0) (i 1) ⟨(i 2).val, hl⟩)
    intro a
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · rw [dif_neg hl]
    refine (pad_apply_of_not_inside _ _ _ _ _ _ _ i (2 : Fin 3) ?_).trans ?_
    · intro hq
      have h2 : ((i 2).val - 0) / (0 + 1) < 64 := hq.2.2
      omega
    · rw [val_main_call1_v0_apply, val_main_c_6_apply]
      show (((0#32 : BitVec 32).toInt : ℝ) : EReal) = 0
      simp

end Cert.MoeRefIdeal.RefValue

end
-- ==== Proof.MoeVal.lean ====
/- The expert-and-key-sum call computes what its reference computes: the expert sums always, the block scores when the
   cached keys and the queries are finite. -/
module

public import proofs.«01_k».proof.Defs
public import proofs.«01_k».proof.Proof.MoeOk
public import proofs.«01_k».proof.Proof.MoeFrame
public import proofs.«01_k».proof.Proof.MoeYV
public import proofs.«01_k».proof.Proof.MoeScV
public import proofs.«01_k».proof.Proof.MoeRefY
public import proofs.«01_k».proof.Proof.MoeRefSc
public import proofs.«01_k».proof.Proof.PreKeys

@[expose] public section

set_option maxRecDepth 16384

noncomputable section

open Idealize.ShloMosaic Idealize.ShloMosaic.TcCoe Idealize.SL.Sem
open Idealize.ShloMosaic.Pipeline (Dat)

namespace Cert.MoeIdeal.Val

open Cert.MoeIdeal Cert.MoeIdeal.Gen Cert.MoeIdeal.Body

/-! ## What the precondition says -/

/-- The table's words from the predicate `keys_ok`. -/
theorem words_of_keys (a0 a1 a2 a3 a4 a5 a6 a7) (a8 : IVec Cert.Pre_keys_ok.S32x128 32) (a9)
    (h : Cert.Pre_keys_ok.fn (F := Ideal) a0 a1 a2 a3 a4 a5 a6 a7 a8 a9 = fun _ => 1#1) (j) : (a8 j).toNat < 5120 := by
  have e := congrFun h (fun k => k.elim0)
  unfold Cert.Pre_keys_ok.fn at e
  exact pages_of_all a8 _ _ _ _ _ _ (fun _ => rfl) (fun _ => rfl) (IntOp.andi_eq_one.1 (IntOp.andi_eq_one.1 e).1).1 j

/-- An ideal number whose absolute value is below `+∞` is a real number. -/
theorem real_of_abs (x : EReal) (e : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at e
  have hl : max x (-x) < ⊤ := by
    by_contra hn
    simp [Ideal.cmp, hn] at e
  have h1 : x < ⊤ := lt_of_le_of_lt (le_max_left _ _) hl
  have h2 : -x < ⊤ := lt_of_le_of_lt (le_max_right _ _) hl
  have h3 : x ≠ ⊥ := fun hb => by rw [hb, EReal.neg_bot] at h2; exact lt_irrefl _ h2
  exact ⟨x.toReal, (EReal.coe_toReal h1.ne h3).symm⟩

/-- `jnp.all` of the comparisons of the absolute values with `+∞` says that every entry is a real number. -/
theorem reals_of_all {S : Shape} {u t : Shape} {axes : List (Fin S.rank)} [Subsingleton t.Idx] (x : FVec Ideal S .f32) (l : FVec Ideal S .f32) (h : S.ReducesTo axes t)
    (hu : 0 < u.numel) (init : IVec u 1) (j : t.Idx) (hl : ∀ i, l i = FloatOps.ofBits .f32 0x7F800000#32)
    (e : Host.reduce IntOp.andi (cmpf .olt (Host.absf x) l) init h hu j = 1#1) (i : S.Idx) : ∃ r : ℝ, x i = r := by
  have e1 : FloatOps.cmpf .olt (FloatOps.hostAbsf (x i)) (l i) = 1#1 := Host.reduce_andi_all _ _ _ _ j e i
  rw [hl] at e1
  exact real_of_abs _ e1

/-- The cached keys are real numbers under `keys_ok`. -/
theorem keys_real (a0 a1 a2 a3 a4 a5 a6) (a7 : FVec Ideal Cert.Pre_keys_ok.S1x5120x128x8x64 .f32) (a8 a9)
    (h : Cert.Pre_keys_ok.fn (F := Ideal) a0 a1 a2 a3 a4 a5 a6 a7 a8 a9 = fun _ => 1#1) (j) : ∃ r : ℝ, a7 j = r := by
  have e := congrFun h (fun k => k.elim0)
  unfold Cert.Pre_keys_ok.fn at e
  exact reals_of_all a7 _ _ _ _ _ (fun _ => rfl) (IntOp.andi_eq_one.1 (IntOp.andi_eq_one.1 e).1).2 j

/-- The queries are real numbers under `keys_ok`. -/
theorem queries_real (a0 a1 a2 a3 a4 a5 a6 a7 a8) (a9 : FVec Ideal Cert.Pre_keys_ok.S32x512 .f32)
    (h : Cert.Pre_keys_ok.fn (F := Ideal) a0 a1 a2 a3 a4 a5 a6 a7 a8 a9 = fun _ => 1#1) (j) : ∃ r : ℝ, a9 j = r := by
  have e := congrFun h (fun k => k.elim0)
  unfold Cert.Pre_keys_ok.fn at e
  exact reals_of_all a9 _ _ _ _ _ (fun _ => rfl) (IntOp.andi_eq_one.1 e).2 j

variable (m : (ℓ : Loc nD τ sig) → Buf (Elt Ideal) ℓ) (ρ : Dev nD → PrngReg)

/-- The page table of the launch memory is sound under `keys_ok`. -/
theorem ok_keys (h : Cert.Pre_MoeIdeal_keys_ok m) : Ok m :=
  ok_of_table m fun j => words_of_keys _ _ _ _ _ _ _ _ _ _ (h 0) j

/-- Every word a step loads is a page of the cache. -/
theorem words_lt (h : ∀ j : S32x128.Idx, BitVec.toNat (m ((((0 : Dev nD)).tc : Thread nD τ).loc main_arg8) j) < 5120) (i r) :
    (word (tbl m) i r).toNat < 5120 := by
  show BitVec.toNat (tbl m 0 _) < 5120
  unfold tbl
  show BitVec.toNat (V m (0 : Dev nD) main_arg8 _) < 5120
  rw [V_main_arg8]
  exact h _

/-! ## The run -/

/-- The call leaves the two arrays and the arguments as they were. -/
theorem run (hO : Ok m) (hw : ∀ i r, (word (tbl m) i r).toNat < 5120) :
    θ_run defs (onTc (τ := τ) (main (F := Ideal))) ⟨m, fun _ => 0, ρ⟩ (fun r => ∀ c : Dev nD,
      r.2.mem ((c.tc : Thread nD τ).loc main_v12_0) = yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v12_1) = scArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.2 c).1 39).trans (y_array m hO c), ((h.2 c).1 40).trans (sc_array m hO c hw), h.1 c⟩)
    (θ_run_and (unchanged m ρ hO) (run_main m ρ hO))

end Cert.MoeIdeal.Val

/-! ## The claim -/

namespace Cert.MoeRefIdeal.RefValue

open Cert.MoeRefIdeal Cert.MoeRefIdeal.Gen Cert.MoeRefIdeal.Read

/-- The kernel's expert sums and block scores are the reference's. -/
theorem algebraic : Cert.algebraic_MoeIdeal_MoeRefIdeal_pre_keys_ok := by
  intro m g m' g' hpre hin
  have h8 := fun c => Cert.MoeIdeal.Val.words_of_keys _ _ _ _ _ _ _ _ _ _ (hpre c)
  have h7 := fun c => Cert.MoeIdeal.Val.keys_real _ _ _ _ _ _ _ _ _ _ (hpre c)
  have h9 := fun c => Cert.MoeIdeal.Val.queries_real _ _ _ _ _ _ _ _ _ _ (hpre c)
  refine ⟨_, _, Cert.MoeIdeal.Val.run m g (Cert.MoeIdeal.Val.ok_keys m hpre) (Cert.MoeIdeal.Val.words_lt m (h8 0)),
    (θ_run _ _ _).mono (fun r h c => ?_) (Cert.MoeRefIdeal.Value.run (F := Ideal) m' g')⟩
  obtain ⟨hy, hs, hr⟩ := h c
  obtain ⟨e0, e1, e2, e3, e4, e5, e6, e7, e8, e9⟩ := hin c
  obtain rfl : c = 0 := Subsingleton.elim _ _
  refine ⟨hy.trans ((val_main_v25_eq m' 0).trans ?_), hs.trans ((val_main_v44_eq (F := Ideal) _ _ _).trans ?_), hr⟩
  · rw [e0, e1, e2, e3, e4, e5, e6]
    exact v25 _ _ _ _ _ _ _
  · rw [e7, e8, e9]
    exact v44 _ _ _ (h8 0) (h7 0) (h9 0)

end Cert.MoeRefIdeal.RefValue

end
-- ==== Proof.InsReal.lean ====
/- Under a finite gain, every number of an RMS-normalised row is a real number, whatever the row: a row with an infinite
   entry is scaled by zero. -/
module

public import proofs.«01_k».proof.Proof.Spec

@[expose] public section

noncomputable section

namespace Cert.Spec

open Idealize.ShloMosaic

/-- A square is not negative. -/
theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A number whose square is not `+∞` is real. -/
theorem real_of_sq (x : EReal) (h : x * x ≠ ⊤) : ∃ r : ℝ, x = r := by
  induction x with
  | bot => exact absurd EReal.bot_mul_bot h
  | top => exact absurd EReal.top_mul_top h
  | coe r => exact ⟨r, rfl⟩

/-- The count under the mean. -/
theorem cnt_eq : Ideal.ofBits FTy.f32 1149239296#32 = ((1024 : ℝ) : EReal) := by
  have h : Ideal.ofBits FTy.f32 1149239296#32 = ((8388608 * (2 : ℝ) ^ (-13 : ℤ) : ℝ) : EReal) := by
    simp [Ideal.ofBits, Ideal.ieee]
  rw [h]
  norm_num

/-- The stabilising constant is a positive real number. -/
theorem eps_pos : ∃ e : ℝ, 0 < e ∧ Ideal.ofBits FTy.f32 897988541#32 = (e : EReal) := by
  have h : Ideal.ofBits FTy.f32 897988541#32 = ((8796093 * (2 : ℝ) ^ (-43 : ℤ) : ℝ) : EReal) := by
    simp [Ideal.ofBits, Ideal.ieee]
  exact ⟨_, by positivity, h⟩

/-- A normalised row under real gains is real. -/
theorem rms_real (x g : Fin 1024 → EReal) (hg : ∀ k, ∃ r : ℝ, g k = r) (k : Fin 1024) : ∃ r : ℝ, rms x g k = r := by
  obtain ⟨b, hb⟩ := hg k
  obtain ⟨e, he, hE⟩ := eps_pos
  have hS : 0 ≤ ∑ k, x k * x k := Finset.sum_nonneg fun k _ => sq_nonneg (x k)
  suffices ∃ r : ℝ, x k * inv x = r by
    obtain ⟨a, ha⟩ := this
    exact ⟨a * b, by unfold rms; rw [ha, hb, EReal.coe_mul]⟩
  unfold inv
  rw [cnt_eq, hE]
  generalize hs : ∑ k, x k * x k = s at hS
  have hd : Ideal.div s ((1024 : ℝ) : EReal) = s * ((1024⁻¹ : ℝ) : EReal) := by
    unfold Ideal.div
    rw [if_neg (by exact_mod_cast (by norm_num : (1024 : ℝ) ≠ 0)), ← EReal.coe_inv]
  rw [hd]
  induction s with
  | bot => exact absurd hS (by simp)
  | top =>
    refine ⟨0, ?_⟩
    rw [EReal.top_mul_coe_of_pos (by norm_num), EReal.top_add_coe]
    show x k * 0 = 0
    rw [mul_zero]
  | coe s =>
    have hs0 : 0 ≤ s := by exact_mod_cast hS
    obtain ⟨a, ha⟩ := real_of_sq (x k) fun ht => by
      have h1 : x k * x k ≤ ∑ k, x k * x k := Finset.single_le_sum (f := fun k => x k * x k) (fun k _ => sq_nonneg (x k)) (Finset.mem_univ k)
      rw [ht, hs] at h1
      exact absurd h1 (by simp)
    rw [← EReal.coe_mul, ← EReal.coe_add, ha]
    have hp : 0 < s * 1024⁻¹ + e := by positivity
    refine ⟨a * (Real.sqrt (s * 1024⁻¹ + e))⁻¹, ?_⟩
    rw [EReal.coe_mul]
    congr 1
    show (if s * 1024⁻¹ + e < 0 then ⊥ else if s * 1024⁻¹ + e = 0 then ⊤ else ((Real.sqrt (s * 1024⁻¹ + e))⁻¹ : ℝ) : EReal) = _
    rw [if_neg (not_lt.2 hp.le), if_neg hp.ne']

end Cert.Spec

end
-- ==== Proof.InsY.lean ====
/- The projection of the sample rows: with a real gain and real weights the parts the kernel splits its operands into beyond
   the first are zero, and its array is the RMS-normalised rows times the columns of the weight matrix, the gate columns
   through a logistic. -/
module

public import proofs.«01_k».proof.Proof.InsReal
public import proofs.«01_k».proof.Proof.Gen.InsIdeal.Value
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.InsIdeal.RefValue

open Cert.InsIdeal Cert.InsIdeal.Gen

/-- One projected number: row `r`, normalised, times column `n` of the weights. -/
def val (x : S32x1x1024.Idx → EReal) (g : S1x1024.Idx → EReal) (w : S1x1024x4096.Idx → EReal) (r : Fin 32) (n : Fin 4096) : EReal :=
  Spec.proj (fun k => x (ix3 r 0 k)) (fun k => g (ix2 0 k)) (fun k => w (ix3 0 k n))

/-- The projected array: columns 2048 to 3071 through a logistic, the others plain. -/
def res (x : S32x1x1024.Idx → EReal) (g : S1x1024.Idx → EReal) (w : S1x1024x4096.Idx → EReal) (i : S32x4096.Idx) : EReal :=
  if 2048 ≤ (i 1).val ∧ (i 1).val < 3072 then Ideal.logistic (val x g w (i 0) (i 1)) else val x g w (i 0) (i 1)

/-- The normalised rows. -/
theorem pay3_apply (v1 : Vec Ideal S32x1024 .f32) (v3 : Vec Ideal S1x1024 .f32) (r : Fin 32) (k : Fin 1024) :
    k0_pay3 v1 v3 (ix2 r k) = Spec.rms (fun k => v1 (ix2 r k)) (fun k => v3 (ix2 0 k)) k := by
  unfold_payloads
  pointwise
  rfl

/-- The weights' block as read. -/
theorem pay4_apply (v : Vec Ideal S1024x512 .f32) (k : Fin 1024) (n : Fin 512) : k0_pay4 v (ix2 k n) = v (ix2 k n) := by
  unfold_payloads
  pointwise

/-- The product of the first parts. -/
theorem pay8_apply (v1 : Vec Ideal S32x1024 .f32) (v3 : Vec Ideal S1x1024 .f32) (v : Vec Ideal S1024x512 .f32) (r : Fin 32) (n : Fin 512) :
    k0_pay8 v1 v3 v (ix2 r n) = ∑ k : Fin 1024, (k0_pay3 v1 v3 (ix2 r k) * k0_pay4 v (ix2 k n) : EReal) := by
  unfold k0_pay8 k0_pay5 k0_pay6
  generalize k0_pay3 v1 v3 = X
  generalize k0_pay4 v = W
  pointwise [dot_S32x1024_S1024x512_S32x512_1_0_0_1_n_n]

/-- The products of the further parts vanish where both operands are real. -/
theorem pay7_apply (v1 : Vec Ideal S32x1024 .f32) (v3 : Vec Ideal S1x1024 .f32) (v : Vec Ideal S1024x512 .f32) (r : Fin 32) (n : Fin 512)
    (hx : ∀ k, ∃ a : ℝ, k0_pay3 v1 v3 (ix2 r k) = (a : EReal)) (hw : ∀ k, ∃ b : ℝ, k0_pay4 v (ix2 k n) = (b : EReal)) :
    k0_pay7 v1 v3 v (ix2 r n) = (0 : EReal) := by
  choose a ha using hx
  choose b hb using hw
  unfold k0_pay7 k0_pay5 k0_pay6
  generalize k0_pay3 v1 v3 = X at ha
  generalize k0_pay4 v = W at hb
  pointwise [dot_S32x1024_S1024x512_S32x512_1_0_0_1_n_n]
  simp only [ha, hb, ← EReal.coe_sub, sub_self, EReal.coe_zero, sub_zero, zero_mul, mul_zero, Finset.sum_const_zero, add_zero]

/-- What a plain block's step stores. -/
theorem sum_apply (v1 : Vec Ideal S32x1024 .f32) (v3 : Vec Ideal S1x1024 .f32) (v : Vec Ideal S1024x512 .f32) (r : Fin 32) (n : Fin 512)
    (hg : ∀ k, ∃ a : ℝ, v3 (ix2 0 k) = (a : EReal)) (hw : ∀ k, ∃ b : ℝ, v (ix2 k n) = (b : EReal)) :
    k0_pay1 (k0_pay7 v1 v3 v) (k0_pay8 v1 v3 v) (ix2 r n)
      = Spec.proj (fun k => v1 (ix2 r k)) (fun k => v3 (ix2 0 k)) (fun k => v (ix2 k n)) := by
  show (k0_pay7 v1 v3 v (ix2 r n) : EReal) + k0_pay8 v1 v3 v (ix2 r n) = _
  rw [pay7_apply v1 v3 v r n (fun k => by rw [pay3_apply]; exact Spec.rms_real _ _ hg k) (fun k => by rw [pay4_apply]; exact hw k), pay8_apply, zero_add]
  unfold Spec.proj
  exact Finset.sum_congr rfl fun k _ => by rw [pay3_apply, pay4_apply]

/-- What a gate block's step stores is the logistic of it. -/
theorem pay2_apply (p q : FVec Ideal S32x512 .f32) (i : S32x512.Idx) : k0_pay2 p q i = Ideal.logistic (k0_pay1 p q i) := rfl

/-- The batch's rows without the unit axis. -/
theorem rows_apply (x : S32x1x1024.Idx → EReal) (h : S32x1x1024.ShapeCasts S32x1024) (r : Fin 32) (k : Fin 1024) :
    shapeCast S32x1024 x h (ix2 r k) = x (ix3 r 0 k) := by
  refine shapeCast_apply _ _ _ _ ?_
  rewrite [Shape.rowMajor_val_three, Shape.rowMajor_val_two]
  show (r.val * 1 + 0) * 1024 + k.val = r.val * 1024 + k.val
  omega

/-- A row flattened and laid as a row again. -/
theorem gain_apply (x : S1x1024.Idx → EReal) (h : S1x1024.ShapeCasts S1024) (h' : S1024.ShapeCasts S1x1024) (k : Fin 1024) :
    shapeCast S1x1024 (shapeCast S1024 x h) h' (ix2 0 k) = x (ix2 0 k) := by
  refine (shapeCast_apply _ _ _ (ix1 k) ?_).trans (shapeCast_apply _ _ _ _ ?_) <;>
  · rewrite [Shape.rowMajor_val_one, Shape.rowMajor_val_two]
    simp [ix1, ix2]

/-- The one layer's weight matrix. -/
theorem weight_apply (x : S1x1024x4096.Idx → EReal) (h : S1x1024x4096.ShapeCasts S1024x4096) (k : Fin 1024) (n : Fin 4096) :
    shapeCast S1024x4096 x h (ix2 k n) = x (ix3 0 k n) := by
  refine shapeCast_apply _ _ _ _ ?_
  rewrite [Shape.rowMajor_val_three, Shape.rowMajor_val_two]
  show (0 * 1024 + k.val) * 4096 + n.val = k.val * 4096 + n.val
  omega

variable (m : (ℓ : Loc nD τ sig) → Buf (Elt Ideal) ℓ) (ρ : Dev nD → PrngReg)

/-- The rows the kernel reads are the argument's. -/
theorem V0 (c : Dev nD) (r : Fin 32) (k : Fin 1024) : (V m c main_v0 : S32x1024.Idx → EReal) (ix2 r k)
    = (m ((c : Thread nD τ).loc main_arg0) : S32x1x1024.Idx → EReal) (ix3 r 0 k) := by
  have h : V m c main_v0 = shapeCast _ (m ((c : Thread nD τ).loc main_arg0)) shapeCasts_S32x1x1024_S32x1024 := by
    unfold V; after_results <;> rfl
  rw [h]
  exact rows_apply _ _ r k

/-- The gain row the kernel reads is the argument's. -/
theorem V2 (c : Dev nD) (k : Fin 1024) : (V m c main_v2 : S1x1024.Idx → EReal) (ix2 0 k)
    = (m ((c : Thread nD τ).loc main_arg1) : S1x1024.Idx → EReal) (ix2 0 k) := by
  have h : V m c main_v2 = shapeCast _ (shapeCast _ (m ((c : Thread nD τ).loc main_arg1)) shapeCasts_S1x1024_S1024) shapeCasts_S1024_S1x1024 := by
    unfold V; after_results <;> rfl
  rw [h]
  exact gain_apply _ _ _ k

/-- The weight matrix the kernel reads is the argument's. -/
theorem V3 (c : Dev nD) (k : Fin 1024) (n : Fin 4096) : (V m c main_v3 : S1024x4096.Idx → EReal) (ix2 k n)
    = (m ((c : Thread nD τ).loc main_arg2) : S1x1024x4096.Idx → EReal) (ix3 0 k n) := by
  have h : V m c main_v3 = shapeCast _ (m ((c : Thread nD τ).loc main_arg2)) shapeCasts_S1x1024x4096_S1024x4096 := by
    unfold V; after_results <;> rfl
  rw [h]
  exact weight_apply _ _ k n

/-- Where the blocks lie: rows and gain stay, the weights' and the output's blocks walk along the columns. -/
theorem idxs : ∀ t : Fin cfg0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val)

theorem tlt (t : Fin cfg0.N) : t.val < 8 := lt_of_lt_of_eq t.isLt N_0

/-- The rows' block: all of them. -/
theorem blk0 (c : Dev nD) (t : Fin cfg0.N) (r : Fin 32) (k : Fin 1024) : (iblk m c 0 t : S32x1024.Idx → EReal) (ix2 r k)
    = (m ((c : Thread nD τ).loc main_arg0) : S32x1x1024.Idx → EReal) (ix3 r 0 k) := by
  refine Eq.trans ?_ (V0 m c r k)
  have hi := idxs t
  unfold iblk
  rw [View.read_apply]
  show V m c main_v0 _ = V m c main_v0 _
  congr 1
  funext a
  apply Fin.ext
  match a with
  | ⟨0, _⟩ => show win0_0.index t 0 * 32 + 1 * r.val = r.val; rw [hi.1]; omega
  | ⟨1, _⟩ => show win0_0.index t 1 * 1024 + 1 * k.val = k.val; rw [hi.2.1]; omega

/-- The gain's block: the whole row. -/
theorem blk1 (c : Dev nD) (t : Fin cfg0.N) (k : Fin 1024) : (iblk m c 1 t : S1x1024.Idx → EReal) (ix2 0 k)
    = (m ((c : Thread nD τ).loc main_arg1) : S1x1024.Idx → EReal) (ix2 0 k) := by
  refine Eq.trans ?_ (V2 m c k)
  have hi := idxs t
  unfold iblk
  rw [View.read_apply]
  show V m c main_v2 _ = V m c main_v2 _
  congr 1
  funext a
  apply Fin.ext
  match a with
  | ⟨0, _⟩ => show win0_1.index t 0 * 1 + 1 * 0 = 0; rw [hi.2.2.1]
  | ⟨1, _⟩ => show win0_1.index t 1 * 1024 + 1 * k.val = k.val; rw [hi.2.2.2.1]; omega

/-- Block `t` of the weights: 512 columns. -/
theorem blk2 (c : Dev nD) (t : Fin cfg0.N) (k : Fin 1024) (n : Fin 512) : (iblk m c 2 t : S1024x512.Idx → EReal) (ix2 k n)
    = (m ((c : Thread nD τ).loc main_arg2) : S1x1024x4096.Idx → EReal) (ix3 0 k ⟨t.val * 512 + n.val, by have := tlt t; omega⟩) := by
  refine Eq.trans ?_ (V3 m c k ⟨t.val * 512 + n.val, by have := tlt t; omega⟩)
  have hi := idxs t
  unfold iblk
  rw [View.read_apply]
  show V m c main_v3 _ = V m c main_v3 _
  congr 1
  funext a
  apply Fin.ext
  match a with
  | ⟨0, _⟩ => show win0_2.index t 0 * 1024 + 1 * k.val = k.val; rw [hi.2.2.2.2.1]; omega
  | ⟨1, _⟩ => show win0_2.index t 1 * 512 + 1 * n.val = t.val * 512 + n.val; rw [hi.2.2.2.2.2.1]; omega

/-- What a plain block's step leaves. -/
theorem outs_plain (c : Dev nD) (t : Fin cfg0.N) (h : ¬(4 ≤ t.val % 8 ∧ t.val % 8 ≤ 5)) :
    outsAt0 m c t.val t.isLt = k0_pay1 (k0_pay7 (iblk m c 0 t) (iblk m c 1 t) (iblk m c 2 t)) (k0_pay8 (iblk m c 0 t) (iblk m c 1 t) (iblk m c 2 t)) := by
  rw [outsAt0_A m c t h h]
  frame_out
  try rfl

/-- What a gate block's step leaves. -/
theorem outs_gate (c : Dev nD) (t : Fin cfg0.N) (h : 4 ≤ t.val % 8 ∧ t.val % 8 ≤ 5) :
    outsAt0 m c t.val t.isLt = k0_pay2 (k0_pay7 (iblk m c 0 t) (iblk m c 1 t) (iblk m c 2 t)) (k0_pay8 (iblk m c 0 t) (iblk m c 1 t) (iblk m c 2 t)) := by
  rw [outsAt0_B m c t h (fun hn => hn h)]
  frame_out
  try rfl

section
variable (hg : ∀ (c : Dev nD) j, ∃ a : ℝ, (m ((c : Thread nD τ).loc main_arg1) : S1x1024.Idx → EReal) j = (a : EReal))
  (hw : ∀ (c : Dev nD) j, ∃ b : ℝ, (m ((c : Thread nD τ).loc main_arg2) : S1x1024x4096.Idx → EReal) j = (b : EReal))
include hg hw

/-- The sum a step forms, at a row and a column of its block. -/
theorem point (c : Dev nD) (t : Fin cfg0.N) (r : Fin 32) (n : Fin 512) :
    k0_pay1 (k0_pay7 (iblk m c 0 t) (iblk m c 1 t) (iblk m c 2 t)) (k0_pay8 (iblk m c 0 t) (iblk m c 1 t) (iblk m c 2 t)) (ix2 r n)
      = val (m ((c : Thread nD τ).loc main_arg0)) (m ((c : Thread nD τ).loc main_arg1)) (m ((c : Thread nD τ).loc main_arg2)) r ⟨t.val * 512 + n.val, by have := tlt t; omega⟩ := by
  refine (sum_apply (iblk m c 0 t) (iblk m c 1 t) (iblk m c 2 t) r n (fun k => ?_) (fun k => ?_)).trans ?_
  · rw [blk1 m c t k]; exact hg c _
  · rw [blk2 m c t k n]; exact hw c _
  · unfold val
    congr 1
    · exact funext fun k => blk0 m c t r k
    · exact funext fun k => blk1 m c t k
    · exact funext fun k => blk2 m c t k n

/-- What point `t` writes back is block `t` of the projected array. -/
theorem flushed_eq (c : Dev nD) (t : Fin cfg0.N) : (dats m 0 c).flushed 3 t = (win0_3.blk t).view.read (Elt Ideal)
    (res (m ((c : Thread nD τ).loc main_arg0)) (m ((c : Thread nD τ).loc main_arg1)) (m ((c : Thread nD τ).loc main_arg2)) : S32x4096.Idx → EReal) := by
  have hi := idxs t
  have ht := tlt t
  rw [Value.flushed3]
  refine funext fun (j : S32x512.Idx) => ?_
  rw [View.read_apply]
  obtain ⟨r, n, rfl⟩ : ∃ (r : Fin 32) (n : Fin 512), j = (ix2 r n : S32x512.Idx) := ⟨j 0, j 1, by funext a; match a with | ⟨0, _⟩ => rfl | ⟨1, _⟩ => rfl⟩
  have e : (win0_3.blk t).view.emb (ix2 r n) = (ix2 r ⟨t.val * 512 + n.val, by omega⟩ : S32x4096.Idx) := by
    funext a
    apply Fin.ext
    match a with
    | ⟨0, _⟩ => show win0_3.index t 0 * 32 + 1 * r.val = r.val; rw [hi.2.2.2.2.2.2.1]; omega
    | ⟨1, _⟩ => show win0_3.index t 1 * 512 + 1 * n.val = t.val * 512 + n.val; rw [hi.2.2.2.2.2.2.2]; omega
  rw [e]
  show outsAt0 m c t.val t.isLt (ix2 r n) = (if 2048 ≤ t.val * 512 + n.val ∧ t.val * 512 + n.val < 3072 then _ else _ : EReal)
  by_cases h : 4 ≤ t.val % 8 ∧ t.val % 8 ≤ 5
  · rw [if_pos (by omega), outs_gate m c t h, pay2_apply, point m hg hw c t r n]
    rfl
  · rw [if_neg (by omega), outs_plain m c t h, point m hg hw c t r n]
    rfl

omit hg hw in
/-- The blocks tile the projected array. -/
theorem cover (i : S32x4096.Idx) : ∃ t : Fin cfg0.N, (cfg0.win 3).flush t = true ∧ i ∈ ((cfg0.win 3).blk t).view.set := by
  have h0 : (i 0).val < 32 := (i 0).isLt
  have h1 : (i 1).val < 4096 := (i 1).isLt
  have hN : cfg0.N = 8 := N_0
  obtain ⟨t, ht⟩ : ∃ t : Fin cfg0.N, t.val = (i 1).val / 512 := ⟨⟨(i 1).val / 512, by omega⟩, rfl⟩
  refine ⟨t, flush0_3 t, ?_⟩
  have hi := idxs t
  show i ∈ ((View.whole main_v4).slice (win0_3.rect t)).set
  rw [View.set_slice_whole, Rect.mem_set_unit]
  intro a
  match a with
  | ⟨0, _⟩ => show win0_3.index t 0 * 32 ≤ (i 0).val ∧ (i 0).val < win0_3.index t 0 * 32 + 32; rw [hi.2.2.2.2.2.2.1]; omega
  | ⟨1, _⟩ => show win0_3.index t 1 * 512 ≤ (i 1).val ∧ (i 1).val < win0_3.index t 1 * 512 + 512; rw [hi.2.2.2.2.2.2.2]; omega

/-- The kernel's run: its array, the arguments unchanged. -/
theorem run : θ_run defs (onTc (τ := τ) (main (F := Ideal))) ⟨m, fun _ => 0, ρ⟩ fun r => ∀ c : Dev nD,
      r.2.mem ((c : Thread nD τ).loc main_v4) = (res (m ((c : Thread nD τ).loc main_arg0)) (m ((c : Thread nD τ).loc main_arg1)) (m ((c : Thread nD τ).loc main_arg2)) : S32x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m hg hw c t) cover), (h c).2⟩) (Value.run_blocks m ρ)

end

end Cert.InsIdeal.RefValue

end
-- ==== Proof.InsVal.lean ====
/- The projection of the sample rows: the reference's array is the same mathematics, its six pieces side by side. -/
module

public import proofs.«01_k».proof.Defs
public import proofs.«01_k».proof.Proof.InsY
public import proofs.«01_k».proof.Proof.MoeVal
public import proofs.«01_k».proof.Proof.Gen.InsRefIdeal.Run
public import proofs.«01_k».proof.Proof.Gen.InsRefIdeal.Read
public import proofs.«01_k».proof.Proof.Gen.Pre_proj_ok

@[expose] public section

noncomputable section

open Idealize.ShloMosaic Idealize.ShloMosaic.TcCoe Idealize.SL.Sem
open Idealize.ShloMosaic.Pipeline (Dat)

namespace Cert.InsRefIdeal.RefValue

open Cert.InsRefIdeal Cert.InsRefIdeal.Gen Cert.InsRefIdeal.Read
open Cert.InsIdeal.RefValue (val res)

variable (x : S32x1x1024.Idx → EReal) (g : S1x1024.Idx → EReal) (w : S1x1024x4096.Idx → EReal)

/-- The gain is real under `proj_ok`. -/
theorem gain_real (a0 a1 a2) (h : Cert.Pre_proj_ok.fn (F := Ideal) a0 a1 a2 = fun _ => 1#1) (j) : ∃ r : ℝ, a1 j = (r : EReal) := by
  have e := congrFun h (fun k => k.elim0)
  unfold Cert.Pre_proj_ok.fn at e
  exact Cert.MoeIdeal.Val.reals_of_all a1 _ _ _ _ _ (fun _ => rfl) (IntOp.andi_eq_one.1 e).1 j

/-- The weights are real under `proj_ok`. -/
theorem weights_real (a0 a1 a2) (h : Cert.Pre_proj_ok.fn (F := Ideal) a0 a1 a2 = fun _ => 1#1) (j) : ∃ r : ℝ, a2 j = (r : EReal) := by
  have e := congrFun h (fun k => k.elim0)
  unfold Cert.Pre_proj_ok.fn at e
  exact Cert.MoeIdeal.Val.reals_of_all a2 _ _ _ _ _ (fun _ => rfl) (IntOp.andi_eq_one.1 e).2 j

/-- The reference's one product, at an index. -/
theorem v15 (r : Fin 32) (o : Fin 1) (n : Fin 4096) : val_main_v15 (F := Ideal) x g w (ix3 r o n) = val x g w r n := by
  obtain rfl : o = 0 := Subsingleton.elim _ _
  pointwise [val_main_v15, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_v14, dot_S32x1x1024_S1024x4096_S32x1x4096_2_0_01_1_n_n]
  rfl

/-- The gate columns of the product. -/
theorem v20 (r : Fin 32) (n : Fin 1024) : val_main_v20 (F := Ideal) x g w (ix3 r 0 n) = val x g w r ⟨2048 + n.val, by omega⟩ := by
  rw [val_main_v20_apply]
  refine Eq.trans (congrArg _ ?_) (v15 x g w r 0 ⟨2048 + n.val, by omega⟩)
  funext a
  match a with
  | ⟨0, _⟩ => rfl
  | ⟨1, _⟩ => rfl
  | ⟨2, _⟩ => rfl

/-- The gate. -/
theorem v27 (r : Fin 32) (n : Fin 1024) : val_main_v27 (F := Ideal) x g w (ix3 r 0 n) = Ideal.logistic (val x g w r ⟨2048 + n.val, by omega⟩) := by
  rw [val_main_v27_apply, val_main_v26_apply, val_main_v25_apply, val_main_v24_apply, val_main_v23_apply, val_main_v22_apply, v20]
  show Ideal.div (Ideal.ofBits .f32 0x3F800000#32) (Ideal.ofBits .f32 0x3F800000#32 + Ideal.exp (-(val x g w r ⟨2048 + n.val, by omega⟩))) = _
  rw [Ideal.ofBits_one_f32]
  rfl

/-- The six pieces side by side. -/
theorem v28 (r : Fin 32) (n : Fin 4096) : val_main_v28 (F := Ideal) x g w (ix3 r 0 n) = res x g w (ix2 r n) := by
  have hn := n.isLt
  unfold val_main_v28
  show _ = (if 2048 ≤ n.val ∧ n.val < 3072 then Ideal.logistic (val x g w r n) else val x g w r n : EReal)
  by_cases h1 : n.val < 512
  · rw [if_neg (by omega)]
    refine (concatenate_apply_piece 2 _ _ (ix3 r 0 n) 0 (by show 0 < 6; decide) S32x1x512 (val_main_v16 (F := Ideal) x g w) rfl rfl 0 rfl (ix3 r 0 ⟨n.val, h1⟩) ?_ ?_).trans ?_
    · intro b hb; match b with | ⟨0, _⟩ => rfl | ⟨1, _⟩ => rfl | ⟨2, _⟩ => exact absurd rfl hb
    · show 0 + n.val = n.val; omega
    rw [val_main_v16_apply]
    refine Eq.trans (congrArg _ ?_) (v15 x g w r 0 n)
    funext a
    match a with | ⟨0, _⟩ => rfl | ⟨1, _⟩ => rfl | ⟨2, _⟩ => rfl
  by_cases h2 : n.val < 1024
  · rw [if_neg (by omega)]
    refine (concatenate_apply_piece 2 _ _ (ix3 r 0 n) 1 (by show 1 < 6; decide) S32x1x512 (val_main_v17 (F := Ideal) x g w) rfl rfl 512 rfl (ix3 r 0 ⟨n.val - 512, by omega⟩) ?_ ?_).trans ?_
    · intro b hb; match b with | ⟨0, _⟩ => rfl | ⟨1, _⟩ => rfl | ⟨2, _⟩ => exact absurd rfl hb
    · show 512 + (n.val - 512) = n.val; omega
    rw [val_main_v17_apply]
    refine Eq.trans (congrArg _ ?_) (v15 x g w r 0 n)
    funext a
    match a with | ⟨0, _⟩ => rfl | ⟨1, _⟩ => rfl | ⟨2, _⟩ => exact Fin.ext (show 512 + (n.val - 512) = n.val by omega)
  by_cases h3 : n.val < 1536
  · rw [if_neg (by omega)]
    refine (concatenate_apply_piece 2 _ _ (ix3 r 0 n) 2 (by show 2 < 6; decide) S32x1x512 (val_main_v18 (F := Ideal) x g w) rfl rfl 1024 rfl (ix3 r 0 ⟨n.val - 1024, by omega⟩) ?_ ?_).trans ?_
    · intro b hb; match b with | ⟨0, _⟩ => rfl | ⟨1, _⟩ => rfl | ⟨2, _⟩ => exact absurd rfl hb
    · show 1024 + (n.val - 1024) = n.val; omega
    rw [val_main_v18_apply]
    refine Eq.trans (congrArg _ ?_) (v15 x g w r 0 n)
    funext a
    match a with | ⟨0, _⟩ => rfl | ⟨1, _⟩ => rfl | ⟨2, _⟩ => exact Fin.ext (show 1024 + (n.val - 1024) = n.val by omega)
  by_cases h4 : n.val < 2048
  · rw [if_neg (by omega)]
    refine (concatenate_apply_piece 2 _ _ (ix3 r 0 n) 3 (by show 3 < 6; decide) S32x1x512 (val_main_v19 (F := Ideal) x g w) rfl rfl 1536 rfl (ix3 r 0 ⟨n.val - 1536, by omega⟩) ?_ ?_).trans ?_
    · intro b hb; match b with | ⟨0, _⟩ => rfl | ⟨1, _⟩ => rfl | ⟨2, _⟩ => exact absurd rfl hb
    · show 1536 + (n.val - 1536) = n.val; omega
    rw [val_main_v19_apply]
    refine Eq.trans (congrArg _ ?_) (v15 x g w r 0 n)
    funext a
    match a with | ⟨0, _⟩ => rfl | ⟨1, _⟩ => rfl | ⟨2, _⟩ => exact Fin.ext (show 1536 + (n.val - 1536) = n.val by omega)
  by_cases h5 : n.val < 3072
  · rw [if_pos (by omega)]
    refine (concatenate_apply_piece 2 _ _ (ix3 r 0 n) 4 (by show 4 < 6; decide) S32x1x1024 (val_main_v27 (F := Ideal) x g w) rfl rfl 2048 rfl (ix3 r 0 ⟨n.val - 2048, by omega⟩) ?_ ?_).trans ?_
    · intro b hb; match b with | ⟨0, _⟩ => rfl | ⟨1, _⟩ => rfl | ⟨2, _⟩ => exact absurd rfl hb
    · show 2048 + (n.val - 2048) = n.val; omega
    rw [v27]
    exact congrArg (fun k => Ideal.logistic (val x g w r k)) (Fin.ext (show 2048 + (n.val - 2048) = n.val by omega))
  · rw [if_neg (by omega)]
    refine (concatenate_apply_piece 2 _ _ (ix3 r 0 n) 5 (by show 5 < 6; decide) S32x1x1024 (val_main_v21 (F := Ideal) x g w) rfl rfl 3072 rfl (ix3 r 0 ⟨n.val - 3072, by omega⟩) ?_ ?_).trans ?_
    · intro b hb; match b with | ⟨0, _⟩ => rfl | ⟨1, _⟩ => rfl | ⟨2, _⟩ => exact absurd rfl hb
    · show 3072 + (n.val - 3072) = n.val; omega
    rw [val_main_v21_apply]
    refine Eq.trans (congrArg _ ?_) (v15 x g w r 0 n)
    funext a
    match a with | ⟨0, _⟩ => rfl | ⟨1, _⟩ => rfl | ⟨2, _⟩ => exact Fin.ext (show 3072 + (n.val - 3072) = n.val by omega)

/-- The reference's array. -/
theorem v29 : val_main_v29 (F := Ideal) x g w = res x g w := by
  funext i
  obtain ⟨r, n, rfl⟩ : ∃ (r : Fin 32) (n : Fin 4096), i = ix2 r n := ⟨i 0, i 1, by funext a; match a with | ⟨0, _⟩ => rfl | ⟨1, _⟩ => rfl⟩
  rw [val_main_v29_apply]
  refine Eq.trans (congrArg _ ?_) (v28 x g w r n)
  funext a
  apply Fin.ext
  match a with
  | ⟨0, _⟩ => show (r.val * 4096 + n.val) / 4096 = r.val; omega
  | ⟨1, _⟩ => rfl
  | ⟨2, _⟩ => show (r.val * 4096 + n.val) % 4096 = n.val; omega

/-- The two programs' arrays agree where the gain and the weights are finite. -/
theorem algebraic : Cert.algebraic_InsIdeal_InsRefIdeal_pre_proj_ok := by
  intro m g m' g' hpre hin
  refine ⟨_, Cert.InsIdeal.RefValue.run m g (fun c => gain_real _ _ _ (hpre c)) (fun c => weights_real _ _ _ (hpre c)),
    (θ_run _ _ _).mono (fun r h c => ?_) (Cert.InsRefIdeal.Value.run (F := Ideal) m' g')⟩
  obtain ⟨hy, hr⟩ := h c
  obtain ⟨e0, e1, e2⟩ := hin c
  rw [← e0, ← e1, ← e2]
  exact ⟨hy.trans ((val_main_v29_eq (F := Ideal) _ _).trans (v29 _ _ _)), hr⟩

end Cert.InsRefIdeal.RefValue

end
-- ==== Proof.MosY.lean ====
/- The same for the sample batch's call: one step of the expert sum on extended reals: the two experts of the step, each a gated two-layer product weighed by
   the token's combine weight, added to the accumulator. -/
module

public import proofs.«01_k».proof.Proof.Spec
public import proofs.«01_k».proof.Proof.Gen.MosIdeal.Value
public import Idealize.ShloMosaic.Lib.TwoAxisContraction

@[expose] public section

set_option maxRecDepth 16384

noncomputable section

open Idealize.ShloMosaic Idealize.ShloMosaic.TcCoe Idealize.SL.Sem
open Idealize.ShloMosaic.Pipeline (Dat)

namespace Cert.MosIdeal.Val

open Cert.MosIdeal Cert.MosIdeal.Gen

/-- A hidden unit of an expert for one token: the gate product through its own logistic, times the up product, times the
    token's combine weight. -/
def hid (x wg wu : Fin 1024 → EReal) (g : EReal) : EReal :=
  (∑ k, x k * wg k) * Ideal.logistic (∑ k, x k * wg k) * (∑ k, x k * wu k) * g

/-- The hidden units of the expert numbered by the word `e`. -/
def hidV (e : BitVec 32) (x1 : Vec Ideal S32x1024 .bf16) (x2 : Vec Ideal S32x128 .f32) (w : Vec Ideal S1x1024x512 .bf16) : FVec Ideal S32x256 .bf16 :=
  let p : FVec Ideal S32x512 .f32 := matmul (φ₁ := .bf16) (φ₂ := .bf16) dot_S32x1024_S1024x512_S32x512_1_0_0_1_n_n none x1 (shapeCast S1024x512 w shapeCasts_S1x1024x512_S1024x512) (constant S32x512 .f32 0x00000000#32)
  let g : FVec Ideal S32x256 .f32 := extractStridedSlice S32x256 ![0, 0] p slices_S32x512_o0_0_S32x256
  let u : FVec Ideal S32x256 .f32 := extractStridedSlice S32x256 ![0, 256] p slices_S32x512_o0_256_S32x256
  let c : FVec Ideal S32 .f32 := multiReduction .add [1] S32 (select (cmpi .eq (iota .tc S32x128 32 [1] iota_S32x128_d1_w32) (broadcast S32x128 e)) (k0_pay4 x2) (broadcast S32x128 (Scalar.ofBits .f32 0x00000000#32))) 0x00000000#32 reduces_S32x128_S32 (.inl rfl) rfl
  truncf .bf16 (mulf (mulf (mulf g (logistic g)) u) (broadcastTo S32x256 (shapeCast S32x1 c shapeCasts_S32_S32x1) broadcasts_S32x1_S32x256)) bitsLt_bf16_f32

/-- The first expert's hidden units are these. -/
theorem pay5_eq (i : grid0.Coords) (x1 : Vec Ideal S32x1024 .bf16) (x2 : Vec Ideal S32x128 .f32) (w : Vec Ideal S1x1024x512 .bf16) :
    k0_pay5 i x1 x2 w = hidV (Scalar.addi (Scalar.muli (BitVec.ofNat 32 (i 1).val) 2#32) 0#32) x1 x2 w := rfl

/-- The two experts' hidden units side by side against the stacked down weights, added to the accumulator. -/
def accV (h1 h2 : FVec Ideal S32x256 .bf16) (x4 : Vec Ideal S2x256x1024 .bf16) (a : Vec Ideal S32x1024 .f32) : FVec Ideal S32x1024 .f32 :=
  shapeCast S32x1024 (addf a (matmul (φ₁ := .bf16) (φ₂ := .bf16) dot_S32x512_S512x1024_S32x1024_1_0_0_1_n_n none
    (concatenate S32x512 1 [⟨S32x256, h1⟩, ⟨S32x256, h2⟩] concatenates_S32x256_S32x256_S32x512_d1)
    (shapeCast S512x1024 (shapeCast S2x256x1024 x4 shapeCasts_S2x256x1024_S2x256x1024) shapeCasts_S2x256x1024_S512x1024) (constant S32x1024 .f32 0x00000000#32))) shapeCasts_S32x1024_S32x1024

/-- The second expert's are the same at the next expert, and the step adds both. -/
theorem pay1_eq (i : grid0.Coords) (x1 : Vec Ideal S32x1024 .bf16) (x2 : Vec Ideal S32x128 .f32) (h : FVec Ideal S32x256 .bf16) (w : Vec Ideal S1x1024x512 .bf16) (x4 : Vec Ideal S2x256x1024 .bf16) (acc : Vec Ideal S32x1024 .f32) :
    k0_pay1 h (k0_pay6 x1 w) (k0_pay7 i x2) x4 acc = accV h (hidV (Scalar.addi (Scalar.muli (BitVec.ofNat 32 (i 1).val) 2#32) 1#32) x1 x2 w) x4 acc := rfl

/-- A block of one expert's weights as a matrix. -/
theorem cast_w (w : S1x1024x512.Idx → EReal) (h : S1x1024x512.ShapeCasts S1024x512) : shapeCast S1024x512 w h = fun i => w (ix3 0 (i 0) (i 1)) := by
  funext i
  refine shapeCast_apply _ _ _ _ ?_
  rewrite [Shape.rowMajor_val_three, Shape.rowMajor_val_two]
  show (0 * 1024 + (i 0).val) * 512 + (i 1).val = (i 0).val * 512 + (i 1).val
  omega

/-- The stacked down weights as a matrix. -/
theorem cast_w2 (w : S2x256x1024.Idx → EReal) (h : S2x256x1024.ShapeCasts S512x1024) :
    shapeCast S512x1024 w h = fun i => w (ix3 ⟨(i 0).val / 256, by have := (i 0).isLt; have : S512x1024.size 0 = 512 := rfl; omega⟩ ⟨(i 0).val % 256, by omega⟩ (i 1)) := by
  funext i
  refine shapeCast_apply _ _ _ _ ?_
  rewrite [Shape.rowMajor_val_three, Shape.rowMajor_val_two]
  show ((i 0).val / 256 * 256 + (i 0).val % 256) * 1024 + (i 1).val = (i 0).val * 1024 + (i 1).val
  omega

/-- Column sums weighed by the test of a lane pick that lane. -/
theorem pick (e : Fin 128) (v : BitVec 32) (hv : v = BitVec.ofNat 32 e.val) (x : Fin 128 → EReal) :
    (∑ l : Fin 128, if IntOp.cmpi .eq (BitVec.ofNat 32 l.val) v = 1#1 then x l else 0) = x e := by
  subst hv
  rw [Finset.sum_eq_single e]
  · rw [if_pos (by simp [IntOp.cmpi])]
  · intro l _ hl
    rw [if_neg]
    intro hc
    apply hl
    have hb : BitVec.ofNat 32 l.val = BitVec.ofNat 32 e.val := by
      by_contra hne
      have hf : (BitVec.ofNat 32 l.val == BitVec.ofNat 32 e.val) = false := beq_false_of_ne hne
      simp [IntOp.cmpi, hf] at hc
    have h2 := congrArg BitVec.toNat hb
    simp only [BitVec.toNat_ofNat] at h2
    have := l.isLt
    have := e.isLt
    apply Fin.ext
    omega
  · intro h; exact absurd (Finset.mem_univ e) h

/-- A hidden unit of the step. -/
theorem hidV_apply (e : Fin 128) (v : BitVec 32) (hv : v = BitVec.ofNat 32 e.val) (x1 : Vec Ideal S32x1024 .bf16) (x2 : Vec Ideal S32x128 .f32) (w : Vec Ideal S1x1024x512 .bf16) (r : Fin 32) (f : Fin 256) :
    hidV v x1 x2 w (ix2 r f) = hid (fun k => x1 (ix2 r k)) (fun k => w (ix3 0 k ⟨f.val, by omega⟩)) (fun k => w (ix3 0 k ⟨256 + f.val, by omega⟩)) (x2 (ix2 r e)) := by
  unfold hidV k0_pay4
  rw [cast_w]
  dsimp only
  pointwise [dot_S32x1024_S1024x512_S32x512_1_0_0_1_n_n]
  rw [show (∑ x : Fin 128, Scalar.select (IntOp.cmpi CmpIPredicate.eq (BitVec.ofNat 32 x.val) v) (x2 (ix2 r x)) 0) = x2 (ix2 r e) from
    pick e v hv fun l => x2 (ix2 r l)]
  rfl

/-- What a step adds to the accumulator. -/
theorem accV_apply (h1 h2 : FVec Ideal S32x256 .bf16) (x4 : Vec Ideal S2x256x1024 .bf16) (a : Vec Ideal S32x1024 .f32) (r : Fin 32) (d : Fin 1024) :
    accV h1 h2 x4 a (ix2 r d) = a (ix2 r d) + (∑ f : Fin 256, h1 (ix2 r f) * x4 (ix3 0 f d) + ∑ f : Fin 256, h2 (ix2 r f) * x4 (ix3 1 f d)) := by
  unfold accV
  rw [shapeCast_self, cast_w2]
  generalize hH : concatenate S32x512 1 [⟨S32x256, h1⟩, ⟨S32x256, h2⟩] concatenates_S32x256_S32x256_S32x512_d1 = H
  pointwise [dot_S32x512_S512x1024_S32x1024_1_0_0_1_n_n]
  rw [show (∑ x : Fin 512, _ : EReal) = ∑ x : Fin (256 + 256), _ from rfl, Fin.sum_univ_add]
  subst hH
  congr 1
  congr 1
  · refine Finset.sum_congr rfl fun i _ => ?_
    congr 1
    · exact concatenate_pair_apply_left (t := S32x512) (s₁ := S32x256) (s₂ := S32x256) 1 h1 h2 _ (ix2 r (Fin.castAdd 256 i)) rfl (ix2 r i)
        (fun b => by match b with | ⟨0, _⟩ => rfl | ⟨1, _⟩ => rfl)
    · congr 1
      funext b
      apply Fin.ext
      match b with
      | ⟨0, _⟩ => show (Fin.castAdd 256 i).val / 256 = 0; have := i.isLt; rw [Fin.val_castAdd]; omega
      | ⟨1, _⟩ => show (Fin.castAdd 256 i).val % 256 = i.val; have := i.isLt; rw [Fin.val_castAdd]; omega
      | ⟨2, _⟩ => rfl
  · refine Finset.sum_congr rfl fun i _ => ?_
    congr 1
    · exact concatenate_pair_apply_right (t := S32x512) (s₁ := S32x256) (s₂ := S32x256) 1 h1 h2 _ (ix2 r (Fin.natAdd 256 i)) rfl rfl (ix2 r i)
        (fun b hb => by match b, hb with | ⟨0, _⟩, _ => rfl | ⟨1, _⟩, hb => exact absurd rfl hb)
        (by show i.val + 256 = (Fin.natAdd 256 i).val; rw [Fin.val_natAdd]; omega)
    · congr 1
      funext b
      apply Fin.ext
      match b with
      | ⟨0, _⟩ => show (Fin.natAdd 256 i).val / 256 = 1; have := i.isLt; rw [Fin.val_natAdd]; omega
      | ⟨1, _⟩ => show (Fin.natAdd 256 i).val % 256 = i.val; have := i.isLt; rw [Fin.val_natAdd]; omega
      | ⟨2, _⟩ => rfl

end Cert.MosIdeal.Val

end
-- ==== Proof.MosHost.lean ====
/- What the expert-and-key-sum call's expert windows hold, in terms of the arguments. -/
module

public import proofs.«01_k».proof.Proof.MosY
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MosIdeal.Val

open Cert.MosIdeal Cert.MosIdeal.Gen

/-- The one layer of the gate and up weights. -/
theorem cast_up (x : S1x16x1024x256.Idx → EReal) (h : S1x16x1024x256.ShapeCasts S16x1024x256) (e : Fin 16) (k : Fin 1024) (f : Fin 256) :
    shapeCast S16x1024x256 x h (ix3 e k f) = x (ix4 0 e k f) := by
  refine shapeCast_apply _ _ _ _ ?_
  rewrite [Shape.rowMajor_val_four, Shape.rowMajor_val_three]
  show ((0 * 16 + e.val) * 1024 + k.val) * 256 + f.val = (e.val * 1024 + k.val) * 256 + f.val
  omega

/-- The one layer of the down weights. -/
theorem cast_down (x : S1x16x256x1024.Idx → EReal) (h : S1x16x256x1024.ShapeCasts S16x256x1024) (e : Fin 16) (f : Fin 256) (d : Fin 1024) :
    shapeCast S16x256x1024 x h (ix3 e f d) = x (ix4 0 e f d) := by
  refine shapeCast_apply _ _ _ _ ?_
  rewrite [Shape.rowMajor_val_four, Shape.rowMajor_val_three]
  show ((0 * 16 + e.val) * 256 + f.val) * 1024 + d.val = (e.val * 256 + f.val) * 1024 + d.val
  omega

/-- The gain as a row. -/
theorem cast_gain (x : S1024.Idx → EReal) (h : S1024.ShapeCasts S1x1024) (k : Fin 1024) : shapeCast S1x1024 x h (ix2 0 k) = x (ix1 k) := by
  refine shapeCast_apply _ _ _ _ ?_
  rewrite [Shape.rowMajor_val_one, Shape.rowMajor_val_two]
  show k.val = 0 * 1024 + k.val
  omega

variable (m : (ℓ : Loc nD τ sig) → Buf (Elt Ideal) ℓ)

/-- The joined weights are the gate and the up weights side by side. -/
theorem V3 (c : Dev nD) : (V m c main_v3 : S16x1024x512.Idx → EReal) = concatenate S16x1024x512 2
    [⟨S16x1024x256, shapeCast S16x1024x256 (m ((c : Thread nD τ).loc main_arg3) : S1x16x1024x256.Idx → EReal) shapeCasts_S1x16x1024x256_S16x1024x256⟩,
     ⟨S16x1024x256, shapeCast S16x1024x256 (m ((c : Thread nD τ).loc main_arg4) : S1x16x1024x256.Idx → EReal) shapeCasts_S1x16x1024x256_S16x1024x256⟩]
    concatenates_S16x1024x256_S16x1024x256_S16x1024x512_d2 := by
  unfold V hostOps0 hostOps0_1 hostOps0_2
  simp only [List.flatten_cons, List.flatten_nil, List.append_nil, List.cons_append, List.nil_append]
  after_results <;> rfl

/-- A gate column of them. -/
theorem V3l (c : Dev nD) (e : Fin 16) (k : Fin 1024) (f : Fin 256) : (V m c main_v3 : S16x1024x512.Idx → EReal) (ix3 e k ⟨f.val, by omega⟩)
    = (m ((c : Thread nD τ).loc main_arg3) : S1x16x1024x256.Idx → EReal) (ix4 0 e k f) := by
  rw [V3]
  refine (concatenate_pair_apply_left (t := S16x1024x512) (s₁ := S16x1024x256) (s₂ := S16x1024x256) 2 _ _ _ (ix3 e k ⟨f.val, by omega⟩) rfl (ix3 e k f)
    (fun b => by match b with | ⟨0, _⟩ => rfl | ⟨1, _⟩ => rfl | ⟨2, _⟩ => rfl)).trans ?_
  exact cast_up _ _ e k f

/-- An up column of them. -/
theorem V3r (c : Dev nD) (e : Fin 16) (k : Fin 1024) (f : Fin 256) : (V m c main_v3 : S16x1024x512.Idx → EReal) (ix3 e k ⟨256 + f.val, by omega⟩)
    = (m ((c : Thread nD τ).loc main_arg4) : S1x16x1024x256.Idx → EReal) (ix4 0 e k f) := by
  rw [V3]
  refine (concatenate_pair_apply_right (t := S16x1024x512) (s₁ := S16x1024x256) (s₂ := S16x1024x256) 2 _ _ _ (ix3 e k ⟨256 + f.val, by omega⟩) rfl rfl (ix3 e k f)
    (fun b hb => by match b, hb with | ⟨0, _⟩, _ => rfl | ⟨1, _⟩, _ => rfl | ⟨2, _⟩, hb => exact absurd rfl hb)
    (by show f.val + 256 = 256 + f.val; omega)).trans ?_
  exact cast_up _ _ e k f

/-- The down weights the kernel reads. -/
theorem V10 (c : Dev nD) (e : Fin 16) (f : Fin 256) (d : Fin 1024) : (V m c main_v6 : S16x256x1024.Idx → EReal) (ix3 e f d)
    = (m ((c : Thread nD τ).loc main_arg5) : S1x16x256x1024.Idx → EReal) (ix4 0 e f d) := by
  have h : V m c main_v6 = (truncf (F := Ideal) .bf16 (shapeCast S16x256x1024 (m ((c : Thread nD τ).loc main_arg5)) shapeCasts_S1x16x256x1024_S16x256x1024) bitsLt_bf16_f32 : S16x256x1024.Idx → EReal) := by
    unfold V hostOps0 hostOps0_1 hostOps0_2
    simp only [List.flatten_cons, List.flatten_nil, List.append_nil, List.cons_append, List.nil_append]
    after_results <;> rfl
  rw [h]
  exact cast_down _ _ e f d

/-- The gain the kernel reads. -/
theorem V11 (c : Dev nD) (k : Fin 1024) : (V m c main_v7 : S1x1024.Idx → EReal) (ix2 0 k)
    = (m ((c : Thread nD τ).loc main_arg6) : S1024.Idx → EReal) (ix1 k) := by
  have h : V m c main_v7 = shapeCast _ (m ((c : Thread nD τ).loc main_arg6)) shapeCasts_S1024_S1x1024 := by
    unfold V hostOps0 hostOps0_1 hostOps0_2
    simp only [List.flatten_cons, List.flatten_nil, List.append_nil, List.cons_append, List.nil_append]
    after_results <;> rfl
  rw [h]
  exact cast_gain _ _ k

/-- The combine weights the kernel reads: the arguments in the first sixteen lanes. -/
theorem V8 (c : Dev nD) (T : Fin 32) (e : Fin 16) : (V m c main_v4 : S32x128.Idx → EReal) (ix2 T ⟨e.val, by omega⟩)
    = (m ((c : Thread nD τ).loc main_arg2) : S32x16.Idx → EReal) (ix2 T e) := by
  have h : V m c main_v4 = pad S32x128 ![0, 0] ![0, 112] ![0, 0] (m ((c : Thread nD τ).loc main_arg2) : S32x16.Idx → EReal) (fun _ => (FloatOps.sitofp (F := Ideal) .f32 (0#32 : BitVec 32)) : S_.Idx → EReal) pads_S32x16_S32x128_000_01120 h_S_ := by
    unfold V hostOps0 hostOps0_1 hostOps0_2
    simp only [List.flatten_cons, List.flatten_nil, List.append_nil, List.cons_append, List.nil_append]
    after_results <;> rfl
  rw [h]
  refine (pad_apply_of_inside _ _ _ _ _ _ _ _ (ix2 T e) ?_)
  intro b
  match b with
  | ⟨0, _⟩ => show T.val = 0 + T.val * (0 + 1); omega
  | ⟨1, _⟩ => show e.val = 0 + e.val * (0 + 1); omega

theorem N_M : cfg0.N = 8 := N_0
theorem tlt (t : Fin cfg0.N) : t.val < 8 := lt_of_lt_of_eq t.isLt N_0

/-- Where the blocks of the token windows lie. -/
theorem idxT : ∀ t : Fin grid0.N, cc0_transform_0 (grid0.coords t) 0 = 0 ∧ cc0_transform_0 (grid0.coords t) 1 = 0
    ∧ cc0_transform_1 (grid0.coords t) 0 = 0 ∧ cc0_transform_1 (grid0.coords t) 1 = 0
    ∧ cc0_transform_2 (grid0.coords t) 0 = 0 ∧ cc0_transform_2 (grid0.coords t) 1 = 0
    ∧ cc0_transform_6 (grid0.coords t) 0 = 0 ∧ cc0_transform_6 (grid0.coords t) 1 = 0 := by decide +kernel

/-- Where the blocks of the weight windows lie. -/
theorem idxW : ∀ t : Fin grid0.N, cc0_transform_3 (grid0.coords t) 0 = t.val % 8 ∧ cc0_transform_3 (grid0.coords t) 1 = 0 ∧ cc0_transform_3 (grid0.coords t) 2 = 0
    ∧ cc0_transform_4 (grid0.coords t) 0 = t.val % 8 ∧ cc0_transform_4 (grid0.coords t) 1 = 0 ∧ cc0_transform_4 (grid0.coords t) 2 = 0
    ∧ cc0_transform_5 (grid0.coords t) 0 = 0 ∧ cc0_transform_5 (grid0.coords t) 1 = 0 := by decide +kernel

/-- The residual rows of a tile. -/
theorem blk0 (c : Dev nD) (t : Fin cfg0.N) (r : Fin 32) (k : Fin 1024) : (iblk m c 0 t : S32x1024.Idx → EReal) (ix2 r k)
    = (m ((c : Thread nD τ).loc main_arg0) : S32x1024.Idx → EReal) (ix2 r k) := by
  refine Eq.trans ?_ (congrFun (V_main_arg0 m c) (ix2 r k))
  have hi := idxT t
  unfold iblk
  show V m c main_arg0 _ = V m c main_arg0 _
  congr 1
  funext a
  apply Fin.ext
  match a with
  | ⟨0, _⟩ => show cc0_transform_0 (grid0.coords t) 0 * 32 + 1 * r.val = r.val; rw [hi.1]; omega
  | ⟨1, _⟩ => show cc0_transform_0 (grid0.coords t) 1 * 1024 + 1 * k.val = k.val; rw [hi.2.1]; omega

/-- The normed rows of a tile. -/
theorem blk1 (c : Dev nD) (t : Fin cfg0.N) (r : Fin 32) (k : Fin 1024) : (iblk m c 1 t : S32x1024.Idx → EReal) (ix2 r k)
    = (m ((c : Thread nD τ).loc main_arg1) : S32x1024.Idx → EReal) (ix2 r k) := by
  refine Eq.trans ?_ (congrFun (V_main_arg1 m c) (ix2 r k))
  have hi := idxT t
  unfold iblk
  show V m c main_arg1 _ = V m c main_arg1 _
  congr 1
  funext a
  apply Fin.ext
  match a with
  | ⟨0, _⟩ => show cc0_transform_1 (grid0.coords t) 0 * 32 + 1 * r.val = r.val; rw [hi.2.2.1]; omega
  | ⟨1, _⟩ => show cc0_transform_1 (grid0.coords t) 1 * 1024 + 1 * k.val = k.val; rw [hi.2.2.2.1]; omega

/-- The combine weights of a tile. -/
theorem blk2 (c : Dev nD) (t : Fin cfg0.N) (r : Fin 32) (k : Fin 16) : (iblk m c 2 t : S32x128.Idx → EReal) (ix2 r ⟨k.val, by omega⟩)
    = (m ((c : Thread nD τ).loc main_arg2) : S32x16.Idx → EReal) (ix2 r k) := by
  refine Eq.trans ?_ (V8 m c r k)
  have hi := idxT t
  unfold iblk
  show V m c main_v4 _ = V m c main_v4 _
  congr 1
  funext a
  apply Fin.ext
  match a with
  | ⟨0, _⟩ => show cc0_transform_2 (grid0.coords t) 0 * 32 + 1 * r.val = r.val; rw [hi.2.2.2.2.1]; omega
  | ⟨1, _⟩ => show cc0_transform_2 (grid0.coords t) 1 * 128 + 1 * k.val = k.val; rw [hi.2.2.2.2.2.1]; omega

/-- A gate column of the two experts of a step. -/
theorem blk3l (c : Dev nD) (t : Fin cfg0.N) (e : Fin 2) (k : Fin 1024) (f : Fin 256) : (iblk m c 3 t : S2x1024x512.Idx → EReal) (ix3 e k ⟨f.val, by omega⟩)
    = (m ((c : Thread nD τ).loc main_arg3) : S1x16x1024x256.Idx → EReal) (ix4 0 ⟨2 * (t.val % 8) + e.val, by omega⟩ k f) := by
  refine Eq.trans ?_ (V3l m c ⟨2 * (t.val % 8) + e.val, by omega⟩ k f)
  have hi := idxW t
  unfold iblk
  show V m c main_v3 _ = V m c main_v3 _
  congr 1
  funext a
  apply Fin.ext
  match a with
  | ⟨0, _⟩ => show cc0_transform_3 (grid0.coords t) 0 * 2 + 1 * e.val = 2 * (t.val % 8) + e.val; rw [hi.1]; omega
  | ⟨1, _⟩ => show cc0_transform_3 (grid0.coords t) 1 * 1024 + 1 * k.val = k.val; rw [hi.2.1]; omega
  | ⟨2, _⟩ => show cc0_transform_3 (grid0.coords t) 2 * 512 + 1 * f.val = f.val; rw [hi.2.2.1]; omega

/-- An up column of the two experts of a step. -/
theorem blk3r (c : Dev nD) (t : Fin cfg0.N) (e : Fin 2) (k : Fin 1024) (f : Fin 256) : (iblk m c 3 t : S2x1024x512.Idx → EReal) (ix3 e k ⟨256 + f.val, by omega⟩)
    = (m ((c : Thread nD τ).loc main_arg4) : S1x16x1024x256.Idx → EReal) (ix4 0 ⟨2 * (t.val % 8) + e.val, by omega⟩ k f) := by
  refine Eq.trans ?_ (V3r m c ⟨2 * (t.val % 8) + e.val, by omega⟩ k f)
  have hi := idxW t
  unfold iblk
  show V m c main_v3 _ = V m c main_v3 _
  congr 1
  funext a
  apply Fin.ext
  match a with
  | ⟨0, _⟩ => show cc0_transform_3 (grid0.coords t) 0 * 2 + 1 * e.val = 2 * (t.val % 8) + e.val; rw [hi.1]; omega
  | ⟨1, _⟩ => show cc0_transform_3 (grid0.coords t) 1 * 1024 + 1 * k.val = k.val; rw [hi.2.1]; omega
  | ⟨2, _⟩ => show cc0_transform_3 (grid0.coords t) 2 * 512 + 1 * (256 + f.val) = (256 + f.val); rw [hi.2.2.1]; omega

/-- The down weights of the two experts of a step. -/
theorem blk4 (c : Dev nD) (t : Fin cfg0.N) (e : Fin 2) (f : Fin 256) (d : Fin 1024) : (iblk m c 4 t : S2x256x1024.Idx → EReal) (ix3 e f d)
    = (m ((c : Thread nD τ).loc main_arg5) : S1x16x256x1024.Idx → EReal) (ix4 0 ⟨2 * (t.val % 8) + e.val, by omega⟩ f d) := by
  refine Eq.trans ?_ (V10 m c ⟨2 * (t.val % 8) + e.val, by omega⟩ f d)
  have hi := idxW t
  unfold iblk
  show V m c main_v6 _ = V m c main_v6 _
  congr 1
  funext a
  apply Fin.ext
  match a with
  | ⟨0, _⟩ => show cc0_transform_4 (grid0.coords t) 0 * 2 + 1 * e.val = 2 * (t.val % 8) + e.val; rw [hi.2.2.2.1]; omega
  | ⟨1, _⟩ => show cc0_transform_4 (grid0.coords t) 1 * 256 + 1 * f.val = f.val; rw [hi.2.2.2.2.1]; omega
  | ⟨2, _⟩ => show cc0_transform_4 (grid0.coords t) 2 * 1024 + 1 * d.val = d.val; rw [hi.2.2.2.2.2.1]; omega

/-- The gain, at every step. -/
theorem blk5 (c : Dev nD) (t : Fin cfg0.N) (k : Fin 1024) : (iblk m c 5 t : S1x1024.Idx → EReal) (ix2 0 k)
    = (m ((c : Thread nD τ).loc main_arg6) : S1024.Idx → EReal) (ix1 k) := by
  refine Eq.trans ?_ (V11 m c k)
  have hi := idxW t
  unfold iblk
  show V m c main_v7 _ = V m c main_v7 _
  congr 1
  funext a
  apply Fin.ext
  match a with
  | ⟨0, _⟩ => show cc0_transform_5 (grid0.coords t) 0 * 1 + 1 * 0 = 0; rw [hi.2.2.2.2.2.2.1]
  | ⟨1, _⟩ => show cc0_transform_5 (grid0.coords t) 1 * 1024 + 1 * k.val = k.val; rw [hi.2.2.2.2.2.2.2]; omega

end Cert.MosIdeal.Val

end
-- ==== Proof.MosYV.lean ====
/- The expert sum the sample batch's call leaves: over the eight steps the accumulator gathers the sixteen experts, and the
   last step norms the residual rows plus the accumulator. -/
module

public import proofs.«01_k».proof.Proof.MosHost
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.MosIdeal.Val

open Cert.MosIdeal Cert.MosIdeal.Gen

/-- What expert `e` gives token `T` at coordinate `d`. -/
def expert (x : S32x1024.Idx → EReal) (g : S32x16.Idx → EReal) (w1 w3 : S1x16x1024x256.Idx → EReal) (w2 : S1x16x256x1024.Idx → EReal)
    (T : Fin 32) (e : Fin 16) (d : Fin 1024) : EReal :=
  ∑ f : Fin 256, hid (fun k => x (ix2 T k)) (fun k => w1 (ix4 0 e k f)) (fun k => w3 (ix4 0 e k f)) (g (ix2 T e)) * w2 (ix4 0 e f d)

/-- The layer's output for token `T`: the residual row plus all experts' contributions, normed. -/
def yVal (x2 x : S32x1024.Idx → EReal) (g : S32x16.Idx → EReal) (w1 w3 : S1x16x1024x256.Idx → EReal) (w2 : S1x16x256x1024.Idx → EReal) (gain : S1024.Idx → EReal) :
    S32x1024.Idx → EReal :=
  fun i => Spec.rms (fun d => x2 (ix2 (i 0) d) + ∑ e : Fin 16, expert x g w1 w3 w2 (i 0) e d) (fun d => gain (ix1 d)) (i 1)

/-- One expert's block of the step's weights. -/
theorem ld_w (x3 : Vec Ideal S2x1024x512 .bf16) (o : Fin 2) (h : ∀ a : Fin 3, (![o.val, 0, 0] : Fin 3 → Nat) a + S1x1024x512.size a ≤ S2x1024x512.size a) (k : Fin 1024) (n : Fin 512) :
    View.ld x3 (Rect.unit (s := S2x1024x512) ![o.val, 0, 0] S1x1024x512.size h) (ix3 0 k n) = x3 (ix3 o k n) := by
  refine congrArg x3 ?_
  funext a
  apply Fin.ext
  match a with
  | ⟨0, _⟩ => show o.val + 1 * 0 = o.val; omega
  | ⟨1, _⟩ => show 0 + 1 * k.val = k.val; omega
  | ⟨2, _⟩ => show 0 + 1 * n.val = n.val; omega

/-- The numbers of the two experts of a step. -/
theorem expertNos : ∀ t : Fin grid0.N, Scalar.addi (Scalar.muli (BitVec.ofNat 32 (grid0.coords t 1).val) 2#32) 0#32 = BitVec.ofNat 32 (2 * (t.val % 8) + 0)
    ∧ Scalar.addi (Scalar.muli (BitVec.ofNat 32 (grid0.coords t 1).val) 2#32) 1#32 = BitVec.ofNat 32 (2 * (t.val % 8) + 1) := by decide +kernel

/-- The last step's norm. -/
theorem out_apply (x0 a : Vec Ideal S32x1024 .f32) (g : Vec Ideal S1x1024 .f32) (r : Fin 32) (d : Fin 1024) :
    k0_pay2 x0 a g (ix2 r d) = Spec.rms (fun k => x0 (ix2 r k) + a (ix2 r k)) (fun k => g (ix2 0 k)) d := by
  unfold_payloads
  rw [shapeCast_self]
  pointwise
  rfl

/-- A tile starts from zeros. -/
theorem zero_apply (r : Fin 32) (d : Fin 1024) : k0_pay3 (F := Ideal) (ix2 r d) = 0 := by
  unfold_payloads
  rw [shapeCast_self]
  pointwise

/-- The accumulator a step leaves: what it found plus the outputs of the step's two experts. -/
def accStep (i : grid0.Coords) (x1 : Vec Ideal S32x1024 .bf16) (x2 : Vec Ideal S32x128 .f32) (x3 : Vec Ideal S2x1024x512 .bf16) (x4 : Vec Ideal S2x256x1024 .bf16) (a : Vec Ideal S32x1024 .f32) : Vec Ideal S32x1024 .f32 :=
  k0_pay1 (k0_pay5 i x1 x2 (View.ld x3 (Rect.unit (s := S2x1024x512) ![0, 0, 0] S1x1024x512.size inb_S2x1024x512_S1x1024x512_0_0_0)))
    (k0_pay6 x1 (View.ld x3 (Rect.unit (s := S2x1024x512) ![1, 0, 0] S1x1024x512.size inb_S2x1024x512_S1x1024x512_1_0_0))) (k0_pay7 i x2) x4 a

/-- A step adds its two experts' products to the accumulator. -/
theorem accStep_apply (i : grid0.Coords) (x1 : Vec Ideal S32x1024 .bf16) (x2 : Vec Ideal S32x128 .f32) (x3 : Vec Ideal S2x1024x512 .bf16) (x4 : Vec Ideal S2x256x1024 .bf16) (a : Vec Ideal S32x1024 .f32) (r : Fin 32) (d : Fin 1024) :
    accStep i x1 x2 x3 x4 a (ix2 r d) = a (ix2 r d)
      + (∑ f : Fin 256, hidV (Scalar.addi (Scalar.muli (BitVec.ofNat 32 (i 1).val) 2#32) 0#32) x1 x2 (View.ld x3 (Rect.unit (s := S2x1024x512) ![0, 0, 0] S1x1024x512.size inb_S2x1024x512_S1x1024x512_0_0_0)) (ix2 r f) * x4 (ix3 0 f d)
        + ∑ f : Fin 256, hidV (Scalar.addi (Scalar.muli (BitVec.ofNat 32 (i 1).val) 2#32) 1#32) x1 x2 (View.ld x3 (Rect.unit (s := S2x1024x512) ![1, 0, 0] S1x1024x512.size inb_S2x1024x512_S1x1024x512_1_0_0)) (ix2 r f) * x4 (ix3 1 f d)) := by
  unfold accStep
  rw [pay5_eq, pay1_eq, accV_apply]

variable (m : (ℓ : Loc nD τ sig) → Buf (Elt Ideal) ℓ)

/-- Expert `e`'s contribution from the launch's arguments. -/
def ex (c : Dev nD) (T : Fin 32) (e : Fin 16) (d : Fin 1024) : EReal :=
  expert (m ((c : Thread nD τ).loc main_arg1)) (m ((c : Thread nD τ).loc main_arg2)) (m ((c : Thread nD τ).loc main_arg3)) (m ((c : Thread nD τ).loc main_arg4)) (m ((c : Thread nD τ).loc main_arg5)) T e d

/-- The same at numbers taken into range. -/
def exN (c : Dev nD) (T : Fin 32) (e : ℕ) (d : Fin 1024) : EReal := ex m c T ⟨e % 16, by omega⟩ d

/-- The accumulator step `t` leaves over the accumulator `a`. -/
def acAt (c : Dev nD) (t : Fin cfg0.N) (a : Vec Ideal S32x1024 .f32) : Vec Ideal S32x1024 .f32 :=
  accStep (grid0.coords t) (iblk m c 1 t) (iblk m c 2 t) (iblk m c 3 t) (iblk m c 4 t) a

/-- The accumulator step `t` starts from. -/
def acIn (c : Dev nD) (t : Fin cfg0.N) : Vec Ideal S32x1024 .f32 :=
  if t.val % 8 = 0 then k0_pay3 (F := Ideal) else (outsAt0 m c (t.val - 1) (Nat.lt_of_le_of_lt (Nat.sub_le _ _) t.isLt)).2

/-- The accumulator after step `t`. -/
theorem outs_acc (c : Dev nD) (t : Fin cfg0.N) : (outsAt0 m c t.val t.isLt).2 = acAt m c t (acIn m c t) := by
  unfold acAt acIn accStep
  by_cases h0 : t.val % 8 = 0
  · have h1 : ¬t.val % 8 = 7 := by omega
    rw [if_pos h0, outsAt0_A m c t h0 h1]
    frame_out
    try rfl
  · rw [if_neg h0]
    by_cases h1 : t.val % 8 = 7
    · rw [outsAt0_C m c t h0 h1]
      frame_out
      exact congrArg (k0_pay1 _ _ _ _) (Memref.IsWhole.read_unread _ _)
    · rw [outsAt0_B m c t h0 h1]
      frame_out
      exact congrArg (k0_pay1 _ _ _ _) (Memref.IsWhole.read_unread _ _)

/-- The output after a last step. -/
theorem outs_out (c : Dev nD) (t : Fin cfg0.N) (h1 : t.val % 8 = 7) : (outsAt0 m c t.val t.isLt).1 = k0_pay2 (iblk m c 0 t) (acAt m c t (acIn m c t)) (iblk m c 5 t) := by
  have h0 : ¬t.val % 8 = 0 := by omega
  unfold acAt acIn accStep
  rw [if_neg h0, outsAt0_C m c t h0 h1]
  frame_out
  refine congrArg (fun a => k0_pay2 (iblk m c 0 t) a (iblk m c 5 t)) ?_
  refine congrArg (k0_pay1 _ _ _ _) ?_
  exact Memref.IsWhole.read_unread _ _

/-- The normed rows of a step's tile. -/
def B1 (c : Dev nD) (t : Fin cfg0.N) : Vec Ideal S32x1024 .bf16 := iblk m c 1 t

/-- The combine weights of a step's tile. -/
def B2 (c : Dev nD) (t : Fin cfg0.N) : Vec Ideal S32x128 .f32 := iblk m c 2 t

/-- The joined weights of a step's experts. -/
def B3 (c : Dev nD) (t : Fin cfg0.N) : Vec Ideal S2x1024x512 .bf16 := iblk m c 3 t

/-- The down weights of a step's experts. -/
def B4 (c : Dev nD) (t : Fin cfg0.N) : Vec Ideal S2x256x1024 .bf16 := iblk m c 4 t

/-- One expert of a step: its block's hidden units against its down weights are its contribution. -/
theorem one_apply (c : Dev nD) (t : Fin cfg0.N) (o : Fin 2) (v : BitVec 32) (hv : v = BitVec.ofNat 32 (2 * (t.val % 8) + o.val))
    (h : ∀ a : Fin 3, (![o.val, 0, 0] : Fin 3 → Nat) a + S1x1024x512.size a ≤ S2x1024x512.size a) (r : Fin 32) (d : Fin 1024) :
    ∑ f : Fin 256, hidV v (B1 m c t) (B2 m c t) (View.ld (B3 m c t) (Rect.unit (s := S2x1024x512) ![o.val, 0, 0] S1x1024x512.size h)) (ix2 r f)
        * B4 m c t (ix3 o f d)
      = exN m c r (2 * (t.val % 8) + o.val) d := by
  have ht := tlt t
  have he : (⟨(2 * (t.val % 8) + o.val) % 16, by omega⟩ : Fin 16) = ⟨2 * (t.val % 8) + o.val, by omega⟩ := Fin.ext (Nat.mod_eq_of_lt (by omega))
  unfold exN ex expert
  rw [he]
  refine Finset.sum_congr rfl fun f _ => ?_
  rw [hidV_apply ⟨2 * (t.val % 8) + o.val, by omega⟩ v hv]
  refine congrArg₂ (· * ·) ?_ (blk4 m c t o f d)
  have e1 : ∀ k : Fin 1024, B1 m c t (ix2 r k) = _ := fun k => blk1 m c t r k
  have e2 : B2 m c t (ix2 r ⟨2 * (t.val % 8) + o.val, by omega⟩) = _ := blk2 m c t r ⟨2 * (t.val % 8) + o.val, by omega⟩
  have e3 : ∀ k : Fin 1024, View.ld (B3 m c t) (Rect.unit (s := S2x1024x512) ![o.val, 0, 0] S1x1024x512.size h) (ix3 0 k ⟨f.val, by omega⟩) = _ :=
    fun k => (ld_w _ o h k ⟨f.val, by omega⟩).trans (blk3l m c t o k f)
  have e4 : ∀ k : Fin 1024, View.ld (B3 m c t) (Rect.unit (s := S2x1024x512) ![o.val, 0, 0] S1x1024x512.size h) (ix3 0 k ⟨256 + f.val, by omega⟩) = _ :=
    fun k => (ld_w _ o h k ⟨256 + f.val, by omega⟩).trans (blk3r m c t o k f)
  simp only [e1, e2, e3, e4]

/-- A step adds its two experts' contributions. -/
theorem acc_apply (c : Dev nD) (t : Fin cfg0.N) (a : Vec Ideal S32x1024 .f32) (r : Fin 32) (d : Fin 1024) :
    acAt m c t a (ix2 r d) = a (ix2 r d) + (exN m c r (2 * (t.val % 8)) d + exN m c r (2 * (t.val % 8) + 1) d) := by
  refine (accStep_apply (grid0.coords t) (B1 m c t) (B2 m c t) (B3 m c t) (B4 m c t) a r d).trans ?_
  have hN := expertNos t
  exact congrArg (a (ix2 r d) + ·) (congrArg₂ (· + ·) (one_apply m c t 0 _ hN.1 _ r d) (one_apply m c t 1 _ hN.2 _ r d))

/-- After step `n` the accumulator holds the contributions of the tile's experts so far. -/
theorem acc_eq (c : Dev nD) (r : Fin 32) (d : Fin 1024) : ∀ (n : ℕ) (hn : n < cfg0.N), (outsAt0 m c n hn).2 (ix2 r d)
    = ∑ s ∈ Finset.range (n % 8 + 1), (exN m c r (2 * s) d + exN m c r (2 * s + 1) d) := by
  intro n
  induction n with
  | zero =>
    intro hn
    refine (congrFun (outs_acc m c ⟨0, hn⟩) (ix2 r d)).trans ?_
    rw [acc_apply]
    unfold acIn
    rw [if_pos (show (⟨0, hn⟩ : Fin cfg0.N).val % 8 = 0 from rfl), zero_apply, zero_add, Finset.sum_range_one]
    rfl
  | succ n ih =>
    intro hn
    refine (congrFun (outs_acc m c ⟨n + 1, hn⟩) (ix2 r d)).trans ?_
    rw [acc_apply]
    unfold acIn
    by_cases h : (n + 1) % 8 = 0
    · rw [if_pos h, zero_apply, zero_add]
      show exN m c r (2 * ((n + 1) % 8)) d + exN m c r (2 * ((n + 1) % 8) + 1) d = _
      rw [h, Finset.sum_range_one]
    · rw [if_neg h]
      show (outsAt0 m c n _).2 (ix2 r d) + (exN m c r (2 * ((n + 1) % 8)) d + exN m c r (2 * ((n + 1) % 8) + 1) d) = _
      rw [ih, Finset.sum_range_succ _ ((n + 1) % 8), show n % 8 + 1 = (n + 1) % 8 by omega]

/-- Terms by twos. -/
theorem sum_twos (g : ℕ → EReal) : ∀ n : ℕ, ∑ s ∈ Finset.range n, (g (2 * s) + g (2 * s + 1)) = ∑ e ∈ Finset.range (2 * n), g e := by
  intro n
  induction n with
  | zero => rfl
  | succ n ih => rw [Finset.sum_range_succ, ih, show 2 * (n + 1) = 2 * n + 1 + 1 by ring, Finset.sum_range_succ, Finset.sum_range_succ, add_assoc]

/-- After a tile's last step the accumulator holds all sixteen. -/
theorem acc_last (c : Dev nD) (t : Fin cfg0.N) (h : t.val % 8 = 7) (r : Fin 32) (d : Fin 1024) : (outsAt0 m c t.val t.isLt).2 (ix2 r d)
    = ∑ e : Fin 16, ex m c r e d := by
  have ht := tlt t
  rw [acc_eq, h, sum_twos (fun e => exN m c r e d) 8, Finset.sum_range]
  refine Finset.sum_congr rfl fun e _ => ?_
  show exN m c r e.val d = _
  unfold exN
  rw [show (⟨e.val % 16, by omega⟩ : Fin 16) = e from Fin.ext (Nat.mod_eq_of_lt e.isLt)]

/-- The output tile of a last step. -/
theorem y_apply (c : Dev nD) (t : Fin cfg0.N) (h : t.val % 8 = 7) (r : Fin 32) (d : Fin 1024) : (outsAt0 m c t.val t.isLt).1 (ix2 r d)
    = yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (ix2 r d) := by
  have ha : ∀ k : Fin 1024, acAt m c t (acIn m c t) (ix2 r k) = _ := fun k =>
    (congrFun (outs_acc m c t) (ix2 r k)).symm.trans (acc_last m c t h r k)
  rw [outs_out m c t h]
  refine (out_apply (iblk m c 0 t) (acAt m c t (acIn m c t)) (iblk m c 5 t) r d).trans ?_
  have e0 : ∀ k : Fin 1024, (iblk m c 0 t : S32x1024.Idx → EReal) (ix2 r k) = _ := fun k => blk0 m c t r k
  have e5 : ∀ k : Fin 1024, (iblk m c 5 t : S1x1024.Idx → EReal) (ix2 0 k) = _ := fun k => blk5 m c t k
  simp only [ha, e0, e5]
  rfl

/-- What a last step writes back is its tile of the output. -/
theorem flushed6 (c : Dev nD) (t : Fin cfg0.N) (h : (cfg0.win 6).flush t = true) : (dats m 0 c).flushed 6 t = ((cfg0.win 6).blk t).view.read (Elt Ideal)
    (yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S32x1024.Idx → EReal) := by
  have h7 : t.val % 8 = 7 := (flush0_6 t).1 h
  have hi := idxT t
  have ht := tlt t
  show (cfg0.win 6).cut (grid0.coords t) ((dats m 0 c).after 6 t) = _
  rw [after0_6]
  refine funext fun (j : S32x1024.Idx) => ?_
  obtain ⟨r, d, rfl⟩ : ∃ (r : Fin 32) (d : Fin 1024), j = (ix2 r d : S32x1024.Idx) := ⟨j 0, j 1, by funext a; match a with | ⟨0, _⟩ => rfl | ⟨1, _⟩ => rfl⟩
  refine (y_apply m c t h7 r d).trans ?_
  show yVal _ _ _ _ _ _ _ _ = yVal _ _ _ _ _ _ _ _
  congr 1
  funext a
  apply Fin.ext
  match a with
  | ⟨0, _⟩ => show r.val = cc0_transform_6 (grid0.coords t) 0 * 32 + 1 * r.val; rw [hi.2.2.2.2.2.2.1]; omega
  | ⟨1, _⟩ => show d.val = cc0_transform_6 (grid0.coords t) 1 * 1024 + 1 * d.val; rw [hi.2.2.2.2.2.2.2]; omega

/-- The tiles of the output tile it. -/
theorem cover6 (i : S32x1024.Idx) : ∃ t : Fin cfg0.N, (cfg0.win 6).flush t = true ∧ i ∈ ((cfg0.win 6).blk t).view.set := by
  have h0 : (i 0).val < 32 := (i 0).isLt
  have h1 : (i 1).val < 1024 := (i 1).isLt
  obtain ⟨t, ht⟩ : ∃ t : Fin cfg0.N, t.val = 7 := ⟨⟨7, by rw [show cfg0.N = 8 from N_0]; omega⟩, rfl⟩
  refine ⟨t, (flush0_6 t).2 (by omega), ?_⟩
  have hi := idxT t
  refine (Finset.ext_iff.1 (View.set_slice_whole main_v8 ((cfg0.win 6).rect t)) i).2 ?_
  refine Rect.mem_set_unit.2 ?_
  intro a
  match a with
  | ⟨0, _⟩ => show cc0_transform_6 (grid0.coords t) 0 * 32 ≤ (i 0).val ∧ (i 0).val < cc0_transform_6 (grid0.coords t) 0 * 32 + 32; rw [hi.2.2.2.2.2.2.1]; omega
  | ⟨1, _⟩ => show cc0_transform_6 (grid0.coords t) 1 * 1024 ≤ (i 1).val ∧ (i 1).val < cc0_transform_6 (grid0.coords t) 1 * 1024 + 1024; rw [hi.2.2.2.2.2.2.2]; omega

/-- The output array at the end. -/
theorem y_array (c : Dev nD) : (dats m 0 c).arrAt 6 cfg0.N
    = (yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S32x1024.Idx → EReal) :=
  (dats m 0 c).arrAt_eq_of_cover 6 _ (fun t h => flushed6 m c t h) cover6

end Cert.MosIdeal.Val

end
-- ==== Proof.MosRefY.lean ====
/- The reference's expert sum is the same mathematics: the two-axis contraction over experts and hidden units is a sum
   of the experts' contributions. -/
module

public import proofs.«01_k».proof.Proof.MosYV
public import proofs.«01_k».proof.Proof.Gen.MosRefIdeal.Run
public import proofs.«01_k».proof.Proof.Gen.MosRefIdeal.Read
public import Idealize.ShloMosaic.Lib.TwoAxisContraction
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.MosRefIdeal.RefValue

open Cert.MosRefIdeal Cert.MosRefIdeal.Gen Cert.MosRefIdeal.Read
open Cert.MosIdeal.Val (hid expert yVal)

variable (x0 : S32x1024.Idx → EReal) (x1 : S32x1024.Idx → EReal) (x2 : S32x16.Idx → EReal) (x3 x4 : S1x16x1024x256.Idx → EReal) (x5 : S1x16x256x1024.Idx → EReal) (x6 : S1024.Idx → EReal)

/-- A coordinate of the contraction's left index. -/
theorem lhs11_0 (i : S32x1024.Idx) (q : dot_S32x16x256_S16x256x1024_S32x1024_12_01_0_2_n_n.contr.Idx) : (dot_S32x16x256_S16x256x1024_S32x1024_12_01_0_2_n_n.lhsIdx i q 0).val = (i 0).val := by
  unfold DotDims.lhsIdx
  rw [dif_neg (show ¬(0 : Fin S32x16x256.rank) ∈ dot_S32x16x256_S16x256x1024_S32x1024_12_01_0_2_n_n.lhsBatch by decide), dif_pos (show (0 : Fin S32x16x256.rank) ∈ dot_S32x16x256_S16x256x1024_S32x1024_12_01_0_2_n_n.lhsNonContracting by decide)]
  rfl

/-- The expert of the left index. -/
theorem lhs11_1 (i : S32x1024.Idx) (q : dot_S32x16x256_S16x256x1024_S32x1024_12_01_0_2_n_n.contr.Idx) : (dot_S32x16x256_S16x256x1024_S32x1024_12_01_0_2_n_n.lhsIdx i q 1).val = (q ⟨0, by decide⟩).val := by
  unfold DotDims.lhsIdx
  rw [dif_neg (show ¬(1 : Fin S32x16x256.rank) ∈ dot_S32x16x256_S16x256x1024_S32x1024_12_01_0_2_n_n.lhsBatch by decide), dif_neg (show ¬(1 : Fin S32x16x256.rank) ∈ dot_S32x16x256_S16x256x1024_S32x1024_12_01_0_2_n_n.lhsNonContracting by decide)]
  rfl

/-- The hidden unit of the left index. -/
theorem lhs11_2 (i : S32x1024.Idx) (q : dot_S32x16x256_S16x256x1024_S32x1024_12_01_0_2_n_n.contr.Idx) : (dot_S32x16x256_S16x256x1024_S32x1024_12_01_0_2_n_n.lhsIdx i q 2).val = (q ⟨1, by decide⟩).val := by
  unfold DotDims.lhsIdx
  rw [dif_neg (show ¬(2 : Fin S32x16x256.rank) ∈ dot_S32x16x256_S16x256x1024_S32x1024_12_01_0_2_n_n.lhsBatch by decide), dif_neg (show ¬(2 : Fin S32x16x256.rank) ∈ dot_S32x16x256_S16x256x1024_S32x1024_12_01_0_2_n_n.lhsNonContracting by decide)]
  rfl

/-- The expert of the right index. -/
theorem rhs11_0 (i : S32x1024.Idx) (q : dot_S32x16x256_S16x256x1024_S32x1024_12_01_0_2_n_n.contr.Idx) : (dot_S32x16x256_S16x256x1024_S32x1024_12_01_0_2_n_n.rhsIdx i q 0).val = (q ⟨0, by decide⟩).val := by
  unfold DotDims.rhsIdx
  rw [dif_neg (show ¬(0 : Fin S16x256x1024.rank) ∈ dot_S32x16x256_S16x256x1024_S32x1024_12_01_0_2_n_n.rhsBatch by decide), dif_neg (show ¬(0 : Fin S16x256x1024.rank) ∈ dot_S32x16x256_S16x256x1024_S32x1024_12_01_0_2_n_n.rhsNonContracting by decide)]
  rfl

/-- The hidden unit of the right index. -/
theorem rhs11_1 (i : S32x1024.Idx) (q : dot_S32x16x256_S16x256x1024_S32x1024_12_01_0_2_n_n.contr.Idx) : (dot_S32x16x256_S16x256x1024_S32x1024_12_01_0_2_n_n.rhsIdx i q 1).val = (q ⟨1, by decide⟩).val := by
  unfold DotDims.rhsIdx
  rw [dif_neg (show ¬(1 : Fin S16x256x1024.rank) ∈ dot_S32x16x256_S16x256x1024_S32x1024_12_01_0_2_n_n.rhsBatch by decide), dif_neg (show ¬(1 : Fin S16x256x1024.rank) ∈ dot_S32x16x256_S16x256x1024_S32x1024_12_01_0_2_n_n.rhsNonContracting by decide)]
  rfl

/-- The output coordinate of the right index. -/
theorem rhs11_2 (i : S32x1024.Idx) (q : dot_S32x16x256_S16x256x1024_S32x1024_12_01_0_2_n_n.contr.Idx) : (dot_S32x16x256_S16x256x1024_S32x1024_12_01_0_2_n_n.rhsIdx i q 2).val = (i 1).val := by
  unfold DotDims.rhsIdx
  rw [dif_neg (show ¬(2 : Fin S16x256x1024.rank) ∈ dot_S32x16x256_S16x256x1024_S32x1024_12_01_0_2_n_n.rhsBatch by decide), dif_pos (show (2 : Fin S16x256x1024.rank) ∈ dot_S32x16x256_S16x256x1024_S32x1024_12_01_0_2_n_n.rhsNonContracting by decide)]
  rfl

/-- The contraction over experts and hidden units is the iterated sum. -/
theorem v11_sum (T : Fin 32) (d : Fin 1024) : val_main_v11 (F := Ideal) x1 x2 x3 x4 x5 (ix2 T d)
    = ∑ e : Fin 16, ∑ f : Fin 256, val_main_v9 (F := Ideal) x1 x2 x3 x4 (ix3 T e f) * val_main_v10 (F := Ideal) x5 (ix3 e f d) := by
  unfold val_main_v11
  generalize val_main_v9 (F := Ideal) x1 x2 x3 x4 = y0
  generalize val_main_v10 (F := Ideal) x5 = y1
  simp only [Host.dotGeneral]
  rw [Ideal.dotGeneral_apply, ValueIdx.sum_contr2 dot_S32x16x256_S16x256x1024_S32x1024_12_01_0_2_n_n 16 256 rfl rfl rfl]
  refine Finset.sum_congr rfl fun e _ => Finset.sum_congr rfl fun f _ => ?_
  have h0 := ValueIdx.contrEquiv2_symm_val0 dot_S32x16x256_S16x256x1024_S32x1024_12_01_0_2_n_n 16 256 rfl rfl rfl (e, f)
  have h1 := ValueIdx.contrEquiv2_symm_val1 dot_S32x16x256_S16x256x1024_S32x1024_12_01_0_2_n_n 16 256 rfl rfl rfl (e, f)
  refine congrArg₂ (· * ·) (congrArg y0 (funext fun a => Fin.ext ?_)) (congrArg y1 (funext fun a => Fin.ext ?_))
  · match a with
    | ⟨0, _⟩ => exact lhs11_0 _ _
    | ⟨1, _⟩ => exact (lhs11_1 _ _).trans h0
    | ⟨2, _⟩ => exact (lhs11_2 _ _).trans h1
  · match a with
    | ⟨0, _⟩ => exact (rhs11_0 _ _).trans h0
    | ⟨1, _⟩ => exact (rhs11_1 _ _).trans h1
    | ⟨2, _⟩ => exact rhs11_2 _ _

/-- The gate product. -/
theorem v2_at (T : Fin 32) (e : Fin 16) (f : Fin 256) : val_main_v2 (F := Ideal) x1 x3 (ix3 T e f) = ∑ k : Fin 1024, x1 (ix2 T k) * x3 (ix4 0 e k f) := by
  rw [val_main_v2_apply]
  refine Finset.sum_congr rfl fun k _ => ?_
  rw [val_main_v1_apply]
  refine congrArg₂ (· * ·) (congrArg x1 (funext fun a => by match a with | ⟨0, _⟩ => rfl | ⟨1, _⟩ => rfl)) (congrArg x3 (funext fun a => Fin.ext ?_))
  have he := e.isLt
  have hf := f.isLt
  have hk := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The up product. -/
theorem v5_at (T : Fin 32) (e : Fin 16) (f : Fin 256) : val_main_v5 (F := Ideal) x1 x4 (ix3 T e f) = ∑ k : Fin 1024, x1 (ix2 T k) * x4 (ix4 0 e k f) := by
  rw [val_main_v5_apply]
  refine Finset.sum_congr rfl fun k _ => ?_
  rw [val_main_v4_apply]
  refine congrArg₂ (· * ·) (congrArg x1 (funext fun a => by match a with | ⟨0, _⟩ => rfl | ⟨1, _⟩ => rfl)) (congrArg x4 (funext fun a => Fin.ext ?_))
  have he := e.isLt
  have hf := f.isLt
  have hk := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The down weights. -/
theorem v10_at (e : Fin 16) (f : Fin 256) (d : Fin 1024) : val_main_v10 (F := Ideal) x5 (ix3 e f d) = x5 (ix4 0 e f d) := by
  rw [val_main_v10_apply]
  refine congrArg x5 (funext fun a => Fin.ext ?_)
  have he := e.isLt
  have hf := f.isLt
  have hd := d.isLt
  match a with
  | ⟨0, _⟩ => rfl
  | ⟨1, _⟩ => show ((e.val * 256 + f.val) * 1024 + d.val) / 262144 % 16 = e.val; omega
  | ⟨2, _⟩ => show ((e.val * 256 + f.val) * 1024 + d.val) / 1024 % 256 = f.val; omega
  | ⟨3, _⟩ => show ((e.val * 256 + f.val) * 1024 + d.val) % 1024 = d.val; omega

/-- A hidden unit. -/
theorem v9_at (T : Fin 32) (e : Fin 16) (f : Fin 256) : val_main_v9 (F := Ideal) x1 x2 x3 x4 (ix3 T e f)
    = hid (fun k => x1 (ix2 T k)) (fun k => x3 (ix4 0 e k f)) (fun k => x4 (ix4 0 e k f)) (x2 (ix2 T e)) := by
  rw [val_main_v9_apply, val_main_v6_apply, val_main_v3_apply, val_main_v8_apply, val_main_v7_apply, v5_at]
  rw [val_main_call0_v5_apply, val_main_call0_v3_apply, val_main_call0_v1_apply, val_main_call0_v0_apply, val_main_call0_v2_apply, val_main_call0_v4_apply, val_main_call0_cst_apply, val_main_call0_cst_0_apply, v2_at]
  have h1 : (FloatOps.ofBits (F := Ideal) FTy.f32 1065353216#32 : EReal) = 1 := Ideal.ofBits_one_f32
  have hi : idx_main_v7 (idx_main_v8 (ix3 T e f)) = ix2 T e := by
    funext a
    match a with
    | ⟨0, _⟩ => rfl
    | ⟨1, _⟩ => rfl
  rw [h1, hi]
  unfold hid
  rfl

/-- The expert sum. -/
theorem v11_at (T : Fin 32) (d : Fin 1024) : val_main_v11 (F := Ideal) x1 x2 x3 x4 x5 (ix2 T d) = ∑ e : Fin 16, expert x1 x2 x3 x4 x5 T e d := by
  rw [v11_sum]
  refine Finset.sum_congr rfl fun e _ => Finset.sum_congr rfl fun f _ => ?_
  rw [v9_at, v10_at]

/-- The reference's output. -/
theorem v25 : val_main_v25 (F := Ideal) x0 x1 x2 x3 x4 x5 x6 = yVal x0 x1 x2 x3 x4 x5 x6 := by
  funext i
  obtain ⟨T, d, rfl⟩ : ∃ (T : Fin 32) (d : Fin 1024), i = ix2 T d := ⟨i 0, i 1, by funext a; match a with | ⟨0, _⟩ => rfl | ⟨1, _⟩ => rfl⟩
  pointwise [val_main_v25, val_main_v24, val_main_v23, val_main_v22, val_main_v21, val_main_v20, val_main_v19, val_main_v18, val_main_v17, val_main_v16, val_main_v15, val_main_v14, val_main_v13, val_main_v12, val_main_cst, val_main_cst_0, val_main_cst_1]
  unfold yVal
  simp only [v11_at]
  rfl

end Cert.MosRefIdeal.RefValue

end
-- ==== Proof.MosVal.lean ====
/- The sample batch's expert sum: the kernel's run leaves the layer's output, and the reference leaves the same. -/
module

public import proofs.«01_k».proof.Defs
public import proofs.«01_k».proof.Proof.MosRefY
public import proofs.«01_k».proof.Proof.Gen.MosIdeal.Value

@[expose] public section

noncomputable section

open Idealize.ShloMosaic Idealize.ShloMosaic.TcCoe Idealize.SL.Sem
open Idealize.ShloMosaic.Pipeline (Dat)

namespace Cert.MosIdeal.Val

open Cert.MosIdeal Cert.MosIdeal.Gen

variable (m : (ℓ : Loc nD τ sig) → Buf (Elt Ideal) ℓ) (ρ : Dev nD → PrngReg)

/-- The kernel's run: its output is the layer's output for the sample rows, the arguments unchanged. -/
theorem run : θ_run defs (onTc (τ := τ) (main (F := Ideal))) ⟨m, fun _ => 0, ρ⟩ fun r => ∀ c : Dev nD,
      r.2.mem ((c : Thread nD τ).loc main_v8)
        = (yVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S32x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (y_array m c), (h c).2⟩) (Value.run_blocks m ρ)

end Cert.MosIdeal.Val

namespace Cert.MosRefIdeal.RefValue

open Cert.MosRefIdeal Cert.MosRefIdeal.Gen Cert.MosRefIdeal.Read

/-- The two programs' outputs agree, whatever the arguments. -/
theorem algebraic : Cert.algebraic_MosIdeal_MosRefIdeal := by
  intro m g m' g' _ hin
  refine ⟨_, Cert.MosIdeal.Val.run m g, (θ_run _ _ _).mono (fun r h c => ?_) (Cert.MosRefIdeal.Value.run (F := Ideal) m' g')⟩
  obtain ⟨hy, hr⟩ := h c
  obtain ⟨e0, e1, e2, e3, e4, e5, e6⟩ := hin c
  rw [← e0, ← e1, ← e2, ← e3, ← e4, ← e5, ← e6]
  exact ⟨hy.trans ((val_main_v25_eq (F := Ideal) _ _).trans (v25 _ _ _ _ _ _ _)), hr⟩

end Cert.MosRefIdeal.RefValue

end
-- ==== Proof.lean ====
/- The claims of the statement, proved: each program runs to its end, and the idealised kernels compute what their references
   compute. -/
module

public import proofs.«01_k».proof.Proof.Gen.Ins.Frame
public import proofs.«01_k».proof.Proof.Gen.InsIdeal.Frame
public import proofs.«01_k».proof.Proof.Gen.InsIdeal.Value
public import proofs.«01_k».proof.Proof.Gen.InsRefIdeal.Run
public import proofs.«01_k».proof.Proof.Gen.InsRefIdeal.Read
public import proofs.«01_k».proof.Proof.Gen.Mos.Frame
public import proofs.«01_k».proof.Proof.Gen.MosIdeal.Frame
public import proofs.«01_k».proof.Proof.Gen.MosIdeal.Value
public import proofs.«01_k».proof.Proof.Gen.MosRefIdeal.Run
public import proofs.«01_k».proof.Proof.Gen.MosRefIdeal.Read
public import proofs.«01_k».proof.Proof.Gen.Pre_proj_ok
public import proofs.«01_k».proof.Proof.Gen.Moe
public import proofs.«01_k».proof.Proof.Gen.MoeIdeal
public import proofs.«01_k».proof.Proof.Gen.MoeRefIdeal.Run
public import proofs.«01_k».proof.Proof.Gen.MoeRefIdeal.Read
public import proofs.«01_k».proof.Proof.Gen.Inp.Frame
public import proofs.«01_k».proof.Proof.Gen.InpIdeal.Value
public import proofs.«01_k».proof.Proof.Gen.InpRefIdeal.Run
public import proofs.«01_k».proof.Proof.Gen.InpRefIdeal.Read
public import proofs.«01_k».proof.Proof.Gen.Mkv.Frame
public import proofs.«01_k».proof.Proof.Gen.MkvIdeal.Value
public import proofs.«01_k».proof.Proof.Gen.MkvRefIdeal.Run
public import proofs.«01_k».proof.Proof.Gen.MkvRefIdeal.Read
public import proofs.«01_k».proof.Proof.Gen.Pre_pages_ok
public import proofs.«01_k».proof.Proof.PreKeys
public import proofs.«01_k».proof.Proof.MoeOk
public import proofs.«01_k».proof.Proof.MoeFrame
public import proofs.«01_k».proof.Proof.MoeBits
public import proofs.«01_k».proof.Proof.Inp
public import proofs.«01_k».proof.Proof.Mkv
public import proofs.«01_k».proof.Proof.MoeVal
public import proofs.«01_k».proof.Proof.InsVal
public import proofs.«01_k».proof.Proof.MosVal
public import proofs.«01_k».proof.Defs
public import Idealize.ShloMosaic.Adequacy
public import Idealize.ShloMosaic.Init

@[expose] public section

noncomputable section

namespace Cert.Proof

open Idealize.ShloMosaic Idealize.SL.Sem Cert.Moe

/-- Every claim of the certificate. -/
theorem claim : Cert.Claim := ⟨Cert.Moe.Gen.facts, Cert.MoeIdeal.Gen.facts, Cert.MoeRefIdeal.Gen.facts, Cert.Inp.Gen.facts, Cert.InpIdeal.Gen.facts, Cert.InpRefIdeal.Gen.facts, Cert.Mkv.Gen.facts, Cert.MkvIdeal.Gen.facts, Cert.MkvRefIdeal.Gen.facts, Cert.Ins.Gen.facts, Cert.InsIdeal.Gen.facts, Cert.InsRefIdeal.Gen.facts, Cert.Mos.Gen.facts, Cert.MosIdeal.Gen.facts, Cert.MosRefIdeal.Gen.facts, Cert.Pre_pages_ok.Gen.facts, Cert.Pre_keys_ok.Own.facts, Cert.Pre_proj_ok.Gen.facts,
  Cert.Moe.Bits.frame,
  fun m ρ h => Cert.MoeIdeal.Body.frame m ρ (Cert.MoeIdeal.Body.ok_pages m h),
  fun m ρ h => Cert.MoeIdeal.Body.frame m ρ (Cert.MoeIdeal.Val.ok_keys m h),
  fun m ρ _ => (θ_run Cert.MoeRefIdeal.defs _ _).mono (fun r h => ⟨fun c => (h c).2.2, Idealize.ShloMosaic.sem_eq_zero_of_no_sems (by decide) r.2⟩) (Cert.MoeRefIdeal.Value.run (F := Ideal) m ρ),
  fun m ρ _ => (θ_run Cert.MoeRefIdeal.defs _ _).mono (fun r h => ⟨fun c => (h c).2.2, Idealize.ShloMosaic.sem_eq_zero_of_no_sems (by decide) r.2⟩) (Cert.MoeRefIdeal.Value.run (F := Ideal) m ρ),
  fun m ρ _ => Cert.Inp.Gen.frame m ρ,
  fun m ρ _ => Cert.InpIdeal.Gen.frame m ρ,
  fun m ρ _ => (θ_run Cert.InpRefIdeal.defs _ _).mono (fun r h => ⟨fun c => (h c).2.2.2.2.2.2.2.2, Idealize.ShloMosaic.sem_eq_zero_of_no_sems (by decide) r.2⟩) (Cert.InpRefIdeal.Value.run (F := Ideal) m ρ),
  fun m ρ _ => Cert.Mkv.Gen.frame m ρ,
  fun m ρ _ => Cert.MkvIdeal.Gen.frame m ρ,
  fun m ρ _ => (θ_run Cert.MkvRefIdeal.defs _ _).mono (fun r h => ⟨fun c => (h c).2.2, Idealize.ShloMosaic.sem_eq_zero_of_no_sems (by decide) r.2⟩) (Cert.MkvRefIdeal.Value.run (F := Ideal) m ρ),
  fun m ρ _ => Cert.Ins.Gen.frame m ρ,
  fun m ρ _ => Cert.InsIdeal.Gen.frame m ρ,
  fun m ρ _ => Cert.InsIdeal.Gen.frame m ρ,
  fun m ρ _ => (θ_run Cert.InsRefIdeal.defs _ _).mono (fun r h => ⟨fun c => (h c).2, Idealize.ShloMosaic.sem_eq_zero_of_no_sems (by decide) r.2⟩) (Cert.InsRefIdeal.Value.run (F := Ideal) m ρ),
  fun m ρ _ => (θ_run Cert.InsRefIdeal.defs _ _).mono (fun r h => ⟨fun c => (h c).2, Idealize.ShloMosaic.sem_eq_zero_of_no_sems (by decide) r.2⟩) (Cert.InsRefIdeal.Value.run (F := Ideal) m ρ),
  fun m ρ _ => Cert.Mos.Gen.frame m ρ,
  fun m ρ _ => Cert.MosIdeal.Gen.frame m ρ,
  fun m ρ _ => (θ_run Cert.MosRefIdeal.defs _ _).mono (fun r h => ⟨fun c => (h c).2, Idealize.ShloMosaic.sem_eq_zero_of_no_sems (by decide) r.2⟩) (Cert.MosRefIdeal.Value.run (F := Ideal) m ρ),
  trivial,
  Cert.MoeRefIdeal.RefValue.algebraic,
  trivial,
  Cert.InpRefIdeal.RefValue.algebraic,
  trivial,
  Cert.MkvRefIdeal.RefValue.algebraic,
  trivial,
  Cert.InsRefIdeal.RefValue.algebraic,
  trivial,
  Cert.MosRefIdeal.RefValue.algebraic⟩

end Cert.Proof

end
